-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_RnnIn (m : (ℓ : Loc Cert.RnnIn.nD Cert.RnnIn.τ Cert.RnnIn.sig) → Buf (Elt Bits) ℓ) : Prop :=
  True

def Pre_RnnInIdeal (m : (ℓ : Loc Cert.RnnInIdeal.nD Cert.RnnInIdeal.τ Cert.RnnInIdeal.sig) → Buf (Elt Ideal) ℓ) : Prop :=
  True

def Pre_RnnInRefIdeal (m : (ℓ : Loc Cert.RnnInRefIdeal.nD Cert.RnnInRefIdeal.τ Cert.RnnInRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_qk_finite [hPre_qk_finite : Cert.Pre_qk_finite.Facts] (m : (ℓ : Loc Cert.AttnIdeal.nD Cert.AttnIdeal.τ Cert.AttnIdeal.sig) → Buf (Elt Ideal) ℓ) : Prop :=
  ∀ c : Dev Cert.AttnIdeal.nD,
    (Cert.Pre_qk_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_qk_finite [hPre_qk_finite : Cert.Pre_qk_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_qk_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_Rnn (m : (ℓ : Loc Cert.Rnn.nD Cert.Rnn.τ Cert.Rnn.sig) → Buf (Elt Bits) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_RnnIn [hRnnIn : Cert.RnnIn.Facts] : Prop :=
  ∀ (m : (ℓ : Loc Cert.RnnIn.nD Cert.RnnIn.τ Cert.RnnIn.sig) → Buf (Elt Bits) ℓ) (g : Dev Cert.RnnIn.nD → PrngReg), Pre_RnnIn m →
    θ_run (Cert.RnnIn.defs (F := Bits)) (onTc (τ := Cert.RnnIn.τ) (Cert.RnnIn.main (F := Bits))) ⟨m, fun _ => 0, g⟩ (fun r => (∀ c : Dev Cert.RnnIn.nD,
      r.2.mem ((c.tc : Thread Cert.RnnIn.nD Cert.RnnIn.τ).loc Cert.RnnIn.main_arg0) = m ((c.tc : Thread Cert.RnnIn.nD Cert.RnnIn.τ).loc Cert.RnnIn.main_arg0)
      ∧ r.2.mem ((c.tc : Thread Cert.RnnIn.nD Cert.RnnIn.τ).loc Cert.RnnIn.main_arg1) = m ((c.tc : Thread Cert.RnnIn.nD Cert.RnnIn.τ).loc Cert.RnnIn.main_arg1))
      ∧ r.2.sem = fun _ => 0)

def quiescent_RnnInIdeal [hRnnInIdeal : Cert.RnnInIdeal.Facts] : Prop :=
  ∀ (m : (ℓ : Loc Cert.RnnInIdeal.nD Cert.RnnInIdeal.τ Cert.RnnInIdeal.sig) → Buf (Elt Ideal) ℓ) (g : Dev Cert.RnnInIdeal.nD → PrngReg), Pre_RnnInIdeal m →
    θ_run (Cert.RnnInIdeal.defs (F := Ideal)) (onTc (τ := Cert.RnnInIdeal.τ) (Cert.RnnInIdeal.main (F := Ideal))) ⟨m, fun _ => 0, g⟩ (fun r => (∀ c : Dev Cert.RnnInIdeal.nD,
      r.2.mem ((c.tc : Thread Cert.RnnInIdeal.nD Cert.RnnInIdeal.τ).loc Cert.RnnInIdeal.main_arg0) = m ((c.tc : Thread Cert.RnnInIdeal.nD Cert.RnnInIdeal.τ).loc Cert.RnnInIdeal.main_arg0)
      ∧ r.2.mem ((c.tc : Thread Cert.RnnInIdeal.nD Cert.RnnInIdeal.τ).loc Cert.RnnInIdeal.main_arg1) = m ((c.tc : Thread Cert.RnnInIdeal.nD Cert.RnnInIdeal.τ).loc Cert.RnnInIdeal.main_arg1))
      ∧ r.2.sem = fun _ => 0)

def quiescent_RnnInRefIdeal [hRnnInRefIdeal : Cert.RnnInRefIdeal.Facts] : Prop :=
  ∀ (m : (ℓ : Loc Cert.RnnInRefIdeal.nD Cert.RnnInRefIdeal.τ Cert.RnnInRefIdeal.sig) → Buf (Elt Ideal) ℓ) (g : Dev Cert.RnnInRefIdeal.nD → PrngReg), Pre_RnnInRefIdeal m →
    θ_run (Cert.RnnInRefIdeal.defs (F := Ideal)) (onTc (τ := Cert.RnnInRefIdeal.τ) (Cert.RnnInRefIdeal.main (F := Ideal))) ⟨m, fun _ => 0, g⟩ (fun r => (∀ c : Dev Cert.RnnInRefIdeal.nD,
      r.2.mem ((c.tc : Thread Cert.RnnInRefIdeal.nD Cert.RnnInRefIdeal.τ).loc Cert.RnnInRefIdeal.main_arg0) = m ((c.tc : Thread Cert.RnnInRefIdeal.nD Cert.RnnInRefIdeal.τ).loc Cert.RnnInRefIdeal.main_arg0)
      ∧ r.2.mem ((c.tc : Thread Cert.RnnInRefIdeal.nD Cert.RnnInRefIdeal.τ).loc Cert.RnnInRefIdeal.main_arg1) = m ((c.tc : Thread Cert.RnnInRefIdeal.nD Cert.RnnInRefIdeal.τ).loc Cert.RnnInRefIdeal.main_arg1))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1)
      ∧ r.2.mem ((c.tc : Thread Cert.Qk.nD Cert.Qk.τ).loc Cert.Qk.main_arg2) = m ((c.tc : Thread Cert.Qk.nD Cert.Qk.τ).loc Cert.Qk.main_arg2)
      ∧ r.2.mem ((c.tc : Thread Cert.Qk.nD Cert.Qk.τ).loc Cert.Qk.main_arg3) = m ((c.tc : Thread Cert.Qk.nD Cert.Qk.τ).loc Cert.Qk.main_arg3)
      ∧ r.2.mem ((c.tc : Thread Cert.Qk.nD Cert.Qk.τ).loc Cert.Qk.main_arg4) = m ((c.tc : Thread Cert.Qk.nD Cert.Qk.τ).loc Cert.Qk.main_arg4)
      ∧ r.2.mem ((c.tc : Thread Cert.Qk.nD Cert.Qk.τ).loc Cert.Qk.main_arg5) = m ((c.tc : Thread Cert.Qk.nD Cert.Qk.τ).loc Cert.Qk.main_arg5))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
      ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
      ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
      ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
      ∧ r.2.mem ((c.tc : Thread Cert.QkIdeal.nD Cert.QkIdeal.τ).loc Cert.QkIdeal.main_arg5) = m ((c.tc : Thread Cert.QkIdeal.nD Cert.QkIdeal.τ).loc Cert.QkIdeal.main_arg5))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1)
      ∧ r.2.mem ((c.tc : Thread Cert.ValRefIdeal.nD Cert.ValRefIdeal.τ).loc Cert.ValRefIdeal.main_arg2) = m ((c.tc : Thread Cert.ValRefIdeal.nD Cert.ValRefIdeal.τ).loc Cert.ValRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_qk_finite [hAttnIdeal : Cert.AttnIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_qk_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_qk_finite [hAttnRefIdeal : Cert.AttnRefIdeal.Facts] [hPre_qk_finite : Cert.Pre_qk_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_qk_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Rnn [hRnn : Cert.Rnn.Facts] : Prop :=
  ∀ (m : (ℓ : Loc Cert.Rnn.nD Cert.Rnn.τ Cert.Rnn.sig) → Buf (Elt Bits) ℓ) (g : Dev Cert.Rnn.nD → PrngReg), Pre_Rnn m →
    θ_run (Cert.Rnn.defs (F := Bits)) (onTc (τ := Cert.Rnn.τ) (Cert.Rnn.main (F := Bits))) ⟨m, fun _ => 0, g⟩ (fun r => (∀ c : Dev Cert.Rnn.nD,
      r.2.mem ((c.tc : Thread Cert.Rnn.nD Cert.Rnn.τ).loc Cert.Rnn.main_arg0) = m ((c.tc : Thread Cert.Rnn.nD Cert.Rnn.τ).loc Cert.Rnn.main_arg0)
      ∧ r.2.mem ((c.tc : Thread Cert.Rnn.nD Cert.Rnn.τ).loc Cert.Rnn.main_arg1) = m ((c.tc : Thread Cert.Rnn.nD Cert.Rnn.τ).loc Cert.Rnn.main_arg1)
      ∧ r.2.mem ((c.tc : Thread Cert.Rnn.nD Cert.Rnn.τ).loc Cert.Rnn.main_arg2) = m ((c.tc : Thread Cert.Rnn.nD Cert.Rnn.τ).loc Cert.Rnn.main_arg2)
      ∧ r.2.mem ((c.tc : Thread Cert.Rnn.nD Cert.Rnn.τ).loc Cert.Rnn.main_arg3) = m ((c.tc : Thread Cert.Rnn.nD Cert.Rnn.τ).loc Cert.Rnn.main_arg3)
      ∧ r.2.mem ((c.tc : Thread Cert.Rnn.nD Cert.Rnn.τ).loc Cert.Rnn.main_arg4) = m ((c.tc : Thread Cert.Rnn.nD Cert.Rnn.τ).loc Cert.Rnn.main_arg4)
      ∧ r.2.mem ((c.tc : Thread Cert.Rnn.nD Cert.Rnn.τ).loc Cert.Rnn.main_arg5) = m ((c.tc : Thread Cert.Rnn.nD Cert.Rnn.τ).loc Cert.Rnn.main_arg5)
      ∧ r.2.mem ((c.tc : Thread Cert.Rnn.nD Cert.Rnn.τ).loc Cert.Rnn.main_arg6) = m ((c.tc : Thread Cert.Rnn.nD Cert.Rnn.τ).loc Cert.Rnn.main_arg6)
      ∧ r.2.mem ((c.tc : Thread Cert.Rnn.nD Cert.Rnn.τ).loc Cert.Rnn.main_arg7) = m ((c.tc : Thread Cert.Rnn.nD Cert.Rnn.τ).loc Cert.Rnn.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v9) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v12) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v3) = v0 c
          ∧ r.2.mem ((c.tc : Thread Cert.OprojRefIdeal.nD Cert.OprojRefIdeal.τ).loc Cert.OprojRefIdeal.main_v17) = v1 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v1) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v23) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_RnnIn_RnnInIdeal : Prop :=
  True

def algebraic_RnnInIdeal_RnnInRefIdeal [hRnnInIdeal : Cert.RnnInIdeal.Facts] [hRnnInRefIdeal : Cert.RnnInRefIdeal.Facts] : Prop :=
  ∀ (m : (ℓ : Loc Cert.RnnInIdeal.nD Cert.RnnInIdeal.τ Cert.RnnInIdeal.sig) → Buf (Elt Ideal) ℓ) (g : Dev Cert.RnnInIdeal.nD → PrngReg)
    (m' : (ℓ : Loc Cert.RnnInRefIdeal.nD Cert.RnnInRefIdeal.τ Cert.RnnInRefIdeal.sig) → Buf (Elt Ideal) ℓ) (g' : Dev Cert.RnnInRefIdeal.nD → PrngReg), Pre_RnnInIdeal m →
    (∀ c : Dev Cert.RnnInIdeal.nD,
      m' ((c.tc : Thread Cert.RnnInRefIdeal.nD Cert.RnnInRefIdeal.τ).loc Cert.RnnInRefIdeal.main_arg0) = m ((c.tc : Thread Cert.RnnInIdeal.nD Cert.RnnInIdeal.τ).loc Cert.RnnInIdeal.main_arg0)
      ∧ m' ((c.tc : Thread Cert.RnnInRefIdeal.nD Cert.RnnInRefIdeal.τ).loc Cert.RnnInRefIdeal.main_arg1) = m ((c.tc : Thread Cert.RnnInIdeal.nD Cert.RnnInIdeal.τ).loc Cert.RnnInIdeal.main_arg1)) →
    ∃ (v0 : (c : Dev Cert.RnnInIdeal.nD) → Buf (Elt Ideal) ((c.tc : Thread Cert.RnnInIdeal.nD Cert.RnnInIdeal.τ).loc Cert.RnnInIdeal.main_v0)),
      θ_run (Cert.RnnInIdeal.defs (F := Ideal)) (onTc (τ := Cert.RnnInIdeal.τ) (Cert.RnnInIdeal.main (F := Ideal))) ⟨m, fun _ => 0, g⟩ (fun r => ∀ c : Dev Cert.RnnInIdeal.nD,
          r.2.mem ((c.tc : Thread Cert.RnnInIdeal.nD Cert.RnnInIdeal.τ).loc Cert.RnnInIdeal.main_v0) = v0 c
          ∧ r.2.mem ((c.tc : Thread Cert.RnnInIdeal.nD Cert.RnnInIdeal.τ).loc Cert.RnnInIdeal.main_arg0) = m ((c.tc : Thread Cert.RnnInIdeal.nD Cert.RnnInIdeal.τ).loc Cert.RnnInIdeal.main_arg0)
          ∧ r.2.mem ((c.tc : Thread Cert.RnnInIdeal.nD Cert.RnnInIdeal.τ).loc Cert.RnnInIdeal.main_arg1) = m ((c.tc : Thread Cert.RnnInIdeal.nD Cert.RnnInIdeal.τ).loc Cert.RnnInIdeal.main_arg1))
      ∧ θ_run (Cert.RnnInRefIdeal.defs (F := Ideal)) (onTc (τ := Cert.RnnInRefIdeal.τ) (Cert.RnnInRefIdeal.main (F := Ideal))) ⟨m', fun _ => 0, g'⟩ (fun r => ∀ c : Dev Cert.RnnInRefIdeal.nD,
          r.2.mem ((c.tc : Thread Cert.RnnInRefIdeal.nD Cert.RnnInRefIdeal.τ).loc Cert.RnnInRefIdeal.main_v22) = v0 c
          ∧ r.2.mem ((c.tc : Thread Cert.RnnInRefIdeal.nD Cert.RnnInRefIdeal.τ).loc Cert.RnnInRefIdeal.main_arg0) = m' ((c.tc : Thread Cert.RnnInRefIdeal.nD Cert.RnnInRefIdeal.τ).loc Cert.RnnInRefIdeal.main_arg0)
          ∧ r.2.mem ((c.tc : Thread Cert.RnnInRefIdeal.nD Cert.RnnInRefIdeal.τ).loc Cert.RnnInRefIdeal.main_arg1) = m' ((c.tc : Thread Cert.RnnInRefIdeal.nD Cert.RnnInRefIdeal.τ).loc Cert.RnnInRefIdeal.main_arg1))

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)
      ∧ m' ((c.tc : Thread Cert.QkRefIdeal.nD Cert.QkRefIdeal.τ).loc Cert.QkRefIdeal.main_arg2) = m ((c.tc : Thread Cert.QkIdeal.nD Cert.QkIdeal.τ).loc Cert.QkIdeal.main_arg2)
      ∧ m' ((c.tc : Thread Cert.QkRefIdeal.nD Cert.QkRefIdeal.τ).loc Cert.QkRefIdeal.main_arg3) = m ((c.tc : Thread Cert.QkIdeal.nD Cert.QkIdeal.τ).loc Cert.QkIdeal.main_arg3)
      ∧ m' ((c.tc : Thread Cert.QkRefIdeal.nD Cert.QkRefIdeal.τ).loc Cert.QkRefIdeal.main_arg4) = m ((c.tc : Thread Cert.QkIdeal.nD Cert.QkIdeal.τ).loc Cert.QkIdeal.main_arg4)
      ∧ m' ((c.tc : Thread Cert.QkRefIdeal.nD Cert.QkRefIdeal.τ).loc Cert.QkRefIdeal.main_arg5) = m ((c.tc : Thread Cert.QkIdeal.nD Cert.QkIdeal.τ).loc Cert.QkIdeal.main_arg5)) →
    ∃ (v0 : (c : Dev Cert.QkIdeal.nD) → Buf (Elt Ideal) ((c.tc : Thread Cert.QkIdeal.nD Cert.QkIdeal.τ).loc Cert.QkIdeal.main_v10_0)) (v1 : (c : Dev Cert.QkIdeal.nD) → Buf (Elt Ideal) ((c.tc : Thread Cert.QkIdeal.nD Cert.QkIdeal.τ).loc Cert.QkIdeal.main_v10_1)) (v2 : (c : Dev Cert.QkIdeal.nD) → Buf (Elt Ideal) ((c.tc : Thread Cert.QkIdeal.nD Cert.QkIdeal.τ).loc Cert.QkIdeal.main_v10_2)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v10_0) = v0 c
          ∧ r.2.mem ((c.tc : Thread Cert.QkIdeal.nD Cert.QkIdeal.τ).loc Cert.QkIdeal.main_v10_1) = v1 c
          ∧ r.2.mem ((c.tc : Thread Cert.QkIdeal.nD Cert.QkIdeal.τ).loc Cert.QkIdeal.main_v10_2) = v2 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1)
          ∧ r.2.mem ((c.tc : Thread Cert.QkIdeal.nD Cert.QkIdeal.τ).loc Cert.QkIdeal.main_arg2) = m ((c.tc : Thread Cert.QkIdeal.nD Cert.QkIdeal.τ).loc Cert.QkIdeal.main_arg2)
          ∧ r.2.mem ((c.tc : Thread Cert.QkIdeal.nD Cert.QkIdeal.τ).loc Cert.QkIdeal.main_arg3) = m ((c.tc : Thread Cert.QkIdeal.nD Cert.QkIdeal.τ).loc Cert.QkIdeal.main_arg3)
          ∧ r.2.mem ((c.tc : Thread Cert.QkIdeal.nD Cert.QkIdeal.τ).loc Cert.QkIdeal.main_arg4) = m ((c.tc : Thread Cert.QkIdeal.nD Cert.QkIdeal.τ).loc Cert.QkIdeal.main_arg4)
          ∧ r.2.mem ((c.tc : Thread Cert.QkIdeal.nD Cert.QkIdeal.τ).loc Cert.QkIdeal.main_arg5) = m ((c.tc : Thread Cert.QkIdeal.nD Cert.QkIdeal.τ).loc Cert.QkIdeal.main_arg5))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v42) = v0 c
          ∧ r.2.mem ((c.tc : Thread Cert.QkRefIdeal.nD Cert.QkRefIdeal.τ).loc Cert.QkRefIdeal.main_v43) = v1 c
          ∧ r.2.mem ((c.tc : Thread Cert.QkRefIdeal.nD Cert.QkRefIdeal.τ).loc Cert.QkRefIdeal.main_v44) = v2 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4)
          ∧ r.2.mem ((c.tc : Thread Cert.QkRefIdeal.nD Cert.QkRefIdeal.τ).loc Cert.QkRefIdeal.main_arg5) = m' ((c.tc : Thread Cert.QkRefIdeal.nD Cert.QkRefIdeal.τ).loc Cert.QkRefIdeal.main_arg5))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)
      ∧ m' ((c.tc : Thread Cert.ValRefIdeal.nD Cert.ValRefIdeal.τ).loc Cert.ValRefIdeal.main_arg2) = m ((c.tc : Thread Cert.ValIdeal.nD Cert.ValIdeal.τ).loc Cert.ValIdeal.main_arg2)) →
    ∃ (v0 : (c : Dev Cert.ValIdeal.nD) → Buf (Elt Ideal) ((c.tc : Thread Cert.ValIdeal.nD Cert.ValIdeal.τ).loc Cert.ValIdeal.main_v0_0)) (v1 : (c : Dev Cert.ValIdeal.nD) → Buf (Elt Ideal) ((c.tc : Thread Cert.ValIdeal.nD Cert.ValIdeal.τ).loc Cert.ValIdeal.main_v0_1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v0_0) = v0 c
          ∧ r.2.mem ((c.tc : Thread Cert.ValIdeal.nD Cert.ValIdeal.τ).loc Cert.ValIdeal.main_v0_1) = v1 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v9) = v0 c
          ∧ r.2.mem ((c.tc : Thread Cert.ValRefIdeal.nD Cert.ValRefIdeal.τ).loc Cert.ValRefIdeal.main_v10) = v1 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1)
          ∧ r.2.mem ((c.tc : Thread Cert.ValRefIdeal.nD Cert.ValRefIdeal.τ).loc Cert.ValRefIdeal.main_arg2) = m' ((c.tc : Thread Cert.ValRefIdeal.nD Cert.ValRefIdeal.τ).loc Cert.ValRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)) (v2 : (c : Dev Cert.GatesIdeal.nD) → Buf (Elt Ideal) ((c.tc : Thread Cert.GatesIdeal.nD Cert.GatesIdeal.τ).loc Cert.GatesIdeal.main_v0_2)) (v3 : (c : Dev Cert.GatesIdeal.nD) → Buf (Elt Ideal) ((c.tc : Thread Cert.GatesIdeal.nD Cert.GatesIdeal.τ).loc Cert.GatesIdeal.main_v0_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_v0_2) = v2 c
          ∧ r.2.mem ((c.tc : Thread Cert.GatesIdeal.nD Cert.GatesIdeal.τ).loc Cert.GatesIdeal.main_v0_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v22) = v0 c
          ∧ r.2.mem ((c.tc : Thread Cert.GatesRefIdeal.nD Cert.GatesRefIdeal.τ).loc Cert.GatesRefIdeal.main_v23) = v1 c
          ∧ r.2.mem ((c.tc : Thread Cert.GatesRefIdeal.nD Cert.GatesRefIdeal.τ).loc Cert.GatesRefIdeal.main_v24) = v2 c
          ∧ r.2.mem ((c.tc : Thread Cert.GatesRefIdeal.nD Cert.GatesRefIdeal.τ).loc Cert.GatesRefIdeal.main_v25) = v3 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_Attn_AttnIdeal : Prop :=
  IdealRules.named_const.Statement Cert.AttnIdeal.κ "linear" .f32 0x42A00000#32 ⊤
  ∧ IdealRules.named_const.Statement Cert.AttnIdeal.κ "prune" .f32 0xC2D00000#32 ⊥

def algebraic_AttnIdeal_AttnRefIdeal_pre_qk_finite [hAttnIdeal : Cert.AttnIdeal.Facts] [hAttnRefIdeal : Cert.AttnRefIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_qk_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v34) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def Claim : Prop :=
  ∃ (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hOproj : Cert.Oproj.Facts) (hOprojIdeal : Cert.OprojIdeal.Facts) (hOprojRefIdeal : Cert.OprojRefIdeal.Facts) (hPle : Cert.Ple.Facts) (hPleIdeal : Cert.PleIdeal.Facts) (hPleRefIdeal : Cert.PleRefIdeal.Facts) (hRms : Cert.Rms.Facts) (hRmsIdeal : Cert.RmsIdeal.Facts) (hRmsRefIdeal : Cert.RmsRefIdeal.Facts) (hRnnIn : Cert.RnnIn.Facts) (hRnnInIdeal : Cert.RnnInIdeal.Facts) (hRnnInRefIdeal : Cert.RnnInRefIdeal.Facts) (hQk : Cert.Qk.Facts) (hQkIdeal : Cert.QkIdeal.Facts) (hQkRefIdeal : Cert.QkRefIdeal.Facts) (hVal : Cert.Val.Facts) (hValIdeal : Cert.ValIdeal.Facts) (hValRefIdeal : Cert.ValRefIdeal.Facts) (hGates : Cert.Gates.Facts) (hGatesIdeal : Cert.GatesIdeal.Facts) (hGatesRefIdeal : Cert.GatesRefIdeal.Facts) (hAttn : Cert.Attn.Facts) (hAttnIdeal : Cert.AttnIdeal.Facts) (hAttnRefIdeal : Cert.AttnRefIdeal.Facts) (hRnn : Cert.Rnn.Facts) (hPre_qk_finite : Cert.Pre_qk_finite.Facts),
    quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Ple (hPle := hPle)
    ∧ quiescent_PleIdeal (hPleIdeal := hPleIdeal)
    ∧ quiescent_PleRefIdeal (hPleRefIdeal := hPleRefIdeal)
    ∧ quiescent_Rms (hRms := hRms)
    ∧ quiescent_RmsIdeal (hRmsIdeal := hRmsIdeal)
    ∧ quiescent_RmsRefIdeal (hRmsRefIdeal := hRmsRefIdeal)
    ∧ quiescent_RnnIn (hRnnIn := hRnnIn)
    ∧ quiescent_RnnInIdeal (hRnnInIdeal := hRnnInIdeal)
    ∧ quiescent_RnnInRefIdeal (hRnnInRefIdeal := hRnnInRefIdeal)
    ∧ quiescent_Qk (hQk := hQk)
    ∧ quiescent_QkIdeal (hQkIdeal := hQkIdeal)
    ∧ quiescent_QkRefIdeal (hQkRefIdeal := hQkRefIdeal)
    ∧ quiescent_Val (hVal := hVal)
    ∧ quiescent_ValIdeal (hValIdeal := hValIdeal)
    ∧ quiescent_ValRefIdeal (hValRefIdeal := hValRefIdeal)
    ∧ quiescent_Gates (hGates := hGates)
    ∧ quiescent_GatesIdeal (hGatesIdeal := hGatesIdeal)
    ∧ quiescent_GatesRefIdeal (hGatesRefIdeal := hGatesRefIdeal)
    ∧ quiescent_Attn (hAttn := hAttn)
    ∧ quiescent_AttnIdeal (hAttnIdeal := hAttnIdeal)
    ∧ quiescent_AttnIdeal_pre_qk_finite (hAttnIdeal := hAttnIdeal) (hPre_qk_finite := hPre_qk_finite)
    ∧ quiescent_AttnRefIdeal (hAttnRefIdeal := hAttnRefIdeal)
    ∧ quiescent_AttnRefIdeal_pre_qk_finite (hAttnRefIdeal := hAttnRefIdeal) (hPre_qk_finite := hPre_qk_finite)
    ∧ quiescent_Rnn (hRnn := hRnn)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Oproj_OprojIdeal
    ∧ algebraic_OprojIdeal_OprojRefIdeal (hOprojIdeal := hOprojIdeal) (hOprojRefIdeal := hOprojRefIdeal)
    ∧ preserves_Ple_PleIdeal
    ∧ algebraic_PleIdeal_PleRefIdeal (hPleIdeal := hPleIdeal) (hPleRefIdeal := hPleRefIdeal)
    ∧ preserves_Rms_RmsIdeal
    ∧ algebraic_RmsIdeal_RmsRefIdeal (hRmsIdeal := hRmsIdeal) (hRmsRefIdeal := hRmsRefIdeal)
    ∧ preserves_RnnIn_RnnInIdeal
    ∧ algebraic_RnnInIdeal_RnnInRefIdeal (hRnnInIdeal := hRnnInIdeal) (hRnnInRefIdeal := hRnnInRefIdeal)
    ∧ preserves_Qk_QkIdeal
    ∧ algebraic_QkIdeal_QkRefIdeal (hQkIdeal := hQkIdeal) (hQkRefIdeal := hQkRefIdeal)
    ∧ preserves_Val_ValIdeal
    ∧ algebraic_ValIdeal_ValRefIdeal (hValIdeal := hValIdeal) (hValRefIdeal := hValRefIdeal)
    ∧ preserves_Gates_GatesIdeal
    ∧ algebraic_GatesIdeal_GatesRefIdeal (hGatesIdeal := hGatesIdeal) (hGatesRefIdeal := hGatesRefIdeal)
    ∧ preserves_Attn_AttnIdeal
    ∧ algebraic_AttnIdeal_AttnRefIdeal_pre_qk_finite (hAttnIdeal := hAttnIdeal) (hAttnRefIdeal := hAttnRefIdeal) (hPre_qk_finite := hPre_qk_finite)
-- ==== Pre_qk_finite.lean ====
abbrev S2x4096x4096 : Shape := ⟨3, ![2, 4096, 4096]⟩
abbrev S2x4096x2048 : Shape := ⟨3, ![2, 4096, 2048]⟩
abbrev S_ : Shape := ⟨0, ![]⟩

class Facts : Prop where
  bitsLt_bf16_f32 : FTy.bits .bf16 < FTy.bits .f32
  bcast_S_S2x4096x4096 : S_.BroadcastsInDim S2x4096x4096 (![] : Fin 0 → Fin S2x4096x4096.rank)

variable [Facts]

def fn {F : FTy → Type} [FloatOps F] (main_arg0 : FVec F S2x4096x4096 .bf16) (main_arg1 : FVec F S2x4096x2048 .bf16) : IVec S2x4096x4096 1 :=
  let main_v0 : FVec F S2x4096x4096 .f32 := (extf .f32 · bitsLt_bf16_f32) main_arg0
  let main_v1 : FVec F S2x4096x4096 .f32 := Host.absf main_v0
  let main_cst : FVec F S_ .f32 := constant S_ .f32 0x7F800000#32
  let main_v2 : FVec F S2x4096x4096 .f32 := broadcastInDim S2x4096x4096 ![] bcast_S_S2x4096x4096 main_cst
  let main_v3 : IVec S2x4096x4096 1 := cmpf .olt main_v1 main_v2
  main_v3
-- ==== Ffn.lean ====
abbrev S8192x2048 : Shape := ⟨2, ![8192, 2048]⟩
abbrev S2048x11264 : Shape := ⟨2, ![2048, 11264]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S5632x2048, .bf16⟩
  | .hbm, ⟨3, _⟩ => ⟨S8192x2048, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S5632x2048, .bf16⟩
  | .hbm, ⟨3, _⟩ => ⟨S8192x2048, .f32⟩
  | .hbm, ⟨4, _⟩ => ⟨S8192x2048, .f32⟩
  | .hbm, ⟨5, _⟩ => ⟨S2048x11264, .f32⟩
  | .hbm, ⟨6, _⟩ => ⟨S8192x11264, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S_, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S5632x2048, .f32⟩
  | .hbm, ⟨20, _⟩ => ⟨S8192x2048, .f32⟩
  | .hbm, ⟨21, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Mix.lean ====
abbrev S8192x2816 : Shape := ⟨2, ![8192, 2816]⟩
abbrev S8192x2048 : Shape := ⟨2, ![8192, 2048]⟩
abbrev S2816x2048 : Shape := ⟨2, ![2816, 2048]⟩
abbrev S2048x2048 : Shape := ⟨2, ![2048, 2048]⟩
abbrev S8192x4096 : Shape := ⟨2, ![8192, 4096]⟩
abbrev S512x2816 : Shape := ⟨2, ![512, 2816]⟩
abbrev S512x2048 : Shape := ⟨2, ![512, 2048]⟩
abbrev S256x2816 : Shape := ⟨2, ![256, 2816]⟩
abbrev S256x2048 : Shape := ⟨2, ![256, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x2048, .bf16⟩
  | .hbm, ⟨2, _⟩ => ⟨S2816x2048, .bf16⟩
  | .hbm, ⟨3, _⟩ => ⟨S2048x2048, .bf16⟩
  | .hbm, ⟨4, _⟩ => ⟨S8192x4096, .bf16⟩
  | .hbm, ⟨5, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S512x2048, .bf16⟩
  | .local _ .vmem, ⟨3, _⟩ => ⟨S512x2048, .bf16⟩
  | .local _ .vmem, ⟨4, _⟩ => ⟨S2816x2048, .bf16⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixRefIdeal.lean ====
abbrev S8192x2816 : Shape := ⟨2, ![8192, 2816]⟩
abbrev S8192x2048 : Shape := ⟨2, ![8192, 2048]⟩
abbrev S2816x2048 : Shape := ⟨2, ![2816, 2048]⟩
abbrev S2048x2048 : Shape := ⟨2, ![2048, 2048]⟩
abbrev S8192x4096 : Shape := ⟨2, ![8192, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2048, .bf16⟩
  | .hbm, ⟨2, _⟩ => ⟨S2816x2048, .bf16⟩
  | .hbm, ⟨3, _⟩ => ⟨S2048x2048, .bf16⟩
  | .hbm, ⟨4, _⟩ => ⟨S8192x4096, .bf16⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x2816, .f32⟩
  | .hbm, ⟨9, _⟩ => ⟨S2816x2048, .f32⟩
  | .hbm, ⟨10, _⟩ => ⟨S8192x2048, .f32⟩
  | .hbm, ⟨11, _⟩ => ⟨S8192x2048, .f32⟩
  | .hbm, ⟨12, _⟩ => ⟨S2048x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Oproj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OprojRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Ple.lean ====
abbrev S8192x2048 : Shape := ⟨2, ![8192, 2048]⟩
abbrev S2048 : Shape := ⟨1, ![2048]⟩
abbrev S2048x2048 : Shape := ⟨2, ![2048, 2048]⟩
abbrev S8192x256 : Shape := ⟨2, ![8192, 256]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S8192x256, .f32⟩
  | .hbm, ⟨4, _⟩ => ⟨S256x2048, .f32⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x256, .f32⟩
  | .local _ .vmem, ⟨5, _⟩ => ⟨S512x256, .f32⟩
  | .local _ .vmem, ⟨6, _⟩ => ⟨S256x2048, .f32⟩
  | .local _ .vmem, ⟨7, _⟩ => ⟨S512x2048, .f32⟩
  | .local _ .vmem, ⟨8, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PleRefIdeal.lean ====
abbrev S8192x2048 : Shape := ⟨2, ![8192, 2048]⟩
abbrev S2048 : Shape := ⟨1, ![2048]⟩
abbrev S2048x2048 : Shape := ⟨2, ![2048, 2048]⟩
abbrev S8192x256 : Shape := ⟨2, ![8192, 256]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x2048, .bf16⟩
  | .hbm, ⟨3, _⟩ => ⟨S8192x256, .f32⟩
  | .hbm, ⟨4, _⟩ => ⟨S256x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Rms.lean ====
abbrev S8192x2048 : Shape := ⟨2, ![8192, 2048]⟩
abbrev S2048 : Shape := ⟨1, ![2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== RnnIn.lean ====
abbrev S8192x2048 : Shape := ⟨2, ![8192, 2048]⟩
abbrev S2048x15872 : Shape := ⟨2, ![2048, 15872]⟩
abbrev S8192x5632 : Shape := ⟨2, ![8192, 5632]⟩
abbrev S512x2048 : Shape := ⟨2, ![512, 2048]⟩
abbrev S2048x2816 : Shape := ⟨2, ![2048, 2816]⟩
abbrev S512x2816 : Shape := ⟨2, ![512, 2816]⟩
abbrev S256x2048 : Shape := ⟨2, ![256, 2048]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S8192x5632, .f32⟩
  | .local _ .vmem, ⟨0, _⟩ => ⟨S512x2048, .bf16⟩
  | .local _ .vmem, ⟨1, _⟩ => ⟨S512x2048, .bf16⟩
  | .local _ .vmem, ⟨2, _⟩ => ⟨S2048x2816, .f32⟩
  | .local _ .vmem, ⟨3, _⟩ => ⟨S512x2816, .f32⟩
  | .local _ .vmem, ⟨4, _⟩ => ⟨S512x2816, .f32⟩
  | .local _ .vmem, ⟨5, _⟩ => ⟨S2048x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c0_i32 : BitVec 32 := 0#32
  let arg0 : BitVec 32 := BitVec.ofNat 32 (i 0).val
  let c2816_i32 : BitVec 32 := 2816#32
  let v0 : BitVec 32 := Scalar.muli arg0 c2816_i32
  let v1 : BitVec 32 := Scalar.addi c0_i32 v0
  v1
def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c1_i32 : BitVec 32 := 1#32
  let v6 : BitVec 1 := Scalar.cmpi .eq arg0 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2816_i32 : BitVec 32 := 2816#32
  let v0 : BitVec 32 := Scalar.muli arg0 c2816_i32
  let c0_i32 : BitVec 32 := 0#32
  let v1 : BitVec 32 := Scalar.addi c0_i32 v0
  let v2 : BitVec 32 := v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RnnInRefIdeal.lean ====
abbrev S8192x2048 : Shape := ⟨2, ![8192, 2048]⟩
abbrev S2048x15872 : Shape := ⟨2, ![2048, 15872]⟩
abbrev S8192x15872 : Shape := ⟨2, ![8192, 15872]⟩
abbrev S8192x2816 : Shape := ⟨2, ![8192, 2816]⟩
abbrev S_ : Shape := ⟨0, ![]⟩
abbrev S8192x5632 : Shape := ⟨2, ![8192, 5632]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S8192x2048, .f32⟩
  | .hbm, ⟨3, _⟩ => ⟨S8192x15872, .f32⟩
  | .hbm, ⟨4, _⟩ => ⟨S8192x2816, .f32⟩
  | .hbm, ⟨5, _⟩ => ⟨S8192x2816, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x5632, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Qk.lean ====
abbrev S8192x2048 : Shape := ⟨2, ![8192, 2048]⟩
abbrev S2048x15872 : Shape := ⟨2, ![2048, 15872]⟩
abbrev S128 : Shape := ⟨1, ![128]⟩
abbrev S2048x11264 : Shape := ⟨2, ![2048, 11264]⟩
abbrev S2048x2048 : Shape := ⟨2, ![2048, 2048]⟩
abbrev S_ : Shape := ⟨0, ![]⟩
abbrev S1x128 : Shape := ⟨2, ![1, 128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S8192x4096 : Shape := ⟨2, ![8192, 4096]⟩
abbrev S1024x2048 : Shape := ⟨2, ![1024, 2048]⟩
abbrev S2048x1024 : Shape := ⟨2, ![2048, 1024]⟩
abbrev S1x1024 : Shape := ⟨2, ![1, 1024]⟩
abbrev S64x11264 : Shape := ⟨2, ![64, 11264]⟩
abbrev S64x2048 : Shape := ⟨2, ![64, 2048]⟩
abbrev S1024x1024 : Shape := ⟨2, ![1024, 1024]⟩
abbrev S256x2048 : Shape := ⟨2, ![256, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S128, .f32⟩
  | .hbm, ⟨3, _⟩ => ⟨S128, .f32⟩
  | .hbm, ⟨4, _⟩ => ⟨S2048x11264, .f32⟩
  | .hbm, ⟨5, _⟩ => ⟨S2048x2048, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S4096, .f32⟩
  | .hbm, ⟨16, _⟩ => ⟨S1x4096, .f32⟩
  | .hbm, ⟨17, _⟩ => ⟨S8192x4096, .bf16⟩
  | .hbm, ⟨18, _⟩ => ⟨S2048x11264, .bf16⟩
  | .hbm, ⟨19, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S64x11264, .f32⟩
  | .local _ .vmem, ⟨7, _⟩ => ⟨S64x11264, .f32⟩
  | .local _ .vmem, ⟨8, _⟩ => ⟨S64x2048, .f32⟩
  | .local _ .vmem, ⟨9, _⟩ => ⟨S64x2048, .f32⟩
  | .local _ .vmem, ⟨10, _⟩ => ⟨S1024x1024, .bf16⟩
  | .local _ .vmem, ⟨11, _⟩ => ⟨S1024x1024, .bf16⟩
  | .local _ .vmem, ⟨12, _⟩ => ⟨S64x11264, .bf16⟩
  | .local _ .vmem, ⟨13, _⟩ => ⟨S64x11264, .bf16⟩
  | .local _ .vmem, ⟨14, _⟩ => ⟨S64x2048, .bf16⟩
  | .local _ .vmem, ⟨15, _⟩ => ⟨S64x2048, .bf16⟩
  | .local _ .vmem, ⟨16, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c5632_i32 : BitVec 32 := 5632#32
  let arg0 : BitVec 32 := BitVec.ofNat 32 (i 0).val
  let c1024_i32 : BitVec 32 := 1024#32
  let v0 : BitVec 32 := Scalar.muli arg0 c1024_i32
  let v1 : BitVec 32 := Scalar.addi c5632_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c5632_i32 : BitVec 32 := 5632#32
  let v1 : BitVec 32 := Scalar.addi c5632_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x11264 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QkRefIdeal.lean ====
abbrev S8192x2048 : Shape := ⟨2, ![8192, 2048]⟩
abbrev S2048x15872 : Shape := ⟨2, ![2048, 15872]⟩
abbrev S128 : Shape := ⟨1, ![128]⟩
abbrev S2048x11264 : Shape := ⟨2, ![2048, 11264]⟩
abbrev S2048x2048 : Shape := ⟨2, ![2048, 2048]⟩
abbrev S8192x15872 : Shape := ⟨2, ![8192, 15872]⟩
abbrev S8192x2816 : Shape := ⟨2, ![8192, 2816]⟩
abbrev S8192x16x128 : Shape := ⟨3, ![8192, 16, 128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S8192x4096 : Shape := ⟨2, ![8192, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S128, .f32⟩
  | .hbm, ⟨3, _⟩ => ⟨S128, .f32⟩
  | .hbm, ⟨4, _⟩ => ⟨S2048x11264, .f32⟩
  | .hbm, ⟨5, _⟩ => ⟨S2048x2048, .f32⟩
  | .hbm, ⟨6, _⟩ => ⟨S8192x2048, .f32⟩
  | .hbm, ⟨7, _⟩ => ⟨S8192x15872, .f32⟩
  | .hbm, ⟨8, _⟩ => ⟨S8192x2816, .f32⟩
  | .hbm, ⟨9, _⟩ => ⟨S8192x2816, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x16x128, .f32⟩
  | .hbm, ⟨16, _⟩ => ⟨S8192x16x128, .f32⟩
  | .hbm, ⟨17, _⟩ => ⟨S_, .f32⟩
  | .hbm, ⟨18, _⟩ => ⟨S8192x16, .f32⟩
  | .hbm, ⟨19, _⟩ => ⟨S8192x16x1, .f32⟩
  | .hbm, ⟨20, _⟩ => ⟨S_, .f32⟩
  | .hbm, ⟨21, _⟩ => ⟨S8192x16x1, .f32⟩
  | .hbm, ⟨22, _⟩ => ⟨S8192x16x1, .f32⟩
  | .hbm, ⟨23, _⟩ => ⟨S_, .f32⟩
  | .hbm, ⟨24, _⟩ => ⟨S8192x16x1, .f32⟩
  | .hbm, ⟨25, _⟩ => ⟨S8192x16x1, .f32⟩
  | .hbm, ⟨26, _⟩ => ⟨S8192x16x1, .f32⟩
  | .hbm, ⟨27, _⟩ => ⟨S8192x16x128, .f32⟩
  | .hbm, ⟨28, _⟩ => ⟨S8192x16x128, .f32⟩
  | .hbm, ⟨29, _⟩ => ⟨S1x1x128, .f32⟩
  | .hbm, ⟨30, _⟩ => ⟨S8192x16x128, .f32⟩
  | .hbm, ⟨31, _⟩ => ⟨S8192x16x128, .f32⟩
  | .hbm, ⟨32, _⟩ => ⟨S_, .f32⟩
  | .hbm, ⟨33, _⟩ => ⟨S8192x16x128, .f32⟩
  | .hbm, ⟨34, _⟩ => ⟨S8192x16x128, .f32⟩
  | .hbm, ⟨35, _⟩ => ⟨S8192x16x128, .f32⟩
  | .hbm, ⟨36, _⟩ => ⟨S8192x16x128, .f32⟩
  | .hbm, ⟨37, _⟩ => ⟨S_, .f32⟩
  | .hbm, ⟨38, _⟩ => ⟨S8192x16, .f32⟩
  | .hbm, ⟨39, _⟩ => ⟨S8192x16x1, .f32⟩
  | .hbm, ⟨40, _⟩ => ⟨S_, .f32⟩
  | .hbm, ⟨41, _⟩ => ⟨S8192x16x1, .f32⟩
  | .hbm, ⟨42, _⟩ => ⟨S8192x16x1, .f32⟩
  | .hbm, ⟨43, _⟩ => ⟨S_, .f32⟩
  | .hbm, ⟨44, _⟩ => ⟨S8192x16x1, .f32⟩
  | .hbm, ⟨45, _⟩ => ⟨S8192x16x1, .f32⟩
  | .hbm, ⟨46, _⟩ => ⟨S8192x16x1, .f32⟩
  | .hbm, ⟨47, _⟩ => ⟨S8192x16x128, .f32⟩
  | .hbm, ⟨48, _⟩ => ⟨S8192x16x128, .f32⟩
  | .hbm, ⟨49, _⟩ => ⟨S1x1x128, .f32⟩
  | .hbm, ⟨50, _⟩ => ⟨S8192x16x128, .f32⟩
  | .hbm, ⟨51, _⟩ => ⟨S8192x16x128, .f32⟩
  | .hbm, ⟨52, _⟩ => ⟨S8192x2048, .f32⟩
  | .hbm, ⟨53, _⟩ => ⟨S8192x2048, .f32⟩
  | .hbm, ⟨54, _⟩ => ⟨S8192x4096, .f32⟩
  | .hbm, ⟨55, _⟩ => ⟨S8192x4096, .bf16⟩
  | .hbm, ⟨56, _⟩ => ⟨S2048x11264, .bf16⟩
  | .hbm, ⟨57, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Val.lean ====
abbrev S8192x2048 : Shape := ⟨2, ![8192, 2048]⟩
abbrev S2048x15872 : Shape := ⟨2, ![2048, 15872]⟩
abbrev S2816x2048 : Shape := ⟨2, ![2816, 2048]⟩
abbrev S1024x2048 : Shape := ⟨2, ![1024, 2048]⟩
abbrev S2048x1024 : Shape := ⟨2, ![2048, 1024]⟩
abbrev S176x2048 : Shape := ⟨2, ![176, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S2816x2048, .f32⟩
  | .hbm, ⟨3, _⟩ => ⟨S8192x2048, .bf16⟩
  | .hbm, ⟨4, _⟩ => ⟨S2816x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S176x2048, .f32⟩
  | .local _ .vmem, ⟨5, _⟩ => ⟨S176x2048, .f32⟩
  | .local _ .vmem, ⟨6, _⟩ => ⟨S1024x1024, .bf16⟩
  | .local _ .vmem, ⟨7, _⟩ => ⟨S1024x1024, .bf16⟩
  | .local _ .vmem, ⟨8, _⟩ => ⟨S176x2048, .bf16⟩
  | .local _ .vmem, ⟨9, _⟩ => ⟨S176x2048, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let c9728_i32 : BitVec 32 := 9728#32
  let arg0 : BitVec 32 := BitVec.ofNat 32 (i 0).val
  let c1024_i32 : BitVec 32 := 1024#32
  let v0 : BitVec 32 := Scalar.muli arg0 c1024_i32
  let v1 : BitVec 32 := Scalar.addi c9728_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c9728_i32 : BitVec 32 := 9728#32
  let v1 : BitVec 32 := Scalar.addi c9728_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ValRefIdeal.lean ====
abbrev S8192x2048 : Shape := ⟨2, ![8192, 2048]⟩
abbrev S2048x15872 : Shape := ⟨2, ![2048, 15872]⟩
abbrev S2816x2048 : Shape := ⟨2, ![2816, 2048]⟩
abbrev S8192x15872 : Shape := ⟨2, ![8192, 15872]⟩
abbrev S8192x2816 : Shape := ⟨2, ![8192, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S2816x2048, .f32⟩
  | .hbm, ⟨3, _⟩ => ⟨S8192x2048, .f32⟩
  | .hbm, ⟨4, _⟩ => ⟨S8192x15872, .f32⟩
  | .hbm, ⟨5, _⟩ => ⟨S8192x2816, .f32⟩
  | .hbm, ⟨6, _⟩ => ⟨S8192x2816, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S2816x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Gates.lean ====
abbrev S8192x2048 : Shape := ⟨2, ![8192, 2048]⟩
abbrev S2048x15872 : Shape := ⟨2, ![2048, 15872]⟩
abbrev S5632x2048 : Shape := ⟨2, ![5632, 2048]⟩
abbrev S2048x2048 : Shape := ⟨2, ![2048, 2048]⟩
abbrev S8192x4096 : Shape := ⟨2, ![8192, 4096]⟩
abbrev S1024x2048 : Shape := ⟨2, ![1024, 2048]⟩
abbrev S2048x1024 : Shape := ⟨2, ![2048, 1024]⟩
abbrev S176x2048 : Shape := ⟨2, ![176, 2048]⟩
abbrev S64x2048 : Shape := ⟨2, ![64, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S5632x2048, .f32⟩
  | .hbm, ⟨3, _⟩ => ⟨S2048x2048, .f32⟩
  | .hbm, ⟨4, _⟩ => ⟨S2048x2048, .f32⟩
  | .hbm, ⟨5, _⟩ => ⟨S8192x4096, .bf16⟩
  | .hbm, ⟨6, _⟩ => ⟨S5632x2048, .bf16⟩
  | .hbm, ⟨7, _⟩ => ⟨S2048x2048, .bf16⟩
  | .hbm, ⟨8, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S176x2048, .f32⟩
  | .local _ .vmem, ⟨5, _⟩ => ⟨S176x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S1024x1024, .bf16⟩
  | .local _ .vmem, ⟨11, _⟩ => ⟨S1024x1024, .bf16⟩
  | .local _ .vmem, ⟨12, _⟩ => ⟨S176x2048, .bf16⟩
  | .local _ .vmem, ⟨13, _⟩ => ⟨S176x2048, .bf16⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c11776_i32 : BitVec 32 := 11776#32
  let arg0 : BitVec 32 := BitVec.ofNat 32 (i 0).val
  let c1024_i32 : BitVec 32 := 1024#32
  let v0 : BitVec 32 := Scalar.muli arg0 c1024_i32
  let v1 : BitVec 32 := Scalar.addi c11776_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c11776_i32 : BitVec 32 := 11776#32
  let v1 : BitVec 32 := Scalar.addi c11776_i32 v0
  let v2 : BitVec 32 := v1
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GatesRefIdeal.lean ====
abbrev S8192x2048 : Shape := ⟨2, ![8192, 2048]⟩
abbrev S2048x15872 : Shape := ⟨2, ![2048, 15872]⟩
abbrev S5632x2048 : Shape := ⟨2, ![5632, 2048]⟩
abbrev S2048x2048 : Shape := ⟨2, ![2048, 2048]⟩
abbrev S8192x15872 : Shape := ⟨2, ![8192, 15872]⟩
abbrev S8192x2816 : Shape := ⟨2, ![8192, 2816]⟩
abbrev S_ : Shape := ⟨0, ![]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15872, .f32⟩
  | .hbm, ⟨2, _⟩ => ⟨S5632x2048, .f32⟩
  | .hbm, ⟨3, _⟩ => ⟨S2048x2048, .f32⟩
  | .hbm, ⟨4, _⟩ => ⟨S2048x2048, .f32⟩
  | .hbm, ⟨5, _⟩ => ⟨S8192x2048, .f32⟩
  | .hbm, ⟨6, _⟩ => ⟨S8192x15872, .f32⟩
  | .hbm, ⟨7, _⟩ => ⟨S8192x2816, .f32⟩
  | .hbm, ⟨8, _⟩ => ⟨S8192x2816, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x4096, .f32⟩
  | .hbm, ⟨31, _⟩ => ⟨S8192x4096, .bf16⟩
  | .hbm, ⟨32, _⟩ => ⟨S5632x2048, .bf16⟩
  | .hbm, ⟨33, _⟩ => ⟨S2048x2048, .bf16⟩
  | .hbm, ⟨34, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Attn.lean ====
abbrev S2x4096x4096 : Shape := ⟨3, ![2, 4096, 4096]⟩
abbrev S2x4096x2048 : Shape := ⟨3, ![2, 4096, 2048]⟩
abbrev S256x256 : Shape := ⟨2, ![256, 256]⟩
abbrev S1x256x1024 : Shape := ⟨3, ![1, 256, 1024]⟩
abbrev S1x4096x1024 : Shape := ⟨3, ![1, 4096, 1024]⟩
abbrev S256x1 : Shape := ⟨2, ![256, 1]⟩
abbrev S256x128 : Shape := ⟨2, ![256, 128]⟩
abbrev S1x256x128 : Shape := ⟨3, ![1, 256, 128]⟩
abbrev S2048x256 : Shape := ⟨2, ![2048, 256]⟩
abbrev S256 : Shape := ⟨1, ![256]⟩
abbrev S1x512x128 : Shape := ⟨3, ![1, 512, 128]⟩
abbrev S512x128 : Shape := ⟨2, ![512, 128]⟩
abbrev S256x512 : Shape := ⟨2, ![256, 512]⟩
abbrev S4096x256 : Shape := ⟨2, ![4096, 256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 4
  | .vmem => 9
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x2048, .bf16⟩
  | .hbm, ⟨2, _⟩ => ⟨S256x256, .bf16⟩
  | .hbm, ⟨3, _⟩ => ⟨S2x4096x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1x4096x1024, .bf16⟩
  | .local _ .vmem, ⟨5, _⟩ => ⟨S1x4096x1024, .bf16⟩
  | .local _ .vmem, ⟨6, _⟩ => ⟨S256x256, .bf16⟩
  | .local _ .vmem, ⟨7, _⟩ => ⟨S1x256x1024, .bf16⟩
  | .local _ .vmem, ⟨8, _⟩ => ⟨S1x256x1024, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 16], ![false, false, false]⟩

def k0_cond1 (i : grid0.Coords) : BitVec 1 :=
  let arg2 : BitVec 32 := BitVec.ofNat 32 (i 2).val
  let c0_i32 : BitVec 32 := 0#32
  let v19 : BitVec 1 := Scalar.cmpi .eq arg2 c0_i32
  let v20 : BitVec 32 := Scalar.extui v19
  let c0_i32_15 : BitVec 32 := 0#32
  let v21 : BitVec 1 := Scalar.cmpi .ne v20 c0_i32_15
  v21

def k0_mult1 (i : grid0.Coords) : BitVec 32 :=
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  v97
def k0_off1 (i : grid0.Coords) : Fin 3 → Nat :=
  let c0_44 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v101 : Index := Scalar.indexCast v98
  let c0_45 : Index := 0#32
  ![0, v101.toNat, 0]
def k0_off2 (i : grid0.Coords) : Fin 3 → Nat :=
  let c0_53 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v116 : Index := Scalar.indexCast v98
  let c128_54 : Index := 128#32
  ![0, v116.toNat, 128]
def k0_off3 (i : grid0.Coords) : Fin 3 → Nat :=
  let c0_62 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v131 : Index := Scalar.indexCast v98
  let c256_63 : Index := 256#32
  ![0, v131.toNat, 256]
def k0_off4 (i : grid0.Coords) : Fin 3 → Nat :=
  let c0_71 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v146 : Index := Scalar.indexCast v98
  let c384_72 : Index := 384#32
  ![0, v146.toNat, 384]
def k0_off5 (i : grid0.Coords) : Fin 3 → Nat :=
  let c0_80 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v161 : Index := Scalar.indexCast v98
  let c512_81 : Index := 512#32
  ![0, v161.toNat, 512]
def k0_off6 (i : grid0.Coords) : Fin 3 → Nat :=
  let c0_89 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v176 : Index := Scalar.indexCast v98
  let c640_90 : Index := 640#32
  ![0, v176.toNat, 640]
def k0_off7 (i : grid0.Coords) : Fin 3 → Nat :=
  let c0_98 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v191 : Index := Scalar.indexCast v98
  let c768_99 : Index := 768#32
  ![0, v191.toNat, 768]
def k0_off8 (i : grid0.Coords) : Fin 3 → Nat :=
  let c0_107 : Index := 0#32
  let arg2 : BitVec 32 := BitVec.ofNat 32 (i 2).val
  let c0_i32_40 : BitVec 32 := 0#32
  let v96 : BitVec 32 := Scalar.subi arg2 c0_i32_40
  let c256_i32 : BitVec 32 := 256#32
  let v97 : BitVec 32 := Scalar.muli v96 c256_i32
  let v98 : BitVec 32 := v97
  let v206 : Index := Scalar.indexCast v98
  let c896_108 : Index := 896#32
  ![0, v206.toNat, 896]
def k0_mult2 (i : grid0.Coords) : BitVec 32 :=
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  v97
def k0_off9 (i : grid0.Coords) : Fin 3 → Nat :=
  let c0_43 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v101 : Index := Scalar.indexCast v98
  let c0_44 : Index := 0#32
  ![0, v101.toNat, 0]
def k0_off10 (i : grid0.Coords) : Fin 3 → Nat :=
  let c0_54 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v125 : Index := Scalar.indexCast v98
  let c128_55 : Index := 128#32
  ![0, v125.toNat, 128]
def k0_off11 (i : grid0.Coords) : Fin 3 → Nat :=
  let c0_65 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v149 : Index := Scalar.indexCast v98
  let c256_66 : Index := 256#32
  ![0, v149.toNat, 256]
def k0_off12 (i : grid0.Coords) : Fin 3 → Nat :=
  let c0_76 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v173 : Index := Scalar.indexCast v98
  let c384_77 : Index := 384#32
  ![0, v173.toNat, 384]
def k0_off13 (i : grid0.Coords) : Fin 3 → Nat :=
  let c0_87 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v197 : Index := Scalar.indexCast v98
  let c512_88 : Index := 512#32
  ![0, v197.toNat, 512]
def k0_off14 (i : grid0.Coords) : Fin 3 → Nat :=
  let c0_98 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v221 : Index := Scalar.indexCast v98
  let c640_99 : Index := 640#32
  ![0, v221.toNat, 640]
def k0_off15 (i : grid0.Coords) : Fin 3 → Nat :=
  let c0_109 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v245 : Index := Scalar.indexCast v98
  let c768_110 : Index := 768#32
  ![0, v245.toNat, 768]
def k0_off16 (i : grid0.Coords) : Fin 3 → Nat :=
  let c0_120 : Index := 0#32
  let arg2 : BitVec 32 := BitVec.ofNat 32 (i 2).val
  let c1_i32 : BitVec 32 := 1#32
  let v96 : BitVec 32 := Scalar.subi arg2 c1_i32
  let c256_i32 : BitVec 32 := 256#32
  let v97 : BitVec 32 := Scalar.muli v96 c256_i32
  let v98 : BitVec 32 := v97
  let v269 : Index := Scalar.indexCast v98
  let c896_121 : Index := 896#32
  ![0, v269.toNat, 896]
def k0_mult3 (arg8 : BitVec 32) : BitVec 32 :=
  let c0_i32_40 : BitVec 32 := 0#32
  let v96 : BitVec 32 := Scalar.subi arg8 c0_i32_40
  let c256_i32 : BitVec 32 := 256#32
  let v97 : BitVec 32 := Scalar.muli v96 c256_i32
  v97

def k0_off17 (arg8 : BitVec 32) : Fin 3 → Nat :=
  let c0_44 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v101 : Index := Scalar.indexCast v98
  let c0_45 : Index := 0#32
  ![0, v101.toNat, 0]
def k0_off18 (arg8 : BitVec 32) : Fin 3 → Nat :=
  let c0_52 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v114 : Index := Scalar.indexCast v98
  let c128_53 : Index := 128#32
  ![0, v114.toNat, 128]
def k0_off19 (arg8 : BitVec 32) : Fin 3 → Nat :=
  let c0_60 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v127 : Index := Scalar.indexCast v98
  let c256_61 : Index := 256#32
  ![0, v127.toNat, 256]
def k0_off20 (arg8 : BitVec 32) : Fin 3 → Nat :=
  let c0_68 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v140 : Index := Scalar.indexCast v98
  let c384_69 : Index := 384#32
  ![0, v140.toNat, 384]
def k0_off21 (arg8 : BitVec 32) : Fin 3 → Nat :=
  let c0_76 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v153 : Index := Scalar.indexCast v98
  let c512_77 : Index := 512#32
  ![0, v153.toNat, 512]
def k0_off22 (arg8 : BitVec 32) : Fin 3 → Nat :=
  let c0_84 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v166 : Index := Scalar.indexCast v98
  let c640_85 : Index := 640#32
  ![0, v166.toNat, 640]
def k0_off23 (arg8 : BitVec 32) : Fin 3 → Nat :=
  let c0_92 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v179 : Index := Scalar.indexCast v98
  let c768_93 : Index := 768#32
  ![0, v179.toNat, 768]
def k0_off24 (arg8 : BitVec 32) : Fin 3 → Nat :=
  let c0_100 : Index := 0#32
  let c0_i32_40 : BitVec 32 := 0#32
  let v96 : BitVec 32 := Scalar.subi arg8 c0_i32_40
  let c256_i32 : BitVec 32 := 256#32
  let v97 : BitVec 32 := Scalar.muli v96 c256_i32
  let v98 : BitVec 32 := v97
  let v192 : Index := Scalar.indexCast v98
  let c896_101 : Index := 896#32
  ![0, v192.toNat, 896]

def k0_chk1 (arg8 : BitVec 32) : Prop :=
  (256 ∣ (k0_mult3 arg8).toNat) ∧
  (∀ a, (k0_off17 arg8) a + S1x256x128.size a ≤ S1x4096x1024.size a) ∧
  (∀ a, (k0_off18 arg8) a + S1x256x128.size a ≤ S1x4096x1024.size a) ∧
  (∀ a, (k0_off19 arg8) a + S1x256x128.size a ≤ S1x4096x1024.size a) ∧
  (∀ a, (k0_off20 arg8) a + S1x256x128.size a ≤ S1x4096x1024.size a) ∧
  (∀ a, (k0_off21 arg8) a + S1x256x128.size a ≤ S1x4096x1024.size a) ∧
  (∀ a, (k0_off22 arg8) a + S1x256x128.size a ≤ S1x4096x1024.size a) ∧
  (∀ a, (k0_off23 arg8) a + S1x256x128.size a ≤ S1x4096x1024.size a) ∧
  (∀ a, (k0_off24 arg8) a + S1x256x128.size a ≤ S1x4096x1024.size a)
theorem k0_mult3_dvd : ∀ (arg8 : BitVec 32) (k0_hw1 : k0_chk1 arg8), 256 ∣ (k0_mult3 arg8).toNat := fun arg8 k0_hw1 => k0_hw1.1
theorem k0_off17_inb : ∀ (arg8 : BitVec 32) (k0_hw1 : k0_chk1 arg8), ∀ a, (k0_off17 arg8) a + S1x256x128.size a ≤ S1x4096x1024.size a := fun arg8 k0_hw1 => k0_hw1.2.1
theorem k0_off18_inb : ∀ (arg8 : BitVec 32) (k0_hw1 : k0_chk1 arg8), ∀ a, (k0_off18 arg8) a + S1x256x128.size a ≤ S1x4096x1024.size a := fun arg8 k0_hw1 => k0_hw1.2.2.1
theorem k0_off19_inb : ∀ (arg8 : BitVec 32) (k0_hw1 : k0_chk1 arg8), ∀ a, (k0_off19 arg8) a + S1x256x128.size a ≤ S1x4096x1024.size a := fun arg8 k0_hw1 => k0_hw1.2.2.2.1
theorem k0_off20_inb : ∀ (arg8 : BitVec 32) (k0_hw1 : k0_chk1 arg8), ∀ a, (k0_off20 arg8) a + S1x256x128.size a ≤ S1x4096x1024.size a := fun arg8 k0_hw1 => k0_hw1.2.2.2.2.1
theorem k0_off21_inb : ∀ (arg8 : BitVec 32) (k0_hw1 : k0_chk1 arg8), ∀ a, (k0_off21 arg8) a + S1x256x128.size a ≤ S1x4096x1024.size a := fun arg8 k0_hw1 => k0_hw1.2.2.2.2.2.1
theorem k0_off22_inb : ∀ (arg8 : BitVec 32) (k0_hw1 : k0_chk1 arg8), ∀ a, (k0_off22 arg8) a + S1x256x128.size a ≤ S1x4096x1024.size a := fun arg8 k0_hw1 => k0_hw1.2.2.2.2.2.2.1
theorem k0_off23_inb : ∀ (arg8 : BitVec 32) (k0_hw1 : k0_chk1 arg8), ∀ a, (k0_off23 arg8) a + S1x256x128.size a ≤ S1x4096x1024.size a := fun arg8 k0_hw1 => k0_hw1.2.2.2.2.2.2.2.1
theorem k0_off24_inb : ∀ (arg8 : BitVec 32) (k0_hw1 : k0_chk1 arg8), ∀ a, (k0_off24 arg8) a + S1x256x128.size a ≤ S1x4096x1024.size a := fun arg8 k0_hw1 => k0_hw1.2.2.2.2.2.2.2.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnIdeal.lean ====
variable {F : FTy → Type} [FloatOps F] [Named F]
def κ : String → Option EReal := fun
  | "linear" => some ⊤
  | "prune" => some ⊥
  | _ => none
-- ==== AttnRefIdeal.lean ====
abbrev S2x4096x4096 : Shape := ⟨3, ![2, 4096, 4096]⟩
abbrev S2x4096x2048 : Shape := ⟨3, ![2, 4096, 2048]⟩
abbrev S2x4096x16x128 : Shape := ⟨4, ![2, 4096, 16, 128]⟩
abbrev S2x16x4096x128 : Shape := ⟨4, ![2, 16, 4096, 128]⟩
abbrev S2x16x4096x4096 : Shape := ⟨4, ![2, 16, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S2x16x4096x4095 : Shape := ⟨4, ![2, 16, 4096, 4095]⟩
abbrev S2x16x4096x1 : Shape := ⟨4, ![2, 16, 4096, 1]⟩

abbrev nBuf : Space → Nat
  | .hbm => 78
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S2x4096x2048, .bf16⟩
  | .hbm, ⟨2, _⟩ => ⟨S2x4096x2048, .bf16⟩
  | .hbm, ⟨3, _⟩ => ⟨S2x4096x2048, .f32⟩
  | .hbm, ⟨4, _⟩ => ⟨S2x4096x16x128, .f32⟩
  | .hbm, ⟨5, _⟩ => ⟨S2x16x4096x128, .f32⟩
  | .hbm, ⟨6, _⟩ => ⟨S2x4096x2048, .bf16⟩
  | .hbm, ⟨7, _⟩ => ⟨S2x4096x2048, .f32⟩
  | .hbm, ⟨8, _⟩ => ⟨S2x4096x16x128, .f32⟩
  | .hbm, ⟨9, _⟩ => ⟨S2x16x4096x128, .f32⟩
  | .hbm, ⟨10, _⟩ => ⟨S2x4096x2048, .f32⟩
  | .hbm, ⟨11, _⟩ => ⟨S2x4096x16x128, .f32⟩
  | .hbm, ⟨12, _⟩ => ⟨S2x16x4096x128, .f32⟩
  | .hbm, ⟨13, _⟩ => ⟨S2x16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S2x16x4096x4096, .f32⟩
  | .hbm, ⟨22, _⟩ => ⟨S2x16x4096x4096, .f32⟩
  | .hbm, ⟨23, _⟩ => ⟨S_, .f32⟩
  | .hbm, ⟨24, _⟩ => ⟨S2x16x4096x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S2x16x4096x4096, .i1⟩
  | .hbm, ⟨29, _⟩ => ⟨S2x16x4096x4096, .f32⟩
  | .hbm, ⟨30, _⟩ => ⟨S2x16x4096x4096, .f32⟩
  | .hbm, ⟨31, _⟩ => ⟨S2x16x4096x4096, .f32⟩
  | .hbm, ⟨32, _⟩ => ⟨S2x16x4096x4096, .f32⟩
  | .hbm, ⟨33, _⟩ => ⟨S2x16x4096x4096, .f32⟩
  | .hbm, ⟨34, _⟩ => ⟨S2x16x4096x4096, .f32⟩
  | .hbm, ⟨35, _⟩ => ⟨S2x16x4096x4096, .f32⟩
  | .hbm, ⟨36, _⟩ => ⟨S2x16x4096x4096, .f32⟩
  | .hbm, ⟨37, _⟩ => ⟨S2x16x4096x4096, .f32⟩
  | .hbm, ⟨38, _⟩ => ⟨S_, .f32⟩
  | .hbm, ⟨39, _⟩ => ⟨S_, .f32⟩
  | .hbm, ⟨40, _⟩ => ⟨S2x16x4096x4096, .i1⟩
  | .hbm, ⟨41, _⟩ => ⟨S2x16x4096x4096, .f32⟩
  | .hbm, ⟨42, _⟩ => ⟨S2x16x4096x4096, .f32⟩
  | .hbm, ⟨43, _⟩ => ⟨S_, .f32⟩
  | .hbm, ⟨44, _⟩ => ⟨S_, .f32⟩
  | .hbm, ⟨45, _⟩ => ⟨S2x16x4096x4096, .f32⟩
  | .hbm, ⟨46, _⟩ => ⟨S2x16x4096x4095, .f32⟩
  | .hbm, ⟨47, _⟩ => ⟨S2x16x4096x1, .f32⟩
  | .hbm, ⟨48, _⟩ => ⟨S_, .f32⟩
  | .hbm, ⟨49, _⟩ => ⟨S2x16x4096x1, .f32⟩
  | .hbm, ⟨50, _⟩ => ⟨S2x16x4096x4096, .f32⟩
  | .hbm, ⟨51, _⟩ => ⟨S2x16x4096x4096, .f32⟩
  | .hbm, ⟨52, _⟩ => ⟨S_, .f32⟩
  | .hbm, ⟨53, _⟩ => ⟨S2x16x4096x4096, .f32⟩
  | .hbm, ⟨54, _⟩ => ⟨S2x16x4096x4096, .f32⟩
  | .hbm, ⟨55, _⟩ => ⟨S2x16x4096x4096, .f32⟩
  | .hbm, ⟨56, _⟩ => ⟨S2x16x4096x4096, .f32⟩
  | .hbm, ⟨57, _⟩ => ⟨S2x16x4096x4096, .i1⟩
  | .hbm, ⟨58, _⟩ => ⟨S2x16x4096x4096, .f32⟩
  | .hbm, ⟨59, _⟩ => ⟨S2x16x4096x4096, .f32⟩
  | .hbm, ⟨60, _⟩ => ⟨S2x16x4096x4096, .f32⟩
  | .hbm, ⟨61, _⟩ => ⟨S2x16x4096x4096, .f32⟩
  | .hbm, ⟨62, _⟩ => ⟨S2x16x4096x4096, .f32⟩
  | .hbm, ⟨63, _⟩ => ⟨S2x16x4096x4096, .f32⟩
  | .hbm, ⟨64, _⟩ => ⟨S2x16x4096x4096, .f32⟩
  | .hbm, ⟨65, _⟩ => ⟨S2x16x4096x4096, .f32⟩
  | .hbm, ⟨66, _⟩ => ⟨S2x16x4096x4096, .f32⟩
  | .hbm, ⟨67, _⟩ => ⟨S2x16x4096x4096, .f32⟩
  | .hbm, ⟨68, _⟩ => ⟨S2x16x4096x4096, .f32⟩
  | .hbm, ⟨69, _⟩ => ⟨S_, .f32⟩
  | .hbm, ⟨70, _⟩ => ⟨S_, .f32⟩
  | .hbm, ⟨71, _⟩ => ⟨S2x16x4096x4096, .i1⟩
  | .hbm, ⟨72, _⟩ => ⟨S2x16x4096x4096, .f32⟩
  | .hbm, ⟨73, _⟩ => ⟨S2x16x4096x4096, .f32⟩
  | .hbm, ⟨74, _⟩ => ⟨S2x16x4096x128, .f32⟩
  | .hbm, ⟨75, _⟩ => ⟨S2x4096x16x128, .f32⟩
  | .hbm, ⟨76, _⟩ => ⟨S2x4096x2048, .f32⟩
  | .hbm, ⟨77, _⟩ => ⟨S2x4096x2048, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v21 : Ref sig .tc := ⟨.hbm, 42, rfl⟩
abbrev main_call2_cst : Ref sig .tc := ⟨.hbm, 43, rfl⟩
abbrev main_call2_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_v26 : Ref sig .tc := ⟨.hbm, 50, rfl⟩
abbrev main_call3_v0 : Ref sig .tc := ⟨.hbm, 51, rfl⟩
abbrev main_call3_call0_cst : Ref sig .tc := ⟨.hbm, 52, rfl⟩
abbrev main_call3_call0_v0 : Ref sig .tc := ⟨.hbm, 53, rfl⟩
abbrev main_call3_call0_v1 : Ref sig .tc := ⟨.hbm, 54, rfl⟩
abbrev main_call3_call0_v2 : Ref sig .tc := ⟨.hbm, 55, rfl⟩
abbrev main_call3_call0_v3 : Ref sig .tc := ⟨.hbm, 56, rfl⟩
abbrev main_call3_call0_v4 : Ref sig .tc := ⟨.hbm, 57, rfl⟩
abbrev main_call3_call0_v5 : Ref sig .tc := ⟨.hbm, 58, rfl⟩
abbrev main_call3_call0_v6 : Ref sig .tc := ⟨.hbm, 59, rfl⟩
abbrev main_call3_call0_v7 : Ref sig .tc := ⟨.hbm, 60, rfl⟩
abbrev main_call3_call0_v8 : Ref sig .tc := ⟨.hbm, 61, rfl⟩
abbrev main_call3_call0_v9 : Ref sig .tc := ⟨.hbm, 62, rfl⟩
abbrev main_call3_call0_v10 : Ref sig .tc := ⟨.hbm, 63, rfl⟩
abbrev main_call3_call0_v11 : Ref sig .tc := ⟨.hbm, 64, rfl⟩
abbrev main_call3_v1 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_cst_1 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩

abbrev nD : Nat := 1
abbrev τ : Topo := Topo.v7x

variable {F : FTy → Type} [FloatOps F]
-- ==== Rnn.lean ====
abbrev S2x4096x5632 : Shape := ⟨3, ![2, 4096, 5632]⟩
abbrev S4x2816 : Shape := ⟨2, ![4, 2816]⟩
abbrev S2816 : Shape := ⟨1, ![2816]⟩
abbrev S16x176x176 : Shape := ⟨3, ![16, 176, 176]⟩
abbrev S1x176x128 : Shape := ⟨3, ![1, 176, 128]⟩
abbrev S176x128 : Shape := ⟨2, ![176, 128]⟩
abbrev S_ : Shape := ⟨0, ![]⟩
abbrev S512x128 : Shape := ⟨2, ![512, 128]⟩
abbrev S1x176x48 : Shape := ⟨3, ![1, 176, 48]⟩
abbrev S176x48 : Shape := ⟨2, ![176, 48]⟩
abbrev S512x48 : Shape := ⟨2, ![512, 48]⟩
abbrev S1x176x80 : Shape := ⟨3, ![1, 176, 80]⟩
abbrev S176x80 : Shape := ⟨2, ![176, 80]⟩
abbrev S512x80 : Shape := ⟨2, ![512, 80]⟩
abbrev S1x176x96 : Shape := ⟨3, ![1, 176, 96]⟩
abbrev S176x96 : Shape := ⟨2, ![176, 96]⟩
abbrev S512x96 : Shape := ⟨2, ![512, 96]⟩
abbrev S1x176x32 : Shape := ⟨3, ![1, 176, 32]⟩
abbrev S176x32 : Shape := ⟨2, ![176, 32]⟩
abbrev S512x32 : Shape := ⟨2, ![512, 32]⟩
abbrev S1x176x16 : Shape := ⟨3, ![1, 176, 16]⟩
abbrev S176x16 : Shape := ⟨2, ![176, 16]⟩
abbrev S512x16 : Shape := ⟨2, ![512, 16]⟩
abbrev S1x176x112 : Shape := ⟨3, ![1, 176, 112]⟩
abbrev S176x112 : Shape := ⟨2, ![176, 112]⟩
abbrev S512x112 : Shape := ⟨2, ![512, 112]⟩
abbrev S1x176x64 : Shape := ⟨3, ![1, 176, 64]⟩
abbrev S176x64 : Shape := ⟨2, ![176, 64]⟩
abbrev S512x64 : Shape := ⟨2, ![512, 64]⟩
abbrev S1x512x128 : Shape := ⟨3, ![1, 512, 128]⟩
abbrev S16x512x128 : Shape := ⟨3, ![16, 512, 128]⟩
abbrev S6x512x128 : Shape := ⟨3, ![6, 512, 128]⟩
abbrev S22x512x128 : Shape := ⟨3, ![22, 512, 128]⟩
abbrev S22x512x256 : Shape := ⟨3, ![22, 512, 256]⟩
abbrev S1x2816 : Shape := ⟨2, ![1, 2816]⟩
abbrev S2x4096x2816 : Shape := ⟨3, ![2, 4096, 2816]⟩
abbrev S1x256x2816 : Shape := ⟨3, ![1, 256, 2816]⟩
abbrev S8x2816 : Shape := ⟨2, ![8, 2816]⟩
abbrev S22x320x128 : Shape := ⟨3, ![22, 320, 128]⟩
abbrev S256x2816 : Shape := ⟨2, ![256, 2816]⟩
abbrev S8x128 : Shape := ⟨2, ![8, 128]⟩
abbrev S1x32x128 : Shape := ⟨3, ![1, 32, 128]⟩
abbrev S32x128 : Shape := ⟨2, ![32, 128]⟩
abbrev S1x8x128 : Shape := ⟨3, ![1, 8, 128]⟩
abbrev S1x128 : Shape := ⟨2, ![1, 128]⟩
abbrev S256x128 : Shape := ⟨2, ![256, 128]⟩
abbrev S1x8x2816 : Shape := ⟨3, ![1, 8, 2816]⟩
abbrev S256x512 : Shape := ⟨2, ![256, 512]⟩
abbrev S1x512x256 : Shape := ⟨3, ![1, 512, 256]⟩
abbrev S512x256 : Shape := ⟨2, ![512, 256]⟩
abbrev S256x256 : Shape := ⟨2, ![256, 256]⟩
abbrev S32x8x128 : Shape := ⟨3, ![32, 8, 128]⟩

abbrev nBuf : Space → Nat
  | .hbm => 453
  | .vmem => 18
  | .smem => 0
  | _ => 0

abbrev hbmTy0_0 (i : Nat) : BufTy := match i % 128 with
  | 0 => ⟨S2x4096x5632, .f32⟩
  | 1 => ⟨S4x2816, .f32⟩
  | 2 => ⟨S2816, .f32⟩
  | 3 => ⟨S16x176x176, .f32⟩
  | 4 => ⟨S2816, .f32⟩
  | 5 => ⟨S16x176x176, .f32⟩
  | 6 => ⟨S2816, .f32⟩
  | 7 => ⟨S2816, .f32⟩
  | 8 => ⟨S1x176x128, .f32⟩
  | 9 => ⟨S176x128, .f32⟩
  | 10 => ⟨S_, .i32⟩
  | 11 => ⟨S_, .f32⟩
  | 12 => ⟨S512x128, .f32⟩
  | 13 => ⟨S1x176x48, .f32⟩
  | 14 => ⟨S176x48, .f32⟩
  | 15 => ⟨S_, .i32⟩
  | 16 => ⟨S_, .f32⟩
  | 17 => ⟨S512x48, .f32⟩
  | 18 => ⟨S1x176x80, .f32⟩
  | 19 => ⟨S176x80, .f32⟩
  | 20 => ⟨S_, .i32⟩
  | 21 => ⟨S_, .f32⟩
  | 22 => ⟨S512x80, .f32⟩
  | 23 => ⟨S512x128, .f32⟩
  | 24 => ⟨S1x176x96, .f32⟩
  | 25 => ⟨S176x96, .f32⟩
  | 26 => ⟨S_, .i32⟩
  | 27 => ⟨S_, .f32⟩
  | 28 => ⟨S512x96, .f32⟩
  | 29 => ⟨S1x176x32, .f32⟩
  | 30 => ⟨S176x32, .f32⟩
  | 31 => ⟨S_, .i32⟩
  | 32 => ⟨S_, .f32⟩
  | 33 => ⟨S512x32, .f32⟩
  | 34 => ⟨S512x128, .f32⟩
  | 35 => ⟨S1x176x128, .f32⟩
  | 36 => ⟨S176x128, .f32⟩
  | 37 => ⟨S_, .i32⟩
  | 38 => ⟨S_, .f32⟩
  | 39 => ⟨S512x128, .f32⟩
  | 40 => ⟨S1x176x16, .f32⟩
  | 41 => ⟨S176x16, .f32⟩
  | 42 => ⟨S_, .i32⟩
  | 43 => ⟨S_, .f32⟩
  | 44 => ⟨S512x16, .f32⟩
  | 45 => ⟨S1x176x112, .f32⟩
  | 46 => ⟨S176x112, .f32⟩
  | 47 => ⟨S_, .i32⟩
  | 48 => ⟨S_, .f32⟩
  | 49 => ⟨S512x112, .f32⟩
  | 50 => ⟨S512x128, .f32⟩
  | 51 => ⟨S1x176x64, .f32⟩
  | 52 => ⟨S176x64, .f32⟩
  | 53 => ⟨S_, .i32⟩
  | 54 => ⟨S_, .f32⟩
  | 55 => ⟨S512x64, .f32⟩
  | 56 => ⟨S1x176x64, .f32⟩
  | 57 => ⟨S176x64, .f32⟩
  | 58 => ⟨S_, .i32⟩
  | 59 => ⟨S_, .f32⟩
  | 60 => ⟨S512x64, .f32⟩
  | 61 => ⟨S512x128, .f32⟩
  | 62 => ⟨S1x176x112, .f32⟩
  | 63 => ⟨S176x112, .f32⟩
  | 64 => ⟨S_, .i32⟩
  | 65 => ⟨S_, .f32⟩
  | 66 => ⟨S512x112, .f32⟩
  | 67 => ⟨S1x176x16, .f32⟩
  | 68 => ⟨S176x16, .f32⟩
  | 69 => ⟨S_, .i32⟩
  | 70 => ⟨S_, .f32⟩
  | 71 => ⟨S512x16, .f32⟩
  | 72 => ⟨S512x128, .f32⟩
  | 73 => ⟨S1x176x128, .f32⟩
  | 74 => ⟨S176x128, .f32⟩
  | 75 => ⟨S_, .i32⟩
  | 76 => ⟨S_, .f32⟩
  | 77 => ⟨S512x128, .f32⟩
  | 78 => ⟨S1x176x32, .f32⟩
  | 79 => ⟨S176x32, .f32⟩
  | 80 => ⟨S_, .i32⟩
  | 81 => ⟨S_, .f32⟩
  | 82 => ⟨S512x32, .f32⟩
  | 83 => ⟨S1x176x96, .f32⟩
  | 84 => ⟨S176x96, .f32⟩
  | 85 => ⟨S_, .i32⟩
  | 86 => ⟨S_, .f32⟩
  | 87 => ⟨S512x96, .f32⟩
  | 88 => ⟨S512x128, .f32⟩
  | 89 => ⟨S1x176x80, .f32⟩
  | 90 => ⟨S176x80, .f32⟩
  | 91 => ⟨S_, .i32⟩
  | 92 => ⟨S_, .f32⟩
  | 93 => ⟨S512x80, .f32⟩
  | 94 => ⟨S1x176x48, .f32⟩
  | 95 => ⟨S176x48, .f32⟩
  | 96 => ⟨S_, .i32⟩
  | 97 => ⟨S_, .f32⟩
  | 98 => ⟨S512x48, .f32⟩
  | 99 => ⟨S512x128, .f32⟩
  | 100 => ⟨S1x176x128, .f32⟩
  | 101 => ⟨S176x128, .f32⟩
  | 102 => ⟨S_, .i32⟩
  | 103 => ⟨S_, .f32⟩
  | 104 => ⟨S512x128, .f32⟩
  | 105 => ⟨S1x176x128, .f32⟩
  | 106 => ⟨S176x128, .f32⟩
  | 107 => ⟨S_, .i32⟩
  | 108 => ⟨S_, .f32⟩
  | 109 => ⟨S512x128, .f32⟩
  | 110 => ⟨S1x176x48, .f32⟩
  | 111 => ⟨S176x48, .f32⟩
  | 112 => ⟨S_, .i32⟩
  | 113 => ⟨S_, .f32⟩
  | 114 => ⟨S512x48, .f32⟩
  | 115 => ⟨S1x176x80, .f32⟩
  | 116 => ⟨S176x80, .f32⟩
  | 117 => ⟨S_, .i32⟩
  | 118 => ⟨S_, .f32⟩
  | 119 => ⟨S512x80, .f32⟩
  | 120 => ⟨S512x128, .f32⟩
  | 121 => ⟨S1x176x96, .f32⟩
  | 122 => ⟨S176x96, .f32⟩
  | 123 => ⟨S_, .i32⟩
  | 124 => ⟨S_, .f32⟩
  | 125 => ⟨S512x96, .f32⟩
  | 126 => ⟨S1x176x32, .f32⟩
  | 127 => ⟨S176x32, .f32⟩
  | _ => ⟨S2x4096x5632, .f32⟩

abbrev hbmTy0_1 (i : Nat) : BufTy := match i % 128 with
  | 0 => ⟨S_, .i32⟩
  | 1 => ⟨S_, .f32⟩
  | 2 => ⟨S512x32, .f32⟩
  | 3 => ⟨S512x128, .f32⟩
  | 4 => ⟨S1x176x128, .f32⟩
  | 5 => ⟨S176x128, .f32⟩
  | 6 => ⟨S_, .i32⟩
  | 7 => ⟨S_, .f32⟩
  | 8 => ⟨S512x128, .f32⟩
  | 9 => ⟨S1x176x16, .f32⟩
  | 10 => ⟨S176x16, .f32⟩
  | 11 => ⟨S_, .i32⟩
  | 12 => ⟨S_, .f32⟩
  | 13 => ⟨S512x16, .f32⟩
  | 14 => ⟨S1x176x112, .f32⟩
  | 15 => ⟨S176x112, .f32⟩
  | 16 => ⟨S_, .i32⟩
  | 17 => ⟨S_, .f32⟩
  | 18 => ⟨S512x112, .f32⟩
  | 19 => ⟨S512x128, .f32⟩
  | 20 => ⟨S1x176x64, .f32⟩
  | 21 => ⟨S176x64, .f32⟩
  | 22 => ⟨S_, .i32⟩
  | 23 => ⟨S_, .f32⟩
  | 24 => ⟨S512x64, .f32⟩
  | 25 => ⟨S1x176x64, .f32⟩
  | 26 => ⟨S176x64, .f32⟩
  | 27 => ⟨S_, .i32⟩
  | 28 => ⟨S_, .f32⟩
  | 29 => ⟨S512x64, .f32⟩
  | 30 => ⟨S512x128, .f32⟩
  | 31 => ⟨S1x176x112, .f32⟩
  | 32 => ⟨S176x112, .f32⟩
  | 33 => ⟨S_, .i32⟩
  | 34 => ⟨S_, .f32⟩
  | 35 => ⟨S512x112, .f32⟩
  | 36 => ⟨S1x176x16, .f32⟩
  | 37 => ⟨S176x16, .f32⟩
  | 38 => ⟨S_, .i32⟩
  | 39 => ⟨S_, .f32⟩
  | 40 => ⟨S512x16, .f32⟩
  | 41 => ⟨S512x128, .f32⟩
  | 42 => ⟨S1x176x128, .f32⟩
  | 43 => ⟨S176x128, .f32⟩
  | 44 => ⟨S_, .i32⟩
  | 45 => ⟨S_, .f32⟩
  | 46 => ⟨S512x128, .f32⟩
  | 47 => ⟨S1x176x32, .f32⟩
  | 48 => ⟨S176x32, .f32⟩
  | 49 => ⟨S_, .i32⟩
  | 50 => ⟨S_, .f32⟩
  | 51 => ⟨S512x32, .f32⟩
  | 52 => ⟨S1x176x96, .f32⟩
  | 53 => ⟨S176x96, .f32⟩
  | 54 => ⟨S_, .i32⟩
  | 55 => ⟨S_, .f32⟩
  | 56 => ⟨S512x96, .f32⟩
  | 57 => ⟨S512x128, .f32⟩
  | 58 => ⟨S1x176x80, .f32⟩
  | 59 => ⟨S176x80, .f32⟩
  | 60 => ⟨S_, .i32⟩
  | 61 => ⟨S_, .f32⟩
  | 62 => ⟨S512x80, .f32⟩
  | 63 => ⟨S1x176x48, .f32⟩
  | 64 => ⟨S176x48, .f32⟩
  | 65 => ⟨S_, .i32⟩
  | 66 => ⟨S_, .f32⟩
  | 67 => ⟨S512x48, .f32⟩
  | 68 => ⟨S512x128, .f32⟩
  | 69 => ⟨S1x176x128, .f32⟩
  | 70 => ⟨S176x128, .f32⟩
  | 71 => ⟨S_, .i32⟩
  | 72 => ⟨S_, .f32⟩
  | 73 => ⟨S512x128, .f32⟩
  | 74 => ⟨S1x512x128, .f32⟩
  | 75 => ⟨S1x512x128, .f32⟩
  | 76 => ⟨S1x512x128, .f32⟩
  | 77 => ⟨S1x512x128, .f32⟩
  | 78 => ⟨S1x512x128, .f32⟩
  | 79 => ⟨S1x512x128, .f32⟩
  | 80 => ⟨S1x512x128, .f32⟩
  | 81 => ⟨S1x512x128, .f32⟩
  | 82 => ⟨S1x512x128, .f32⟩
  | 83 => ⟨S1x512x128, .f32⟩
  | 84 => ⟨S1x512x128, .f32⟩
  | 85 => ⟨S1x512x128, .f32⟩
  | 86 => ⟨S1x512x128, .f32⟩
  | 87 => ⟨S1x512x128, .f32⟩
  | 88 => ⟨S1x512x128, .f32⟩
  | 89 => ⟨S1x512x128, .f32⟩
  | 90 => ⟨S1x512x128, .f32⟩
  | 91 => ⟨S1x512x128, .f32⟩
  | 92 => ⟨S1x512x128, .f32⟩
  | 93 => ⟨S1x512x128, .f32⟩
  | 94 => ⟨S1x512x128, .f32⟩
  | 95 => ⟨S1x512x128, .f32⟩
  | 96 => ⟨S16x512x128, .f32⟩
  | 97 => ⟨S6x512x128, .f32⟩
  | 98 => ⟨S22x512x128, .f32⟩
  | 99 => ⟨S1x176x128, .f32⟩
  | 100 => ⟨S176x128, .f32⟩
  | 101 => ⟨S_, .i32⟩
  | 102 => ⟨S_, .f32⟩
  | 103 => ⟨S512x128, .f32⟩
  | 104 => ⟨S1x176x48, .f32⟩
  | 105 => ⟨S176x48, .f32⟩
  | 106 => ⟨S_, .i32⟩
  | 107 => ⟨S_, .f32⟩
  | 108 => ⟨S512x48, .f32⟩
  | 109 => ⟨S1x176x80, .f32⟩
  | 110 => ⟨S176x80, .f32⟩
  | 111 => ⟨S_, .i32⟩
  | 112 => ⟨S_, .f32⟩
  | 113 => ⟨S512x80, .f32⟩
  | 114 => ⟨S512x128, .f32⟩
  | 115 => ⟨S1x176x96, .f32⟩
  | 116 => ⟨S176x96, .f32⟩
  | 117 => ⟨S_, .i32⟩
  | 118 => ⟨S_, .f32⟩
  | 119 => ⟨S512x96, .f32⟩
  | 120 => ⟨S1x176x32, .f32⟩
  | 121 => ⟨S176x32, .f32⟩
  | 122 => ⟨S_, .i32⟩
  | 123 => ⟨S_, .f32⟩
  | 124 => ⟨S512x32, .f32⟩
  | 125 => ⟨S512x128, .f32⟩
  | 126 => ⟨S1x176x128, .f32⟩
  | 127 => ⟨S176x128, .f32⟩
  | _ => ⟨S2x4096x5632, .f32⟩

abbrev hbmTy0_2 (i : Nat) : BufTy := match i % 128 with
  | 0 => ⟨S_, .i32⟩
  | 1 => ⟨S_, .f32⟩
  | 2 => ⟨S512x128, .f32⟩
  | 3 => ⟨S1x176x16, .f32⟩
  | 4 => ⟨S176x16, .f32⟩
  | 5 => ⟨S_, .i32⟩
  | 6 => ⟨S_, .f32⟩
  | 7 => ⟨S512x16, .f32⟩
  | 8 => ⟨S1x176x112, .f32⟩
  | 9 => ⟨S176x112, .f32⟩
  | 10 => ⟨S_, .i32⟩
  | 11 => ⟨S_, .f32⟩
  | 12 => ⟨S512x112, .f32⟩
  | 13 => ⟨S512x128, .f32⟩
  | 14 => ⟨S1x176x64, .f32⟩
  | 15 => ⟨S176x64, .f32⟩
  | 16 => ⟨S_, .i32⟩
  | 17 => ⟨S_, .f32⟩
  | 18 => ⟨S512x64, .f32⟩
  | 19 => ⟨S1x176x64, .f32⟩
  | 20 => ⟨S176x64, .f32⟩
  | 21 => ⟨S_, .i32⟩
  | 22 => ⟨S_, .f32⟩
  | 23 => ⟨S512x64, .f32⟩
  | 24 => ⟨S512x128, .f32⟩
  | 25 => ⟨S1x176x112, .f32⟩
  | 26 => ⟨S176x112, .f32⟩
  | 27 => ⟨S_, .i32⟩
  | 28 => ⟨S_, .f32⟩
  | 29 => ⟨S512x112, .f32⟩
  | 30 => ⟨S1x176x16, .f32⟩
  | 31 => ⟨S176x16, .f32⟩
  | 32 => ⟨S_, .i32⟩
  | 33 => ⟨S_, .f32⟩
  | 34 => ⟨S512x16, .f32⟩
  | 35 => ⟨S512x128, .f32⟩
  | 36 => ⟨S1x176x128, .f32⟩
  | 37 => ⟨S176x128, .f32⟩
  | 38 => ⟨S_, .i32⟩
  | 39 => ⟨S_, .f32⟩
  | 40 => ⟨S512x128, .f32⟩
  | 41 => ⟨S1x176x32, .f32⟩
  | 42 => ⟨S176x32, .f32⟩
  | 43 => ⟨S_, .i32⟩
  | 44 => ⟨S_, .f32⟩
  | 45 => ⟨S512x32, .f32⟩
  | 46 => ⟨S1x176x96, .f32⟩
  | 47 => ⟨S176x96, .f32⟩
  | 48 => ⟨S_, .i32⟩
  | 49 => ⟨S_, .f32⟩
  | 50 => ⟨S512x96, .f32⟩
  | 51 => ⟨S512x128, .f32⟩
  | 52 => ⟨S1x176x80, .f32⟩
  | 53 => ⟨S176x80, .f32⟩
  | 54 => ⟨S_, .i32⟩
  | 55 => ⟨S_, .f32⟩
  | 56 => ⟨S512x80, .f32⟩
  | 57 => ⟨S1x176x48, .f32⟩
  | 58 => ⟨S176x48, .f32⟩
  | 59 => ⟨S_, .i32⟩
  | 60 => ⟨S_, .f32⟩
  | 61 => ⟨S512x48, .f32⟩
  | 62 => ⟨S512x128, .f32⟩
  | 63 => ⟨S1x176x128, .f32⟩
  | 64 => ⟨S176x128, .f32⟩
  | 65 => ⟨S_, .i32⟩
  | 66 => ⟨S_, .f32⟩
  | 67 => ⟨S512x128, .f32⟩
  | 68 => ⟨S1x176x128, .f32⟩
  | 69 => ⟨S176x128, .f32⟩
  | 70 => ⟨S_, .i32⟩
  | 71 => ⟨S_, .f32⟩
  | 72 => ⟨S512x128, .f32⟩
  | 73 => ⟨S1x176x48, .f32⟩
  | 74 => ⟨S176x48, .f32⟩
  | 75 => ⟨S_, .i32⟩
  | 76 => ⟨S_, .f32⟩
  | 77 => ⟨S512x48, .f32⟩
  | 78 => ⟨S1x176x80, .f32⟩
  | 79 => ⟨S176x80, .f32⟩
  | 80 => ⟨S_, .i32⟩
  | 81 => ⟨S_, .f32⟩
  | 82 => ⟨S512x80, .f32⟩
  | 83 => ⟨S512x128, .f32⟩
  | 84 => ⟨S1x176x96, .f32⟩
  | 85 => ⟨S176x96, .f32⟩
  | 86 => ⟨S_, .i32⟩
  | 87 => ⟨S_, .f32⟩
  | 88 => ⟨S512x96, .f32⟩
  | 89 => ⟨S1x176x32, .f32⟩
  | 90 => ⟨S176x32, .f32⟩
  | 91 => ⟨S_, .i32⟩
  | 92 => ⟨S_, .f32⟩
  | 93 => ⟨S512x32, .f32⟩
  | 94 => ⟨S512x128, .f32⟩
  | 95 => ⟨S1x176x128, .f32⟩
  | 96 => ⟨S176x128, .f32⟩
  | 97 => ⟨S_, .i32⟩
  | 98 => ⟨S_, .f32⟩
  | 99 => ⟨S512x128, .f32⟩
  | 100 => ⟨S1x176x16, .f32⟩
  | 101 => ⟨S176x16, .f32⟩
  | 102 => ⟨S_, .i32⟩
  | 103 => ⟨S_, .f32⟩
  | 104 => ⟨S512x16, .f32⟩
  | 105 => ⟨S1x176x112, .f32⟩
  | 106 => ⟨S176x112, .f32⟩
  | 107 => ⟨S_, .i32⟩
  | 108 => ⟨S_, .f32⟩
  | 109 => ⟨S512x112, .f32⟩
  | 110 => ⟨S512x128, .f32⟩
  | 111 => ⟨S1x176x64, .f32⟩
  | 112 => ⟨S176x64, .f32⟩
  | 113 => ⟨S_, .i32⟩
  | 114 => ⟨S_, .f32⟩
  | 115 => ⟨S512x64, .f32⟩
  | 116 => ⟨S1x176x64, .f32⟩
  | 117 => ⟨S176x64, .f32⟩
  | 118 => ⟨S_, .i32⟩
  | 119 => ⟨S_, .f32⟩
  | 120 => ⟨S512x64, .f32⟩
  | 121 => ⟨S512x128, .f32⟩
  | 122 => ⟨S1x176x112, .f32⟩
  | 123 => ⟨S176x112, .f32⟩
  | 124 => ⟨S_, .i32⟩
  | 125 => ⟨S_, .f32⟩
  | 126 => ⟨S512x112, .f32⟩
  | 127 => ⟨S1x176x16, .f32⟩
  | _ => ⟨S2x4096x5632, .f32⟩

abbrev hbmTy0_3 (i : Nat) : BufTy := match i % 128 with
  | 0 => ⟨S176x16, .f32⟩
  | 1 => ⟨S_, .i32⟩
  | 2 => ⟨S_, .f32⟩
  | 3 => ⟨S512x16, .f32⟩
  | 4 => ⟨S512x128, .f32⟩
  | 5 => ⟨S1x176x128, .f32⟩
  | 6 => ⟨S176x128, .f32⟩
  | 7 => ⟨S_, .i32⟩
  | 8 => ⟨S_, .f32⟩
  | 9 => ⟨S512x128, .f32⟩
  | 10 => ⟨S1x176x32, .f32⟩
  | 11 => ⟨S176x32, .f32⟩
  | 12 => ⟨S_, .i32⟩
  | 13 => ⟨S_, .f32⟩
  | 14 => ⟨S512x32, .f32⟩
  | 15 => ⟨S1x176x96, .f32⟩
  | 16 => ⟨S176x96, .f32⟩
  | 17 => ⟨S_, .i32⟩
  | 18 => ⟨S_, .f32⟩
  | 19 => ⟨S512x96, .f32⟩
  | 20 => ⟨S512x128, .f32⟩
  | 21 => ⟨S1x176x80, .f32⟩
  | 22 => ⟨S176x80, .f32⟩
  | 23 => ⟨S_, .i32⟩
  | 24 => ⟨S_, .f32⟩
  | 25 => ⟨S512x80, .f32⟩
  | 26 => ⟨S1x176x48, .f32⟩
  | 27 => ⟨S176x48, .f32⟩
  | 28 => ⟨S_, .i32⟩
  | 29 => ⟨S_, .f32⟩
  | 30 => ⟨S512x48, .f32⟩
  | 31 => ⟨S512x128, .f32⟩
  | 32 => ⟨S1x176x128, .f32⟩
  | 33 => ⟨S176x128, .f32⟩
  | 34 => ⟨S_, .i32⟩
  | 35 => ⟨S_, .f32⟩
  | 36 => ⟨S512x128, .f32⟩
  | 37 => ⟨S1x512x128, .f32⟩
  | 38 => ⟨S1x512x128, .f32⟩
  | 39 => ⟨S1x512x128, .f32⟩
  | 40 => ⟨S1x512x128, .f32⟩
  | 41 => ⟨S1x512x128, .f32⟩
  | 42 => ⟨S1x512x128, .f32⟩
  | 43 => ⟨S1x512x128, .f32⟩
  | 44 => ⟨S1x512x128, .f32⟩
  | 45 => ⟨S1x512x128, .f32⟩
  | 46 => ⟨S1x512x128, .f32⟩
  | 47 => ⟨S1x512x128, .f32⟩
  | 48 => ⟨S1x512x128, .f32⟩
  | 49 => ⟨S1x512x128, .f32⟩
  | 50 => ⟨S1x512x128, .f32⟩
  | 51 => ⟨S1x512x128, .f32⟩
  | 52 => ⟨S1x512x128, .f32⟩
  | 53 => ⟨S1x512x128, .f32⟩
  | 54 => ⟨S1x512x128, .f32⟩
  | 55 => ⟨S1x512x128, .f32⟩
  | 56 => ⟨S1x512x128, .f32⟩
  | 57 => ⟨S1x512x128, .f32⟩
  | 58 => ⟨S1x512x128, .f32⟩
  | 59 => ⟨S16x512x128, .f32⟩
  | 60 => ⟨S6x512x128, .f32⟩
  | 61 => ⟨S22x512x128, .f32⟩
  | 62 => ⟨S22x512x256, .f32⟩
  | 63 => ⟨S22x512x256, .bf16⟩
  | 64 => ⟨S1x2816, .f32⟩
  | 65 => ⟨S1x2816, .f32⟩
  | 66 => ⟨S1x2816, .f32⟩
  | 67 => ⟨S1x2816, .f32⟩
  | 68 => ⟨S2x4096x2816, .bf16⟩
  | _ => ⟨S2x4096x5632, .f32⟩

abbrev hbmTy (i : Nat) : BufTy := match i / 128 with
  | 0 => hbmTy0_0 i
  | 1 => hbmTy0_1 i
  | 2 => hbmTy0_2 i
  | 3 => hbmTy0_3 i
  | _ => ⟨S2x4096x5632, .f32⟩

abbrev bufTy : (tb : Table) → Fin (tcTables nBuf tb) → BufTy
  | .hbm, ⟨i, _⟩ => hbmTy i
  | .local _ .vmem, ⟨0, _⟩ => ⟨S1x256x2816, .f32⟩
  | .local _ .vmem, ⟨1, _⟩ => ⟨S1x256x2816, .f32⟩
  | .local _ .vmem, ⟨2, _⟩ => ⟨S1x256x2816, .f32⟩
  | .local _ .vmem, ⟨3, _⟩ => ⟨S1x256x2816, .f32⟩
  | .local _ .vmem, ⟨4, _⟩ => ⟨S4x2816, .f32⟩
  | .local _ .vmem, ⟨5, _⟩ => ⟨S1x2816, .f32⟩
  | .local _ .vmem, ⟨6, _⟩ => ⟨S22x512x256, .bf16⟩
  | .local _ .vmem, ⟨7, _⟩ => ⟨S1x2816, .f32⟩
  | .local _ .vmem, ⟨8, _⟩ => ⟨S1x2816, .f32⟩
  | .local _ .vmem, ⟨9, _⟩ => ⟨S1x2816, .f32⟩
  | .local _ .vmem, ⟨10, _⟩ => ⟨S1x256x2816, .bf16⟩
  | .local _ .vmem, ⟨11, _⟩ => ⟨S1x256x2816, .bf16⟩
  | .local _ .vmem, ⟨12, _⟩ => ⟨S8x2816, .f32⟩
  | .local _ .vmem, ⟨13, _⟩ => ⟨S22x320x128, .f32⟩
  | .local _ .vmem, ⟨14, _⟩ => ⟨S22x320x128, .f32⟩
  | .local _ .vmem, ⟨15, _⟩ => ⟨S256x2816, .f32⟩
  | .local _ .vmem, ⟨16, _⟩ => ⟨S256x2816, .bf16⟩
  | .local _ .vmem, ⟨17, _⟩ => ⟨S8x2816, .f32⟩
  | _, _ => ⟨S2x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_call4_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_call5_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_call6_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_call7_v0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_call8_v0 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_call9_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_c_9 : Ref sig .tc := ⟨.hbm, 64, rfl⟩
abbrev main_call10_v0 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_10 : Ref sig .tc := ⟨.hbm, 69, rfl⟩
abbrev main_call11_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_11 : Ref sig .tc := ⟨.hbm, 75, rfl⟩
abbrev main_call12_v0 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_12 : Ref sig .tc := ⟨.hbm, 80, rfl⟩
abbrev main_call13_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_c_13 : Ref sig .tc := ⟨.hbm, 85, rfl⟩
abbrev main_call14_v0 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_14 : Ref sig .tc := ⟨.hbm, 91, rfl⟩
abbrev main_call15_v0 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_15 : Ref sig .tc := ⟨.hbm, 96, rfl⟩
abbrev main_call16_v0 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_16 : Ref sig .tc := ⟨.hbm, 102, rfl⟩
abbrev main_call17_v0 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_17 : Ref sig .tc := ⟨.hbm, 107, rfl⟩
abbrev main_call18_v0 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_c_18 : Ref sig .tc := ⟨.hbm, 112, rfl⟩
abbrev main_call19_v0 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_c_19 : Ref sig .tc := ⟨.hbm, 117, rfl⟩
abbrev main_call20_v0 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_c_20 : Ref sig .tc := ⟨.hbm, 123, rfl⟩
abbrev main_call21_v0 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_c_21 : Ref sig .tc := ⟨.hbm, 128, rfl⟩
abbrev main_call22_v0 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_22 : Ref sig .tc := ⟨.hbm, 134, rfl⟩
abbrev main_call23_v0 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_c_23 : Ref sig .tc := ⟨.hbm, 139, rfl⟩
abbrev main_call24_v0 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_c_24 : Ref sig .tc := ⟨.hbm, 144, rfl⟩
abbrev main_call25_v0 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_c_25 : Ref sig .tc := ⟨.hbm, 150, rfl⟩
abbrev main_call26_v0 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_c_26 : Ref sig .tc := ⟨.hbm, 155, rfl⟩
abbrev main_call27_v0 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_c_27 : Ref sig .tc := ⟨.hbm, 161, rfl⟩
abbrev main_call28_v0 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_c_28 : Ref sig .tc := ⟨.hbm, 166, rfl⟩
abbrev main_call29_v0 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_c_29 : Ref sig .tc := ⟨.hbm, 172, rfl⟩
abbrev main_call30_v0 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_c_30 : Ref sig .tc := ⟨.hbm, 177, rfl⟩
abbrev main_call31_v0 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_c_31 : Ref sig .tc := ⟨.hbm, 182, rfl⟩
abbrev main_call32_v0 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_c_32 : Ref sig .tc := ⟨.hbm, 188, rfl⟩
abbrev main_call33_v0 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_c_33 : Ref sig .tc := ⟨.hbm, 193, rfl⟩
abbrev main_call34_v0 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_c_34 : Ref sig .tc := ⟨.hbm, 199, rfl⟩
abbrev main_call35_v0 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_c_35 : Ref sig .tc := ⟨.hbm, 229, rfl⟩
abbrev main_call36_v0 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_c_36 : Ref sig .tc := ⟨.hbm, 234, rfl⟩
abbrev main_call37_v0 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩
abbrev main_c_37 : Ref sig .tc := ⟨.hbm, 239, rfl⟩
abbrev main_call38_v0 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_c_38 : Ref sig .tc := ⟨.hbm, 245, rfl⟩
abbrev main_call39_v0 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_c_39 : Ref sig .tc := ⟨.hbm, 250, rfl⟩
abbrev main_call40_v0 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_c_40 : Ref sig .tc := ⟨.hbm, 256, rfl⟩
abbrev main_call41_v0 : Ref sig .tc := ⟨.hbm, 257, rfl⟩
abbrev main_v166 : Ref sig .tc := ⟨.hbm, 258, rfl⟩
abbrev main_v167 : Ref sig .tc := ⟨.hbm, 259, rfl⟩
abbrev main_v168 : Ref sig .tc := ⟨.hbm, 260, rfl⟩
abbrev main_c_41 : Ref sig .tc := ⟨.hbm, 261, rfl⟩
abbrev main_call42_v0 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_c_42 : Ref sig .tc := ⟨.hbm, 266, rfl⟩
abbrev main_call43_v0 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_c_43 : Ref sig .tc := ⟨.hbm, 272, rfl⟩
abbrev main_call44_v0 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_c_44 : Ref sig .tc := ⟨.hbm, 277, rfl⟩
abbrev main_call45_v0 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_c_45 : Ref sig .tc := ⟨.hbm, 283, rfl⟩
abbrev main_call46_v0 : Ref sig .tc := ⟨.hbm, 284, rfl⟩
abbrev main_v183 : Ref sig .tc := ⟨.hbm, 285, rfl⟩
abbrev main_v184 : Ref sig .tc := ⟨.hbm, 286, rfl⟩
abbrev main_v185 : Ref sig .tc := ⟨.hbm, 287, rfl⟩
abbrev main_c_46 : Ref sig .tc := ⟨.hbm, 288, rfl⟩
abbrev main_call47_v0 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_c_47 : Ref sig .tc := ⟨.hbm, 294, rfl⟩
abbrev main_call48_v0 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_c_48 : Ref sig .tc := ⟨.hbm, 299, rfl⟩
abbrev main_call49_v0 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_c_49 : Ref sig .tc := ⟨.hbm, 304, rfl⟩
abbrev main_call50_v0 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_v199 : Ref sig .tc := ⟨.hbm, 309, rfl⟩
abbrev main_c_50 : Ref sig .tc := ⟨.hbm, 310, rfl⟩
abbrev main_call51_v0 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_c_51 : Ref sig .tc := ⟨.hbm, 315, rfl⟩
abbrev main_call52_v0 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_c_52 : Ref sig .tc := ⟨.hbm, 321, rfl⟩
abbrev main_call53_v0 : Ref sig .tc := ⟨.hbm, 322, rfl⟩
abbrev main_v207 : Ref sig .tc := ⟨.hbm, 323, rfl⟩
abbrev main_v208 : Ref sig .tc := ⟨.hbm, 324, rfl⟩
abbrev main_v209 : Ref sig .tc := ⟨.hbm, 325, rfl⟩
abbrev main_c_53 : Ref sig .tc := ⟨.hbm, 326, rfl⟩
abbrev main_call54_v0 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_c_54 : Ref sig .tc := ⟨.hbm, 331, rfl⟩
abbrev main_call55_v0 : Ref sig .tc := ⟨.hbm, 332, rfl⟩
abbrev main_v213 : Ref sig .tc := ⟨.hbm, 333, rfl⟩
abbrev main_v214 : Ref sig .tc := ⟨.hbm, 334, rfl⟩
abbrev main_v215 : Ref sig .tc := ⟨.hbm, 335, rfl⟩
abbrev main_c_55 : Ref sig .tc := ⟨.hbm, 336, rfl⟩
abbrev main_call56_v0 : Ref sig .tc := ⟨.hbm, 337, rfl⟩
abbrev main_v216 : Ref sig .tc := ⟨.hbm, 338, rfl⟩
abbrev main_v217 : Ref sig .tc := ⟨.hbm, 339, rfl⟩
abbrev main_v218 : Ref sig .tc := ⟨.hbm, 340, rfl⟩
abbrev main_v219 : Ref sig .tc := ⟨.hbm, 341, rfl⟩
abbrev main_c_56 : Ref sig .tc := ⟨.hbm, 342, rfl⟩
abbrev main_call57_v0 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_c_57 : Ref sig .tc := ⟨.hbm, 347, rfl⟩
abbrev main_call58_v0 : Ref sig .tc := ⟨.hbm, 348, rfl⟩
abbrev main_v223 : Ref sig .tc := ⟨.hbm, 349, rfl⟩
abbrev main_v224 : Ref sig .tc := ⟨.hbm, 350, rfl⟩
abbrev main_v225 : Ref sig .tc := ⟨.hbm, 351, rfl⟩
abbrev main_v226 : Ref sig .tc := ⟨.hbm, 352, rfl⟩
abbrev main_c_58 : Ref sig .tc := ⟨.hbm, 353, rfl⟩
abbrev main_call59_v0 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_c_59 : Ref sig .tc := ⟨.hbm, 358, rfl⟩
abbrev main_call60_v0 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_c_60 : Ref sig .tc := ⟨.hbm, 363, rfl⟩
abbrev main_call61_v0 : Ref sig .tc := ⟨.hbm, 364, rfl⟩
abbrev main_v233 : Ref sig .tc := ⟨.hbm, 365, rfl⟩
abbrev main_v234 : Ref sig .tc := ⟨.hbm, 366, rfl⟩
abbrev main_v235 : Ref sig .tc := ⟨.hbm, 367, rfl⟩
abbrev main_v236 : Ref sig .tc := ⟨.hbm, 368, rfl⟩
abbrev main_c_61 : Ref sig .tc := ⟨.hbm, 369, rfl⟩
abbrev main_call62_v0 : Ref sig .tc := ⟨.hbm, 370, rfl⟩
abbrev main_v237 : Ref sig .tc := ⟨.hbm, 371, rfl⟩
abbrev main_v238 : Ref sig .tc := ⟨.hbm, 372, rfl⟩
abbrev main_v239 : Ref sig .tc := ⟨.hbm, 373, rfl⟩
abbrev main_c_62 : Ref sig .tc := ⟨.hbm, 374, rfl⟩
abbrev main_call63_v0 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_c_63 : Ref sig .tc := ⟨.hbm, 380, rfl⟩
abbrev main_call64_v0 : Ref sig .tc := ⟨.hbm, 381, rfl⟩
abbrev main_v244 : Ref sig .tc := ⟨.hbm, 382, rfl⟩
abbrev main_v245 : Ref sig .tc := ⟨.hbm, 383, rfl⟩
abbrev main_v246 : Ref sig .tc := ⟨.hbm, 384, rfl⟩
abbrev main_c_64 : Ref sig .tc := ⟨.hbm, 385, rfl⟩
abbrev main_call65_v0 : Ref sig .tc := ⟨.hbm, 386, rfl⟩
abbrev main_v247 : Ref sig .tc := ⟨.hbm, 387, rfl⟩
abbrev main_v248 : Ref sig .tc := ⟨.hbm, 388, rfl⟩
abbrev main_v249 : Ref sig .tc := ⟨.hbm, 389, rfl⟩
abbrev main_v250 : Ref sig .tc := ⟨.hbm, 390, rfl⟩
abbrev main_c_65 : Ref sig .tc := ⟨.hbm, 391, rfl⟩
abbrev main_call66_v0 : Ref sig .tc := ⟨.hbm, 392, rfl⟩
abbrev main_v251 : Ref sig .tc := ⟨.hbm, 393, rfl⟩
abbrev main_v252 : Ref sig .tc := ⟨.hbm, 394, rfl⟩
abbrev main_v253 : Ref sig .tc := ⟨.hbm, 395, rfl⟩
abbrev main_c_66 : Ref sig .tc := ⟨.hbm, 396, rfl⟩
abbrev main_call67_v0 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_c_67 : Ref sig .tc := ⟨.hbm, 401, rfl⟩
abbrev main_call68_v0 : Ref sig .tc := ⟨.hbm, 402, rfl⟩
abbrev main_v257 : Ref sig .tc := ⟨.hbm, 403, rfl⟩
abbrev main_v258 : Ref sig .tc := ⟨.hbm, 404, rfl⟩
abbrev main_v259 : Ref sig .tc := ⟨.hbm, 405, rfl⟩
abbrev main_v260 : Ref sig .tc := ⟨.hbm, 406, rfl⟩
abbrev main_c_68 : Ref sig .tc := ⟨.hbm, 407, rfl⟩
abbrev main_call69_v0 : Ref sig .tc := ⟨.hbm, 408, rfl⟩
abbrev main_v261 : Ref sig .tc := ⟨.hbm, 409, rfl⟩
abbrev main_v262 : Ref sig .tc := ⟨.hbm, 410, rfl⟩
abbrev main_v263 : Ref sig .tc := ⟨.hbm, 411, rfl⟩
abbrev main_c_69 : Ref sig .tc := ⟨.hbm, 412, rfl⟩
abbrev main_call70_v0 : Ref sig .tc := ⟨.hbm, 413, rfl⟩
abbrev main_v264 : Ref sig .tc := ⟨.hbm, 414, rfl⟩
abbrev main_v265 : Ref sig .tc := ⟨.hbm, 415, rfl⟩
abbrev main_v266 : Ref sig .tc := ⟨.hbm, 416, rfl⟩
abbrev main_v267 : Ref sig .tc := ⟨.hbm, 417, rfl⟩
abbrev main_c_70 : Ref sig .tc := ⟨.hbm, 418, rfl⟩
abbrev main_call71_v0 : Ref sig .tc := ⟨.hbm, 419, rfl⟩
abbrev main_v268 : Ref sig .tc := ⟨.hbm, 420, rfl⟩
abbrev main_v269 : Ref sig .tc := ⟨.hbm, 421, rfl⟩
abbrev main_v270 : Ref sig .tc := ⟨.hbm, 422, rfl⟩
abbrev main_v271 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_v279 : Ref sig .tc := ⟨.hbm, 431, rfl⟩
abbrev main_v280 : Ref sig .tc := ⟨.hbm, 432, rfl⟩
abbrev main_v281 : Ref sig .tc := ⟨.hbm, 433, rfl⟩
abbrev main_v282 : Ref sig .tc := ⟨.hbm, 434, rfl⟩
abbrev main_v283 : Ref sig .tc := ⟨.hbm, 435, rfl⟩
abbrev main_v284 : Ref sig .tc := ⟨.hbm, 436, rfl⟩
abbrev main_v285 : Ref sig .tc := ⟨.hbm, 437, rfl⟩
abbrev main_v286 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_v290 : Ref sig .tc := ⟨.hbm, 442, rfl⟩
abbrev main_v291 : Ref sig .tc := ⟨.hbm, 443, rfl⟩
abbrev main_v292 : Ref sig .tc := ⟨.hbm, 444, rfl⟩
abbrev main_v293 : Ref sig .tc := ⟨.hbm, 445, rfl⟩
abbrev main_v294 : Ref sig .tc := ⟨.hbm, 446, rfl⟩
abbrev main_v295 : Ref sig .tc := ⟨.hbm, 447, rfl⟩
abbrev main_v296 : Ref sig .tc := ⟨.hbm, 448, rfl⟩
abbrev main_v297 : Ref sig .tc := ⟨.hbm, 449, rfl⟩
abbrev main_v298 : Ref sig .tc := ⟨.hbm, 450, rfl⟩
abbrev main_v299 : Ref sig .tc := ⟨.hbm, 451, rfl⟩
abbrev main_v300 : Ref sig .tc := ⟨.hbm, 452, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S22x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.AttnIdealRun.lean ====
/- The attention's kernel body as functions of its blocks: the sweep over the first key blocks (`startSt`), one round of
   the loop over the earlier ones (`stepSt`), the loop (`resN`), what it stores (`outBlk`); and the triple that says so. -/
module

public import proofs.«01_k».proof.Proof.Gen.AttnIdeal.Launch
public import proofs.«01_k».proof.Proof.Gen.AttnIdeal.Skeleton
public import proofs.«01_k».proof.Proof.Gen.AttnIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What one sweep leaves, head by head: the running exponent of each row and the accumulated result. -/
abbrev St (F : FTy → Type) : Type := FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32 × FVec F S256x1 .f32 × FVec F S256x128 .f32

/-- The sweep over the diagonal block alone. -/
def diagSt (i : grid0.Coords) (k0_h1 : k0_cond1 i = 1#1) (x3 : Vec F S1x256x1024 .bf16) (x4 : Vec F S1x4096x1024 .bf16) (x5 : Vec F S1x4096x1024 .bf16) (x6 : Vec F S256x256 .bf16) : St F :=
  let v2 : IVec S256x256 1 := k0_pay130
  let v99 : Vec F S1x256x128 .bf16 := View.ld x3 (Rect.unit (s := S1x256x1024) ![0, 0, 0] S1x256x128.size inb_S1x256x1024_S1x256x128_0_0_0)
  let v102 : Vec F S1x256x128 .bf16 := View.ld x4 (Rect.unit (s := S1x4096x1024) (k0_off1 i) S1x256x128.size (k0_off1_inb i k0_h1))
  let v114 : Vec F S1x256x128 .bf16 := View.ld x3 (Rect.unit (s := S1x256x1024) ![0, 0, 128] S1x256x128.size inb_S1x256x1024_S1x256x128_0_0_128)
  let v117 : Vec F S1x256x128 .bf16 := View.ld x4 (Rect.unit (s := S1x4096x1024) (k0_off2 i) S1x256x128.size (k0_off2_inb i k0_h1))
  let v129 : Vec F S1x256x128 .bf16 := View.ld x3 (Rect.unit (s := S1x256x1024) ![0, 0, 256] S1x256x128.size inb_S1x256x1024_S1x256x128_0_0_256)
  let v104 : FVec F S256x256 .f32 := k0_pay7 v99 v102
  let v113 : FVec F S256x256 .f32 := k0_pay8 v2 v99 v102
  let v119 : FVec F S256x256 .f32 := k0_pay9 v114 v117
  let v128 : FVec F S256x256 .f32 := k0_pay10 v2 v114 v117
  let v130 : FVec F S256x128 .bf16 := k0_pay11 v129
  let v2 : IVec S256x256 1 := k0_pay130
  let v132 : Vec F S1x256x128 .bf16 := View.ld x4 (Rect.unit (s := S1x4096x1024) (k0_off3 i) S1x256x128.size (k0_off3_inb i k0_h1))
  let v144 : Vec F S1x256x128 .bf16 := View.ld x3 (Rect.unit (s := S1x256x1024) ![0, 0, 384] S1x256x128.size inb_S1x256x1024_S1x256x128_0_0_384)
  let v147 : Vec F S1x256x128 .bf16 := View.ld x4 (Rect.unit (s := S1x4096x1024) (k0_off4 i) S1x256x128.size (k0_off4_inb i k0_h1))
  let v159 : Vec F S1x256x128 .bf16 := View.ld x3 (Rect.unit (s := S1x256x1024) ![0, 0, 512] S1x256x128.size inb_S1x256x1024_S1x256x128_0_0_512)
  let v162 : Vec F S1x256x128 .bf16 := View.ld x4 (Rect.unit (s := S1x4096x1024) (k0_off5 i) S1x256x128.size (k0_off5_inb i k0_h1))
  let v134 : FVec F S256x256 .f32 := k0_pay12 v130 v132
  let v143 : FVec F S256x256 .f32 := k0_pay13 v2 v130 v132
  let v149 : FVec F S256x256 .f32 := k0_pay14 v144 v147
  let v158 : FVec F S256x256 .f32 := k0_pay15 v2 v144 v147
  let v164 : FVec F S256x256 .f32 := k0_pay16 v159 v162
  let v166 : IVec S256x256 1 := k0_pay17 v159 v162
  let v169 : FVec F S256x256 .f32 := k0_pay18 v159 v162
  let v2 : IVec S256x256 1 := k0_pay130
  let v174 : Vec F S1x256x128 .bf16 := View.ld x3 (Rect.unit (s := S1x256x1024) ![0, 0, 640] S1x256x128.size inb_S1x256x1024_S1x256x128_0_0_640)
  let v177 : Vec F S1x256x128 .bf16 := View.ld x4 (Rect.unit (s := S1x4096x1024) (k0_off6 i) S1x256x128.size (k0_off6_inb i k0_h1))
  let v189 : Vec F S1x256x128 .bf16 := View.ld x3 (Rect.unit (s := S1x256x1024) ![0, 0, 768] S1x256x128.size inb_S1x256x1024_S1x256x128_0_0_768)
  let v192 : Vec F S1x256x128 .bf16 := View.ld x4 (Rect.unit (s := S1x4096x1024) (k0_off7 i) S1x256x128.size (k0_off7_inb i k0_h1))
  let v204 : Vec F S1x256x128 .bf16 := View.ld x3 (Rect.unit (s := S1x256x1024) ![0, 0, 896] S1x256x128.size inb_S1x256x1024_S1x256x128_0_0_896)
  let v173 : FVec F S256x256 .f32 := k0_pay19 v2 v164 v166 v169
  let v179 : FVec F S256x256 .f32 := k0_pay20 v174 v177
  let v188 : FVec F S256x256 .f32 := k0_pay21 v2 v174 v177
  let v194 : FVec F S256x256 .f32 := k0_pay22 v189 v192
  let v203 : FVec F S256x256 .f32 := k0_pay23 v2 v189 v192
  let v205 : FVec F S256x128 .bf16 := k0_pay24 v204
  let v2 : IVec S256x256 1 := k0_pay130
  let v3 : FVec F S256x1 .f32 := (k0_pay131 (F := F))
  let v4 : FVec F S256x128 .f32 := (k0_pay132 (F := F))
  let v5 : FVec F S256x1 .f32 := (k0_pay133 (F := F))
  let v207 : Vec F S1x256x128 .bf16 := View.ld x4 (Rect.unit (s := S1x4096x1024) (k0_off8 i) S1x256x128.size (k0_off8_inb i k0_h1))
  let v228 : Vec F S256x256 .bf16 := View.ld x6 (Rect.unit (s := S256x256) ![0, 0] S256x256.size inb_S256x256_S256x256_0_0)
  let v243 : Vec F S1x256x128 .bf16 := View.ld x5 (Rect.unit (s := S1x4096x1024) (k0_off1 i) S1x256x128.size (k0_off1_inb i k0_h1))
  let cst_121 : F .f32 := Scalar.ofBits .f32 0x00000000#32
  let v209 : FVec F S256x256 .f32 := k0_pay25 v205 v207
  let v218 : FVec F S256x256 .f32 := k0_pay26 v2 v205 v207
  let v229 : FVec F S2048x256 .f32 := k0_pay27 v2 v113 v128 v143 v158 v173 v188 v203 v205 v207 v228
  let v241 : FVec F S256x1 .f32 := k0_pay28 v3 v113
  let v246 : FVec F S256x128 .f32 := k0_pay29 v2 v3 v4 v104 v113 v128 v143 v158 v173 v188 v203 v205 v207 v228 v243
  let v252 : FVec F S256x256 .f32 := k0_pay30 v2 v5 v113 v119 v128 v143 v158 v173 v188 v203 v205 v207 v228
  let v2 : IVec S256x256 1 := k0_pay130
  let v5 : FVec F S256x1 .f32 := (k0_pay133 (F := F))
  let v6 : FVec F S256x128 .f32 := (k0_pay134 (F := F))
  let v7 : FVec F S256x1 .f32 := (k0_pay135 (F := F))
  let v8 : FVec F S256x128 .f32 := (k0_pay136 (F := F))
  let v9 : FVec F S256x1 .f32 := (k0_pay137 (F := F))
  let v10 : FVec F S256x128 .f32 := (k0_pay138 (F := F))
  let v260 : Vec F S1x256x128 .bf16 := View.ld x5 (Rect.unit (s := S1x4096x1024) (k0_off2 i) S1x256x128.size (k0_off2_inb i k0_h1))
  let v277 : Vec F S1x256x128 .bf16 := View.ld x5 (Rect.unit (s := S1x4096x1024) (k0_off3 i) S1x256x128.size (k0_off3_inb i k0_h1))
  let v294 : Vec F S1x256x128 .bf16 := View.ld x5 (Rect.unit (s := S1x4096x1024) (k0_off4 i) S1x256x128.size (k0_off4_inb i k0_h1))
  let v258 : FVec F S256x1 .f32 := k0_pay31 v5 v128
  let v263 : FVec F S256x128 .f32 := k0_pay32 v2 v6 v252 cst_121 v260
  let v275 : FVec F S256x1 .f32 := k0_pay33 v7 v143
  let v280 : FVec F S256x128 .f32 := k0_pay34 v2 v7 v8 v134 v143 v229 v277
  let v292 : FVec F S256x1 .f32 := k0_pay35 v9 v158
  let v297 : FVec F S256x128 .f32 := k0_pay36 v2 v9 v10 v149 v158 v229 v294
  let v298 : FVec F S256x256 .f32 := k0_pay37 v164 v173
  let v2 : IVec S256x256 1 := k0_pay130
  let v11 : FVec F S256x1 .f32 := (k0_pay139 (F := F))
  let v12 : FVec F S256x128 .f32 := (k0_pay140 (F := F))
  let v13 : FVec F S256x1 .f32 := (k0_pay141 (F := F))
  let v14 : FVec F S256x128 .f32 := (k0_pay142 (F := F))
  let v15 : FVec F S256x1 .f32 := (k0_pay143 (F := F))
  let v311 : Vec F S1x256x128 .bf16 := View.ld x5 (Rect.unit (s := S1x4096x1024) (k0_off5 i) S1x256x128.size (k0_off5_inb i k0_h1))
  let v328 : Vec F S1x256x128 .bf16 := View.ld x5 (Rect.unit (s := S1x4096x1024) (k0_off6 i) S1x256x128.size (k0_off6_inb i k0_h1))
  let v309 : FVec F S256x1 .f32 := k0_pay38 v11 v173
  let v314 : FVec F S256x128 .f32 := k0_pay39 v2 v11 v12 v229 v298 v311
  let v326 : FVec F S256x1 .f32 := k0_pay40 v13 v188
  let v331 : FVec F S256x128 .f32 := k0_pay41 v2 v13 v14 v179 v188 v229 v328
  let v340 : FVec F S256x256 .bf16 := k0_pay42 v2 v15 v194 v203 v229
  let v343 : FVec F S256x1 .f32 := k0_pay43 v15 v203
  let v345 : Vec F S1x256x128 .bf16 := View.ld x5 (Rect.unit (s := S1x4096x1024) (k0_off7 i) S1x256x128.size (k0_off7_inb i k0_h1))
  let v362 : Vec F S1x256x128 .bf16 := View.ld x5 (Rect.unit (s := S1x4096x1024) (k0_off8 i) S1x256x128.size (k0_off8_inb i k0_h1))
  (v241, v246, v258, v263, v275, v280, v292, v297, v309, v314, v326, v331, v343, k0_pay147 v340 v345, k0_pay148 v218, k0_pay149 v209 v218 v229 v362)

/-- The sweep over the diagonal block and the one before it. -/
def twoSt (i : grid0.Coords) (k0_h1 : ¬(k0_cond1 i = 1#1)) (x3 : Vec F S1x256x1024 .bf16) (x4 : Vec F S1x4096x1024 .bf16) (x5 : Vec F S1x4096x1024 .bf16) (x6 : Vec F S256x256 .bf16) : St F :=
  let v2 : IVec S256x256 1 := k0_pay130
  let v99 : Vec F S1x256x128 .bf16 := View.ld x3 (Rect.unit (s := S1x256x1024) ![0, 0, 0] S1x256x128.size inb_S1x256x1024_S1x256x128_0_0_0)
  let v102 : Vec F S1x512x128 .bf16 := View.ld x4 (Rect.unit (s := S1x4096x1024) (k0_off9 i) S1x512x128.size (k0_off9_inb i k0_h1))
  let v123 : Vec F S1x256x128 .bf16 := View.ld x3 (Rect.unit (s := S1x256x1024) ![0, 0, 128] S1x256x128.size inb_S1x256x1024_S1x256x128_0_0_128)
  let v126 : Vec F S1x512x128 .bf16 := View.ld x4 (Rect.unit (s := S1x4096x1024) (k0_off10 i) S1x512x128.size (k0_off10_inb i k0_h1))
  let v105 : FVec F S256x256 .f32 := k0_pay45 v99 v102
  let v112 : FVec F S256x256 .f32 := k0_pay46 v99 v102
  let v113 : FVec F S256x256 .f32 := k0_pay47 v99 v102
  let v122 : FVec F S256x256 .f32 := k0_pay48 v2 v99 v102
  let v128 : FVec F S256x512 .f32 := k0_pay49 v123 v126
  let v129 : FVec F S256x256 .f32 := k0_pay50 v123 v126
  let v131 : IVec S256x256 1 := k0_pay51 v123 v126
  let v134 : FVec F S256x256 .f32 := k0_pay52 v123 v126
  let v2 : IVec S256x256 1 := k0_pay130
  let v147 : Vec F S1x256x128 .bf16 := View.ld x3 (Rect.unit (s := S1x256x1024) ![0, 0, 256] S1x256x128.size inb_S1x256x1024_S1x256x128_0_0_256)
  let v150 : Vec F S1x512x128 .bf16 := View.ld x4 (Rect.unit (s := S1x4096x1024) (k0_off11 i) S1x512x128.size (k0_off11_inb i k0_h1))
  let v171 : Vec F S1x256x128 .bf16 := View.ld x3 (Rect.unit (s := S1x256x1024) ![0, 0, 384] S1x256x128.size inb_S1x256x1024_S1x256x128_0_0_384)
  let v174 : Vec F S1x512x128 .bf16 := View.ld x4 (Rect.unit (s := S1x4096x1024) (k0_off12 i) S1x512x128.size (k0_off12_inb i k0_h1))
  let v136 : FVec F S256x256 .f32 := k0_pay53 v129 v131 v134
  let v137 : FVec F S256x256 .f32 := k0_pay54 v128
  let v146 : FVec F S256x256 .f32 := k0_pay55 v2 v128
  let v153 : FVec F S256x256 .f32 := k0_pay57 v147 v150
  let v160 : FVec F S256x256 .f32 := k0_pay58 v147 v150
  let v161 : FVec F S256x256 .f32 := k0_pay59 v147 v150
  let v170 : FVec F S256x256 .f32 := k0_pay60 v2 v147 v150
  let v172 : FVec F S256x128 .bf16 := k0_pay61 v171
  let v175 : FVec F S512x128 .bf16 := k0_pay62 v174
  let v2 : IVec S256x256 1 := k0_pay130
  let v195 : Vec F S1x256x128 .bf16 := View.ld x3 (Rect.unit (s := S1x256x1024) ![0, 0, 512] S1x256x128.size inb_S1x256x1024_S1x256x128_0_0_512)
  let v198 : Vec F S1x512x128 .bf16 := View.ld x4 (Rect.unit (s := S1x4096x1024) (k0_off13 i) S1x512x128.size (k0_off13_inb i k0_h1))
  let v177 : FVec F S256x256 .f32 := k0_pay64 v172 v175
  let v184 : FVec F S256x256 .f32 := k0_pay65 v172 v175
  let v185 : FVec F S256x256 .f32 := k0_pay66 v172 v175
  let v194 : FVec F S256x256 .f32 := k0_pay67 v2 v172 v175
  let v201 : FVec F S256x256 .f32 := k0_pay69 v195 v198
  let v208 : FVec F S256x256 .f32 := k0_pay70 v195 v198
  let v209 : FVec F S256x256 .f32 := k0_pay71 v195 v198
  let v218 : FVec F S256x256 .f32 := k0_pay72 v2 v195 v198
  let v2 : IVec S256x256 1 := k0_pay130
  let v219 : Vec F S1x256x128 .bf16 := View.ld x3 (Rect.unit (s := S1x256x1024) ![0, 0, 640] S1x256x128.size inb_S1x256x1024_S1x256x128_0_0_640)
  let v222 : Vec F S1x512x128 .bf16 := View.ld x4 (Rect.unit (s := S1x4096x1024) (k0_off14 i) S1x512x128.size (k0_off14_inb i k0_h1))
  let v243 : Vec F S1x256x128 .bf16 := View.ld x3 (Rect.unit (s := S1x256x1024) ![0, 0, 768] S1x256x128.size inb_S1x256x1024_S1x256x128_0_0_768)
  let v246 : Vec F S1x512x128 .bf16 := View.ld x4 (Rect.unit (s := S1x4096x1024) (k0_off15 i) S1x512x128.size (k0_off15_inb i k0_h1))
  let v225 : FVec F S256x256 .f32 := k0_pay74 v219 v222
  let v232 : FVec F S256x256 .f32 := k0_pay75 v219 v222
  let v233 : FVec F S256x256 .f32 := k0_pay76 v219 v222
  let v242 : FVec F S256x256 .f32 := k0_pay77 v2 v219 v222
  let v249 : FVec F S256x256 .f32 := k0_pay79 v243 v246
  let v256 : FVec F S256x256 .f32 := k0_pay80 v243 v246
  let v257 : FVec F S256x256 .f32 := k0_pay81 v243 v246
  let v258 : FVec F S256x256 .f32 := k0_pay82 (F := F)
  let v2 : IVec S256x256 1 := k0_pay130
  let v267 : Vec F S1x256x128 .bf16 := View.ld x3 (Rect.unit (s := S1x256x1024) ![0, 0, 896] S1x256x128.size inb_S1x256x1024_S1x256x128_0_0_896)
  let v270 : Vec F S1x512x128 .bf16 := View.ld x4 (Rect.unit (s := S1x4096x1024) (k0_off16 i) S1x512x128.size (k0_off16_inb i k0_h1))
  let v266 : FVec F S256x256 .f32 := k0_pay83 v2 v257 v258
  let v273 : FVec F S256x256 .f32 := k0_pay85 v267 v270
  let v280 : FVec F S256x256 .f32 := k0_pay86 v267 v270
  let v281 : FVec F S256x256 .f32 := k0_pay87 v267 v270
  let v290 : FVec F S256x256 .f32 := k0_pay88 v2 v267 v270
  let v291 : FVec F S256x256 .bf16 := k0_pay89 v112
  let v292 : FVec F S256x256 .bf16 := k0_pay90 v122
  let v293 : FVec F S256x256 .bf16 := k0_pay91 v136
  let v294 : FVec F S256x256 .bf16 := k0_pay92 v146
  let v295 : FVec F S256x256 .bf16 := k0_pay93 v160
  let v296 : FVec F S256x256 .bf16 := k0_pay94 v170
  let v297 : FVec F S256x256 .bf16 := k0_pay95 v184
  let v298 : FVec F S256x256 .bf16 := k0_pay96 v194
  let v299 : FVec F S256x256 .bf16 := k0_pay97 v208
  let v300 : FVec F S256x256 .bf16 := k0_pay98 v218
  let v301 : FVec F S256x256 .bf16 := k0_pay99 v232
  let v302 : FVec F S256x256 .bf16 := k0_pay100 v242
  let v303 : FVec F S256x256 .bf16 := k0_pay101 v256
  let v304 : FVec F S256x256 .bf16 := k0_pay102 v2 v257 v258
  let v305 : FVec F S256x256 .bf16 := k0_pay103 v267 v270
  let v2 : IVec S256x256 1 := k0_pay130
  let v3 : FVec F S256x1 .f32 := (k0_pay131 (F := F))
  let v4 : FVec F S256x128 .f32 := (k0_pay132 (F := F))
  let v5 : FVec F S256x1 .f32 := (k0_pay133 (F := F))
  let v308 : Vec F S256x256 .bf16 := View.ld x6 (Rect.unit (s := S256x256) ![0, 0] S256x256.size inb_S256x256_S256x256_0_0)
  let v334 : Vec F S1x512x128 .bf16 := View.ld x5 (Rect.unit (s := S1x4096x1024) (k0_off9 i) S1x512x128.size (k0_off9_inb i k0_h1))
  let v309 : FVec F S4096x256 .f32 := k0_pay104 v290 v291 v292 v293 v294 v295 v296 v297 v298 v299 v300 v301 v302 v303 v304 v305 v308
  let v331 : FVec F S256x1 .f32 := k0_pay106 v3 v112 v122
  let v337 : FVec F S256x128 .f32 := k0_pay107 v2 v3 v4 v105 v112 v113 v122 v290 v291 v292 v293 v294 v295 v296 v297 v298 v299 v300 v301 v302 v303 v304 v305 v308 v334
  let v346 : FVec F S256x256 .bf16 := k0_pay108 v2 v5 v137 v146 v290 v291 v292 v293 v294 v295 v296 v297 v298 v299 v300 v301 v302 v303 v304 v305 v308
  let v349 : FVec F S256x1 .f32 := k0_pay109 v5 v146
  let v354 : FVec F S256x256 .f32 := k0_pay110 v5 v129 v136 v146 v290 v291 v292 v293 v294 v295 v296 v297 v298 v299 v300 v301 v302 v303 v304 v305 v308
  let v2 : IVec S256x256 1 := k0_pay130
  let v6 : FVec F S256x128 .f32 := (k0_pay134 (F := F))
  let v7 : FVec F S256x1 .f32 := (k0_pay135 (F := F))
  let v8 : FVec F S256x128 .f32 := (k0_pay136 (F := F))
  let v9 : FVec F S256x1 .f32 := (k0_pay137 (F := F))
  let v362 : Vec F S1x512x128 .bf16 := View.ld x5 (Rect.unit (s := S1x4096x1024) (k0_off10 i) S1x512x128.size (k0_off10_inb i k0_h1))
  let v390 : Vec F S1x512x128 .bf16 := View.ld x5 (Rect.unit (s := S1x4096x1024) (k0_off11 i) S1x512x128.size (k0_off11_inb i k0_h1))
  let v359 : FVec F S256x1 .f32 := k0_pay111 v136 v349
  let v365 : FVec F S256x128 .f32 := k0_pay112 v6 v346 v354 v362
  let v387 : FVec F S256x1 .f32 := k0_pay114 v7 v160 v170
  let v393 : FVec F S256x128 .f32 := k0_pay115 v2 v7 v8 v153 v160 v161 v170 v309 v390
  let v402 : FVec F S256x256 .bf16 := k0_pay116 v2 v9 v185 v194 v309
  let v2 : IVec S256x256 1 := k0_pay130
  let v9 : FVec F S256x1 .f32 := (k0_pay137 (F := F))
  let v10 : FVec F S256x128 .f32 := (k0_pay138 (F := F))
  let v11 : FVec F S256x1 .f32 := (k0_pay139 (F := F))
  let v12 : FVec F S256x128 .f32 := (k0_pay140 (F := F))
  let v418 : Vec F S1x512x128 .bf16 := View.ld x5 (Rect.unit (s := S1x4096x1024) (k0_off12 i) S1x512x128.size (k0_off12_inb i k0_h1))
  let v446 : Vec F S1x512x128 .bf16 := View.ld x5 (Rect.unit (s := S1x4096x1024) (k0_off13 i) S1x512x128.size (k0_off13_inb i k0_h1))
  let v415 : FVec F S256x1 .f32 := k0_pay118 v9 v184 v194
  let v421 : FVec F S256x128 .f32 := k0_pay119 v9 v10 v177 v184 v194 v309 v402 v418
  let v443 : FVec F S256x1 .f32 := k0_pay121 v11 v208 v218
  let v449 : FVec F S256x128 .f32 := k0_pay122 v2 v11 v12 v201 v208 v209 v218 v309 v446
  let v452 : FVec F S256x256 .f32 := k0_pay123 v233 v242 v309
  let v2 : IVec S256x256 1 := k0_pay130
  let v13 : FVec F S256x1 .f32 := (k0_pay141 (F := F))
  let v14 : FVec F S256x128 .f32 := (k0_pay142 (F := F))
  let v15 : FVec F S256x1 .f32 := (k0_pay143 (F := F))
  let v474 : Vec F S1x512x128 .bf16 := View.ld x5 (Rect.unit (s := S1x4096x1024) (k0_off14 i) S1x512x128.size (k0_off14_inb i k0_h1))
  let v471 : FVec F S256x1 .f32 := k0_pay125 v13 v232 v242
  let v477 : FVec F S256x128 .f32 := k0_pay126 v2 v13 v14 v225 v232 v242 v309 v452 v474
  let v499 : FVec F S256x1 .f32 := k0_pay128 v15 v256 v266
  let v500 : FVec F S256x512 .bf16 := k0_pay129 v2 v15 v249 v256 v257 v266 v309
  let v502 : Vec F S1x512x128 .bf16 := View.ld x5 (Rect.unit (s := S1x4096x1024) (k0_off15 i) S1x512x128.size (k0_off15_inb i k0_h1))
  let v530 : Vec F S1x512x128 .bf16 := View.ld x5 (Rect.unit (s := S1x4096x1024) (k0_off16 i) S1x512x128.size (k0_off16_inb i k0_h1))
  (v331, v337, v359, v365, v387, v393, v415, v421, v443, v449, v471, v477, v499, k0_pay150 v500 v502, k0_pay152 v280 v290, k0_pay153 v273 v280 v281 v290 v309 v530)

/-- The first sweep. -/
def startSt (i : grid0.Coords) (x3 : Vec F S1x256x1024 .bf16) (x4 : Vec F S1x4096x1024 .bf16) (x5 : Vec F S1x4096x1024 .bf16) (x6 : Vec F S256x256 .bf16) : St F :=
  if h : k0_cond1 i = 1#1 then diagSt i h x3 x4 x5 x6 else twoSt i h x3 x4 x5 x6

/-- The largest running exponent after the first sweep. -/
def startR (s : St F) : F .f32 :=
  k0_pay156 (s.2.2.2.2.2.2.1) (s.2.2.2.2.2.2.2.2.1) (s.2.2.2.2.2.2.2.2.2.2.1) (s.2.2.2.2.2.2.2.2.2.2.2.2.1) (s.2.2.2.2.2.2.2.2.2.2.2.2.2.2.1) (k0_pay154 (s.1) (s.2.2.1)) (k0_pay155 (s.2.2.2.2.1))

/-- One round of the loop at key block `arg8`: the largest running exponent and the state after it. -/
def stepSt (arg8 : BitVec 32) (k0_hw1 : k0_chk1 arg8) (x3 : Vec F S1x256x1024 .bf16) (x4 : Vec F S1x4096x1024 .bf16) (x5 : Vec F S1x4096x1024 .bf16) (x6 : Vec F S256x256 .bf16) (s : St F) : F .f32 × St F :=
  let arg10 : FVec F S256x1 .f32 := s.1
  let arg11 : FVec F S256x128 .f32 := s.2.1
  let arg12 : FVec F S256x1 .f32 := s.2.2.1
  let arg13 : FVec F S256x128 .f32 := s.2.2.2.1
  let arg14 : FVec F S256x1 .f32 := s.2.2.2.2.1
  let arg15 : FVec F S256x128 .f32 := s.2.2.2.2.2.1
  let arg16 : FVec F S256x1 .f32 := s.2.2.2.2.2.2.1
  let arg17 : FVec F S256x128 .f32 := s.2.2.2.2.2.2.2.1
  let arg18 : FVec F S256x1 .f32 := s.2.2.2.2.2.2.2.2.1
  let arg19 : FVec F S256x128 .f32 := s.2.2.2.2.2.2.2.2.2.1
  let arg20 : FVec F S256x1 .f32 := s.2.2.2.2.2.2.2.2.2.2.1
  let arg21 : FVec F S256x128 .f32 := s.2.2.2.2.2.2.2.2.2.2.2.1
  let arg22 : FVec F S256x1 .f32 := s.2.2.2.2.2.2.2.2.2.2.2.2.1
  let arg23 : FVec F S256x128 .f32 := s.2.2.2.2.2.2.2.2.2.2.2.2.2.1
  let arg24 : FVec F S256x1 .f32 := s.2.2.2.2.2.2.2.2.2.2.2.2.2.2.1
  let arg25 : FVec F S256x128 .f32 := s.2.2.2.2.2.2.2.2.2.2.2.2.2.2.2
  let v99 : Vec F S1x256x128 .bf16 := View.ld x3 (Rect.unit (s := S1x256x1024) ![0, 0, 0] S1x256x128.size inb_S1x256x1024_S1x256x128_0_0_0)
  let v102 : Vec F S1x256x128 .bf16 := View.ld x4 (Rect.unit (s := S1x4096x1024) (k0_off17 arg8) S1x256x128.size (k0_off17_inb arg8 k0_hw1))
  let v112 : Vec F S1x256x128 .bf16 := View.ld x3 (Rect.unit (s := S1x256x1024) ![0, 0, 128] S1x256x128.size inb_S1x256x1024_S1x256x128_0_0_128)
  let v115 : Vec F S1x256x128 .bf16 := View.ld x4 (Rect.unit (s := S1x4096x1024) (k0_off18 arg8) S1x256x128.size (k0_off18_inb arg8 k0_hw1))
  let v125 : Vec F S1x256x128 .bf16 := View.ld x3 (Rect.unit (s := S1x256x1024) ![0, 0, 256] S1x256x128.size inb_S1x256x1024_S1x256x128_0_0_256)
  let v128 : Vec F S1x256x128 .bf16 := View.ld x4 (Rect.unit (s := S1x4096x1024) (k0_off19 arg8) S1x256x128.size (k0_off19_inb arg8 k0_hw1))
  let v104 : FVec F S256x256 .f32 := k0_pay161 v99 v102
  let v111 : FVec F S256x256 .f32 := k0_pay162 v99 v102
  let v117 : FVec F S256x256 .f32 := k0_pay163 v112 v115
  let v124 : FVec F S256x256 .f32 := k0_pay164 v112 v115
  let v130 : FVec F S256x256 .f32 := k0_pay165 v125 v128
  let v138 : Vec F S1x256x128 .bf16 := View.ld x3 (Rect.unit (s := S1x256x1024) ![0, 0, 384] S1x256x128.size inb_S1x256x1024_S1x256x128_0_0_384)
  let v141 : Vec F S1x256x128 .bf16 := View.ld x4 (Rect.unit (s := S1x4096x1024) (k0_off20 arg8) S1x256x128.size (k0_off20_inb arg8 k0_hw1))
  let v151 : Vec F S1x256x128 .bf16 := View.ld x3 (Rect.unit (s := S1x256x1024) ![0, 0, 512] S1x256x128.size inb_S1x256x1024_S1x256x128_0_0_512)
  let v154 : Vec F S1x256x128 .bf16 := View.ld x4 (Rect.unit (s := S1x4096x1024) (k0_off21 arg8) S1x256x128.size (k0_off21_inb arg8 k0_hw1))
  let v164 : Vec F S1x256x128 .bf16 := View.ld x3 (Rect.unit (s := S1x256x1024) ![0, 0, 640] S1x256x128.size inb_S1x256x1024_S1x256x128_0_0_640)
  let v167 : Vec F S1x256x128 .bf16 := View.ld x4 (Rect.unit (s := S1x4096x1024) (k0_off22 arg8) S1x256x128.size (k0_off22_inb arg8 k0_hw1))
  let v137 : FVec F S256x256 .f32 := k0_pay166 v130
  let v143 : FVec F S256x256 .f32 := k0_pay167 v138 v141
  let v150 : FVec F S256x256 .f32 := k0_pay168 v138 v141
  let v156 : FVec F S256x256 .f32 := k0_pay169 v151 v154
  let v163 : FVec F S256x256 .f32 := k0_pay170 v151 v154
  let v165 : FVec F S256x128 .bf16 := k0_pay171 v164
  let v177 : Vec F S1x256x128 .bf16 := View.ld x3 (Rect.unit (s := S1x256x1024) ![0, 0, 768] S1x256x128.size inb_S1x256x1024_S1x256x128_0_0_768)
  let v180 : Vec F S1x256x128 .bf16 := View.ld x4 (Rect.unit (s := S1x4096x1024) (k0_off23 arg8) S1x256x128.size (k0_off23_inb arg8 k0_hw1))
  let v190 : Vec F S1x256x128 .bf16 := View.ld x3 (Rect.unit (s := S1x256x1024) ![0, 0, 896] S1x256x128.size inb_S1x256x1024_S1x256x128_0_0_896)
  let v193 : Vec F S1x256x128 .bf16 := View.ld x4 (Rect.unit (s := S1x4096x1024) (k0_off24 arg8) S1x256x128.size (k0_off24_inb arg8 k0_hw1))
  let v169 : FVec F S256x256 .f32 := k0_pay172 v165 v167
  let v176 : FVec F S256x256 .f32 := k0_pay173 v165 v167
  let v182 : FVec F S256x256 .f32 := k0_pay174 v177 v180
  let v189 : FVec F S256x256 .f32 := k0_pay175 v177 v180
  let v195 : FVec F S256x256 .f32 := k0_pay176 v190 v193
  let v202 : FVec F S256x256 .f32 := k0_pay177 v190 v193
  let v203 : FVec F S256x256 .bf16 := k0_pay178 v111
  let v204 : FVec F S256x256 .bf16 := k0_pay179 v124
  let v205 : FVec F S256x256 .bf16 := k0_pay180 v137
  let v206 : FVec F S256x256 .bf16 := k0_pay181 v150
  let v207 : FVec F S256x256 .bf16 := k0_pay182 v163
  let v208 : FVec F S256x256 .bf16 := k0_pay183 v165 v167
  let v212 : Vec F S256x256 .bf16 := View.ld x6 (Rect.unit (s := S256x256) ![0, 0] S256x256.size inb_S256x256_S256x256_0_0)
  let v225 : Vec F S1x256x128 .bf16 := View.ld x5 (Rect.unit (s := S1x4096x1024) (k0_off17 arg8) S1x256x128.size (k0_off17_inb arg8 k0_hw1))
  let v240 : Vec F S1x256x128 .bf16 := View.ld x5 (Rect.unit (s := S1x4096x1024) (k0_off18 arg8) S1x256x128.size (k0_off18_inb arg8 k0_hw1))
  let v213 : FVec F S2048x256 .f32 := k0_pay184 v189 v202 v203 v204 v205 v206 v207 v208 v212
  let v223 : FVec F S256x1 .f32 := k0_pay185 arg10 v111
  let v228 : FVec F S256x128 .f32 := k0_pay186 arg10 arg11 v104 v111 v189 v202 v203 v204 v205 v206 v207 v208 v212 v225
  let v238 : FVec F S256x1 .f32 := k0_pay187 arg12 v124
  let v243 : FVec F S256x128 .f32 := k0_pay188 arg12 arg13 v117 v124 v189 v202 v203 v204 v205 v206 v207 v208 v212 v240
  let v250 : FVec F S256x256 .bf16 := k0_pay189 arg14 v130 v137 v189 v202 v203 v204 v205 v206 v207 v208 v212
  let v253 : FVec F S256x1 .f32 := k0_pay190 arg14 v137
  let v255 : Vec F S1x256x128 .bf16 := View.ld x5 (Rect.unit (s := S1x4096x1024) (k0_off19 arg8) S1x256x128.size (k0_off19_inb arg8 k0_hw1))
  let v270 : Vec F S1x256x128 .bf16 := View.ld x5 (Rect.unit (s := S1x4096x1024) (k0_off20 arg8) S1x256x128.size (k0_off20_inb arg8 k0_hw1))
  let v285 : Vec F S1x256x128 .bf16 := View.ld x5 (Rect.unit (s := S1x4096x1024) (k0_off21 arg8) S1x256x128.size (k0_off21_inb arg8 k0_hw1))
  let v300 : Vec F S1x256x128 .bf16 := View.ld x5 (Rect.unit (s := S1x4096x1024) (k0_off22 arg8) S1x256x128.size (k0_off22_inb arg8 k0_hw1))
  let cst_131 : FVec F S256x128 .f32 := constant S256x128 .f32 0x00000000#32
  let v258 : FVec F S256x128 .f32 := k0_pay191 arg15 v250 v255
  let v268 : FVec F S256x1 .f32 := k0_pay192 arg16 v150
  let v273 : FVec F S256x128 .f32 := k0_pay193 arg16 arg17 v143 v150 v213 v270
  let v283 : FVec F S256x1 .f32 := k0_pay194 arg18 v163
  let v288 : FVec F S256x128 .f32 := k0_pay195 arg18 arg19 v156 v163 v213 v285
  let v295 : FVec F S256x256 .bf16 := k0_pay196 arg20 v169 v176 v213
  let v298 : FVec F S256x1 .f32 := k0_pay197 arg20 v176
  let v301 : FVec F S256x128 .bf16 := k0_pay198 v300
  let v315 : Vec F S1x256x128 .bf16 := View.ld x5 (Rect.unit (s := S1x4096x1024) (k0_off23 arg8) S1x256x128.size (k0_off23_inb arg8 k0_hw1))
  let v330 : Vec F S1x256x128 .bf16 := View.ld x5 (Rect.unit (s := S1x4096x1024) (k0_off24 arg8) S1x256x128.size (k0_off24_inb arg8 k0_hw1))
  let v303 : FVec F S256x128 .f32 := k0_pay199 arg21 v295 v301 cst_131
  let v313 : FVec F S256x1 .f32 := k0_pay200 arg22 v189
  let v318 : FVec F S256x128 .f32 := k0_pay201 arg22 arg23 v182 v189 v213 v315
  let v328 : FVec F S256x1 .f32 := k0_pay202 arg24 v202
  let v333 : FVec F S256x128 .f32 := k0_pay203 arg24 arg25 v195 v202 v213 v330
  let v348 : F .f32 := k0_pay204 v223 v238 v253
  let v349 : FVec F S1x256x1 .f32 := k0_pay205 v268
  (k0_pay6 v283 v298 v313 v328 v348 v349, v223, v228, v238, v243, v253, v258, v268, v273, v283, v288, v298, v303, v313, v318, v328, v333)

/-- The loop's test. -/
def loopTest (arg8 : BitVec 32) (arg9 : F .f32) : BitVec 1 :=
  Scalar.andi (Scalar.cmpi .sge arg8 0#32) (Scalar.cmpf .ogt arg9 (Named.named κ "prune" 0xC2D00000#32))

/-- What the loop returns. -/
abbrev W (F : FTy → Type) : Type := BitVec 32 × F .f32 × St F

/-- The loop from key block `kb`, in at most `n` rounds. -/
def resN (x3 : Vec F S1x256x1024 .bf16) (x4 : Vec F S1x4096x1024 .bf16) (x5 : Vec F S1x4096x1024 .bf16) (x6 : Vec F S256x256 .bf16) : ℕ → BitVec 32 → F .f32 → St F → W F
  | 0, kb, r, s => (kb, r, s)
  | n + 1, kb, r, s =>
    if h : loopTest kb r = 1#1 ∧ k0_chk1 kb then
      resN x3 x4 x5 x6 n (Scalar.subi kb 1#32) (stepSt kb h.2 x3 x4 x5 x6 s).1 (stepSt kb h.2 x3 x4 x5 x6 s).2
    else (kb, r, s)

/-- The output block after the loop: its eight stores, last first. -/
def outOf (w : W F) : Vec F S1x256x1024 .bf16 :=
  View.canon [⟨Rect.unit (s := S1x256x1024) ![0, 0, 896] S1x256x128.size inb_S1x256x1024_S1x256x128_0_0_896, k0_pay5 (w.2.2.2.2.2.2.2.2.2.2.2.2.2.2.2.2.2)⟩,
    ⟨Rect.unit (s := S1x256x1024) ![0, 0, 768] S1x256x128.size inb_S1x256x1024_S1x256x128_0_0_768, k0_pay4 (w.2.2.2.2.2.2.2.2.2.2.2.2.2.2.2.1)⟩,
    ⟨Rect.unit (s := S1x256x1024) ![0, 0, 640] S1x256x128.size inb_S1x256x1024_S1x256x128_0_0_640, k0_pay3 (w.2.2.2.2.2.2.2.2.2.2.2.2.2.1)⟩,
    ⟨Rect.unit (s := S1x256x1024) ![0, 0, 512] S1x256x128.size inb_S1x256x1024_S1x256x128_0_0_512, k0_pay2 (w.2.2.2.2.2.2.2.2.2.2.2.1)⟩,
    ⟨Rect.unit (s := S1x256x1024) ![0, 0, 384] S1x256x128.size inb_S1x256x1024_S1x256x128_0_0_384, k0_pay1 (k0_pay160 (w.2.2.2.2.2.2.2.2.2.1))⟩,
    ⟨Rect.unit (s := S1x256x1024) ![0, 0, 256] S1x256x128.size inb_S1x256x1024_S1x256x128_0_0_256, k0_pay159 (w.2.2.2.2.2.2.2.1)⟩,
    ⟨Rect.unit (s := S1x256x1024) ![0, 0, 128] S1x256x128.size inb_S1x256x1024_S1x256x128_0_0_128, k0_pay158 (w.2.2.2.2.2.1)⟩,
    ⟨Rect.unit (s := S1x256x1024) ![0, 0, 0] S1x256x128.size inb_S1x256x1024_S1x256x128_0_0_0, k0_pay157 (w.2.2.2.1)⟩]

/-- The output block at a point. -/
def outBlk (i : grid0.Coords) (x3 : Vec F S1x256x1024 .bf16) (x4 : Vec F S1x4096x1024 .bf16) (x5 : Vec F S1x4096x1024 .bf16) (x6 : Vec F S256x256 .bf16) : Vec F S1x256x1024 .bf16 :=
  outOf (resN x3 x4 x5 x6 15 (Scalar.subi (BitVec.ofNat 32 (i 2).val) 2#32) (startR (startSt i x3 x4 x5 x6)) (startSt i x3 x4 x5 x6))

theorem cover_out (p0 p1 p2 p3 p4 p5 p6 p7 : Vec F S1x256x128 .bf16) (y : S1x256x1024.Idx) :
    ∃ pc ∈ ([⟨Rect.unit (s := S1x256x1024) ![0, 0, 896] S1x256x128.size inb_S1x256x1024_S1x256x128_0_0_896, p7⟩, ⟨Rect.unit (s := S1x256x1024) ![0, 0, 768] S1x256x128.size inb_S1x256x1024_S1x256x128_0_0_768, p6⟩, ⟨Rect.unit (s := S1x256x1024) ![0, 0, 640] S1x256x128.size inb_S1x256x1024_S1x256x128_0_0_640, p5⟩, ⟨Rect.unit (s := S1x256x1024) ![0, 0, 512] S1x256x128.size inb_S1x256x1024_S1x256x128_0_0_512, p4⟩, ⟨Rect.unit (s := S1x256x1024) ![0, 0, 384] S1x256x128.size inb_S1x256x1024_S1x256x128_0_0_384, p3⟩, ⟨Rect.unit (s := S1x256x1024) ![0, 0, 256] S1x256x128.size inb_S1x256x1024_S1x256x128_0_0_256, p2⟩, ⟨Rect.unit (s := S1x256x1024) ![0, 0, 128] S1x256x128.size inb_S1x256x1024_S1x256x128_0_0_128, p1⟩, ⟨Rect.unit (s := S1x256x1024) ![0, 0, 0] S1x256x128.size inb_S1x256x1024_S1x256x128_0_0_0, p0⟩] : List (View.Piece (Elt F) S1x256x1024 .bf16)), y ∈ pc.1.set :=
  View.cover_of_tiledL [⟨Rect.unit (s := S1x256x1024) ![0, 0, 896] S1x256x128.size inb_S1x256x1024_S1x256x128_0_0_896, p7⟩, ⟨Rect.unit (s := S1x256x1024) ![0, 0, 768] S1x256x128.size inb_S1x256x1024_S1x256x128_0_0_768, p6⟩, ⟨Rect.unit (s := S1x256x1024) ![0, 0, 640] S1x256x128.size inb_S1x256x1024_S1x256x128_0_0_640, p5⟩, ⟨Rect.unit (s := S1x256x1024) ![0, 0, 512] S1x256x128.size inb_S1x256x1024_S1x256x128_0_0_512, p4⟩, ⟨Rect.unit (s := S1x256x1024) ![0, 0, 384] S1x256x128.size inb_S1x256x1024_S1x256x128_0_0_384, p3⟩, ⟨Rect.unit (s := S1x256x1024) ![0, 0, 256] S1x256x128.size inb_S1x256x1024_S1x256x128_0_0_256, p2⟩, ⟨Rect.unit (s := S1x256x1024) ![0, 0, 128] S1x256x128.size inb_S1x256x1024_S1x256x128_0_0_128, p1⟩, ⟨Rect.unit (s := S1x256x1024) ![0, 0, 0] S1x256x128.size inb_S1x256x1024_S1x256x128_0_0_0, p0⟩] S1x256x128.size (by sl_kernel_rfl) y

/-- The loop's key blocks lie in the arrays. -/
theorem chk_all : ∀ k : Fin 16, k0_chk1 (BitVec.ofNat 32 k.val) := by decide +kernel

/-- The four blocks the body reads. -/
def held (c : Dev nD) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (x3 : Vec F S1x256x1024 .bf16) (x4 : Vec F S1x4096x1024 .bf16) (x5 : Vec F S1x4096x1024 .bf16) (x6 : Vec F S256x256 .bf16) : sProp 𝕄 :=
  iprop(owns (c : Thread nD τ) arg3 fullShare x3 ∗ owns (c : Thread nD τ) arg4 fullShare x4 ∗ owns (c : Thread nD τ) arg5 fullShare x5 ∗ owns (c : Thread nD τ) arg6 fullShare x6)

def loopSpec (c : Dev nD) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (x3 : Vec F S1x256x1024 .bf16) (x4 : Vec F S1x4096x1024 .bf16) (x5 : Vec F S1x4096x1024 .bf16) (x6 : Vec F S256x256 .bf16) (w : W F) : sWPT 𝕄 (W F) := do
  sWPT.consume (held c arg3 harg3 arg4 harg4 arg5 harg5 arg6 harg6 x3 x4 x5 x6)
  sWPT.produce (held c arg3 harg3 arg4 harg4 arg5 harg5 arg6 harg6 x3 x4 x5 x6)
  pure w

theorem loopSpec_apply (c : Dev nD) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (x3 : Vec F S1x256x1024 .bf16) (x4 : Vec F S1x4096x1024 .bf16) (x5 : Vec F S1x4096x1024 .bf16) (x6 : Vec F S256x256 .bf16) (w : W F) (K : W F → sProp 𝕄) :
    loopSpec c arg3 harg3 arg4 harg4 arg5 harg5 arg6 harg6 x3 x4 x5 x6 w K
      = iprop(held c arg3 harg3 arg4 harg4 arg5 harg5 arg6 harg6 x3 x4 x5 x6 ∗ (held c arg3 harg3 arg4 harg4 arg5 harg5 arg6 harg6 x3 x4 x5 x6 -∗ K w)) := rfl

theorem loopTest_le (kb : BitVec 32) (r : F .f32) (h : kb.toInt < 0) : ¬ loopTest kb r = 1#1 := by
  have h0 : Scalar.cmpi .sge kb 0#32 = 0#1 := by
    have h1 : ¬ (0#32).sle kb = true := by simp [BitVec.sle_eq_decide]; omega
    show BitVec.ofBool ((0#32).sle kb) = 0#1
    simp only [Bool.not_eq_true] at h1
    rw [h1]; rfl
  unfold loopTest
  rw [h0]
  exact (by decide : ∀ b : BitVec 1, ¬ Scalar.andi 0#1 b = 1#1) _

theorem loopTest_ge (kb : BitVec 32) (r : F .f32) (h : loopTest kb r = 1#1) : 0 ≤ kb.toInt := by
  by_contra hc
  exact loopTest_le kb r (by omega) h

theorem chk_of (kb : BitVec 32) (h0 : 0 ≤ kb.toInt) (h1 : kb.toInt < 16) : k0_chk1 kb := by
  have e : kb = BitVec.ofNat 32 kb.toInt.toNat := by
    apply BitVec.eq_of_toInt_eq
    have h2 : (BitVec.ofNat 32 kb.toInt.toNat).toInt = Int.bmod kb.toInt.toNat (2 ^ 32) := BitVec.toInt_ofNat ..
    rw [h2]
    simp only [Int.bmod]
    omega
  rw [e]
  exact chk_all ⟨kb.toInt.toNat, by omega⟩

theorem subi_one (kb : BitVec 32) (h0 : 0 ≤ kb.toInt) : (Scalar.subi kb 1#32).toInt = kb.toInt - 1 := by
  have h := BitVec.toInt_lt (x := kb)
  have h2 : (kb - 1#32).toInt = Int.bmod (kb.toInt - (1#32).toInt) (2 ^ 32) := BitVec.toInt_sub ..
  show (kb - 1#32).toInt = _
  rw [h2, show (1#32).toInt = 1 from rfl]
  simp only [Int.bmod]
  omega

theorem resN_step (x3 : Vec F S1x256x1024 .bf16) (x4 : Vec F S1x4096x1024 .bf16) (x5 : Vec F S1x4096x1024 .bf16) (x6 : Vec F S256x256 .bf16) (n : ℕ) (kb : BitVec 32) (r : F .f32) (s : St F) (h : loopTest kb r = 1#1) (h' : k0_chk1 kb) :
    resN x3 x4 x5 x6 (n + 1) kb r s = resN x3 x4 x5 x6 n (Scalar.subi kb 1#32) (stepSt kb h' x3 x4 x5 x6 s).1 (stepSt kb h' x3 x4 x5 x6 s).2 := by
  rw [resN, dif_pos ⟨h, h'⟩]

theorem resN_stop (x3 : Vec F S1x256x1024 .bf16) (x4 : Vec F S1x4096x1024 .bf16) (x5 : Vec F S1x4096x1024 .bf16) (x6 : Vec F S256x256 .bf16) (n : ℕ) (kb : BitVec 32) (r : F .f32) (s : St F) (h : ¬ loopTest kb r = 1#1) :
    resN x3 x4 x5 x6 n kb r s = (kb, r, s) := by
  cases n with
  | zero => rfl
  | succ n => rw [resN, dif_neg (fun hh => h hh.1)]

set_option maxHeartbeats 8000000 in
/-- The loop's body meets the specification, by induction on the rounds left. -/
theorem loop_le (c : Dev nD) (E : Set ℕ) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (x3 : Vec F S1x256x1024 .bf16) (x4 : Vec F S1x4096x1024 .bf16) (x5 : Vec F S1x4096x1024 .bf16) (x6 : Vec F S256x256 .bf16) :
    ∀ (n : ℕ) (arg8 : BitVec 32), arg8.toInt < n → arg8.toInt < 16 → ∀ (arg9 : F .f32) (arg10 : FVec F S256x1 .f32) (arg11 : FVec F S256x128 .f32) (arg12 : FVec F S256x1 .f32) (arg13 : FVec F S256x128 .f32) (arg14 : FVec F S256x1 .f32) (arg15 : FVec F S256x128 .f32) (arg16 : FVec F S256x1 .f32) (arg17 : FVec F S256x128 .f32) (arg18 : FVec F S256x1 .f32) (arg19 : FVec F S256x128 .f32) (arg20 : FVec F S256x1 .f32) (arg21 : FVec F S256x128 .f32) (arg22 : FVec F S256x1 .f32) (arg23 : FVec F S256x128 .f32) (arg24 : FVec F S256x1 .f32) (arg25 : FVec F S256x128 .f32) (K : W F → sProp 𝕄),
      loopSpec c arg3 harg3 arg4 harg4 arg5 harg5 arg6 harg6 x3 x4 x5 x6 (resN x3 x4 x5 x6 n arg8 arg9 (arg10, arg11, arg12, arg13, arg14, arg15, arg16, arg17, arg18, arg19, arg20, arg21, arg22, arg23, arg24, arg25)) K
      ⊢ wp frame (wpE (defs₀ (F := F)) Variants.nat (c : Thread nD τ) (some n)) E
          (defs₀ (F := F) .tc 1 ⟨i, arg3, harg3, arg4, harg4, arg6, harg6, arg5, harg5, arg8, arg9, arg10, arg11, arg12, arg13, arg14, arg15, arg16, arg17, arg18, arg19, arg20, arg21, arg22, arg23, arg24, arg25⟩) K := by
  intro n
  induction n with
  | zero =>
    intro arg8 hk hk' arg9 arg10 arg11 arg12 arg13 arg14 arg15 arg16 arg17 arg18 arg19 arg20 arg21 arg22 arg23 arg24 arg25 K
    rw [loopSpec_apply]
    show _ ⊢ wp frame (wpE (defs₀ (F := F)) Variants.nat (c : Thread nD τ) (some 0)) E
      (cc0_while1 i arg3 harg3 arg4 harg4 arg6 harg6 arg5 harg5 arg8 arg9 arg10 arg11 arg12 arg13 arg14 arg15 arg16 arg17 arg18 arg19 arg20 arg21 arg22 arg23 arg24 arg25) K
    simp only [cc0_while1_eq_skeleton]; unfold cc0_while1_skel
    have ht : ¬ loopTest arg8 arg9 = 1#1 := loopTest_le arg8 arg9 (by simpa using hk)
    unfold loopTest at ht
    simp only [ht, ↓reduceIte, Prog.pure_eq_ret]
    have e : resN x3 x4 x5 x6 0 arg8 arg9 (arg10, arg11, arg12, arg13, arg14, arg15, arg16, arg17, arg18, arg19, arg20, arg21, arg22, arg23, arg24, arg25) = (arg8, arg9, arg10, arg11, arg12, arg13, arg14, arg15, arg16, arg17, arg18, arg19, arg20, arg21, arg22, arg23, arg24, arg25) := rfl
    rw [e]
    iintro ⟨H, Hk⟩
    rw [wp_ret]; imodintro
    iapply Hk
    iexact H
  | succ n ih =>
    intro arg8 hk hk' arg9 arg10 arg11 arg12 arg13 arg14 arg15 arg16 arg17 arg18 arg19 arg20 arg21 arg22 arg23 arg24 arg25 K
    rw [loopSpec_apply]
    show _ ⊢ wp frame (wpE (defs₀ (F := F)) Variants.nat (c : Thread nD τ) (some (n + 1))) E
      (cc0_while1 i arg3 harg3 arg4 harg4 arg6 harg6 arg5 harg5 arg8 arg9 arg10 arg11 arg12 arg13 arg14 arg15 arg16 arg17 arg18 arg19 arg20 arg21 arg22 arg23 arg24 arg25) K
    simp only [cc0_while1_eq_skeleton]; unfold cc0_while1_skel
    by_cases ht : loopTest arg8 arg9 = 1#1
    · have h0 := loopTest_ge arg8 arg9 ht
      have hchk := chk_of arg8 h0 hk'
      rw [resN_step x3 x4 x5 x6 n arg8 arg9 _ ht hchk]
      unfold loopTest at ht
      simp only [ht, ↓reduceIte]
      simp only [k0_part18_eq_skeleton, k0_part19_eq_skeleton, k0_part20_eq_skeleton, k0_part21_eq_skeleton, k0_part22_eq_skeleton, k0_part23_eq_skeleton]
      unfold held owns
      iintro ⟨⟨⟨%f3, %hf3, H3⟩, ⟨%f4, %hf4, H4⟩, ⟨%f5, %hf5, H5⟩, ⟨%f6, %hf6, H6⟩⟩, Hk⟩
      subst hf3 hf4 hf5 hf6
      sl_exec
      iapply (wp_call_spec Variants.nat (c : Thread nD τ) (some (n + 1)) E
        (loopSpec c arg3 harg3 arg4 harg4 arg5 harg5 arg6 harg6 (arg3.view.read (Elt F) f3) (arg4.view.read (Elt F) f4) (arg5.view.read (Elt F) f5) (arg6.view.read (Elt F) f6) (resN (arg3.view.read (Elt F) f3) (arg4.view.read (Elt F) f4) (arg5.view.read (Elt F) f5) (arg6.view.read (Elt F) f6) n (Scalar.subi arg8 1#32) (stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).1 (stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2)) n
        (fun u hu => by cases hu; exact Nat.lt_succ_self n)
        (ih (Scalar.subi arg8 1#32) (by rw [subi_one _ h0]; omega) (by rw [subi_one _ h0]; omega) (stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).1 ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.2.2.2.2.2.1) ((stepSt arg8 hchk (arg3.view.read (Elt F) f3) (arg4.view.read (Elt F) f4) (arg5.view.read (Elt F) f5) (arg6.view.read (Elt F) f6) (arg10, arg11, arg12, arg13, arg14, arg15, arg16, arg17, arg18, arg19, arg20, arg21, arg22, arg23, arg24, arg25)).2.2.2.2.2.2.2.2.2.2.2.2.2.2.2.2)))
      rw [loopSpec_apply]
      unfold held owns
      isplitl [H3 H4 H5 H6]
      · isplitl [H3]
        · iexists f3; isplitr; · ipureintro; rfl
          iexact H3
        isplitl [H4]
        · iexists f4; isplitr; · ipureintro; rfl
          iexact H4
        isplitl [H5]
        · iexists f5; isplitr; · ipureintro; rfl
          iexact H5
        iexists f6; isplitr; · ipureintro; rfl
        iexact H6
      iintro H
      rw [wp_ret]; imodintro
      iapply Hk
      iexact H
    · rw [resN_stop _ _ _ _ _ _ _ _ ht]
      unfold loopTest at ht
      simp only [ht, ↓reduceIte, Prog.pure_eq_ret]
      iintro ⟨H, Hk⟩
      rw [wp_ret]; imodintro
      iapply Hk
      iexact H

theorem N_i (i : grid0.Coords) : (Scalar.subi (BitVec.ofNat 32 (i 2).val) 2#32).toInt < (15 : ℕ) ∧ (Scalar.subi (BitVec.ofNat 32 (i 2).val) 2#32).toInt < 16 := by
  have h : ∀ k : Fin 16, (Scalar.subi (BitVec.ofNat 32 k.val) 2#32).toInt < (15 : ℕ) ∧ (Scalar.subi (BitVec.ofNat 32 k.val) 2#32).toInt < 16 := by decide
  exact h (i 2)

set_option maxHeartbeats 16000000 in
/-- The body at a point of the first query blocks. -/
theorem sound_diag (c : Dev nD) (E : Set ℕ) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (arg7 : Memref sig .tc .vmem S1x256x1024 .bf16) (harg7 : arg7.IsWhole) (x3 : Vec F S1x256x1024 .bf16) (x4 : Vec F S1x4096x1024 .bf16) (x5 : Vec F S1x4096x1024 .bf16) (x6 : Vec F S256x256 .bf16) (K : PUnit → sProp 𝕄) (hc : k0_cond1 i = 1#1) :
    iprop(held c arg3 harg3 arg4 harg4 arg5 harg5 arg6 harg6 x3 x4 x5 x6 ∗ (∃ d, owns (c : Thread nD τ) arg7 fullShare d)
        ∗ (iprop(held c arg3 harg3 arg4 harg4 arg5 harg5 arg6 harg6 x3 x4 x5 x6 ∗ owns (c : Thread nD τ) arg7 fullShare (outBlk i x3 x4 x5 x6)) -∗ K ⟨⟩))
      ⊢ wp frame (wpE (defs₀ (F := F)) Variants.nat c none) E (cc0_attention i arg3 harg3 arg4 harg4 arg5 harg5 arg6 harg6 arg7 harg7) K := by
  have hN := N_i i
  rw [show outBlk i x3 x4 x5 x6 = outOf (resN x3 x4 x5 x6 15 (Scalar.subi (BitVec.ofNat 32 (i 2).val) 2#32) (startR (diagSt i hc x3 x4 x5 x6)) (diagSt i hc x3 x4 x5 x6)) by
    unfold outBlk startSt; rw [dif_pos hc]]
  simp only [cc0_attention_eq_skeleton]; unfold cc0_attention_skel
  simp only [k0_part16_eq_skeleton, k0_part17_eq_skeleton]
  unfold k0_part16_skel k0_part17_skel
  simp only [hc, ↓reduceDIte]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold held owns
  iintro ⟨⟨⟨%f3, %hf3, H3⟩, ⟨%f4, %hf4, H4⟩, ⟨%f5, %hf5, H5⟩, ⟨%f6, %hf6, H6⟩⟩, ⟨%d7, %f7, -, H7⟩, Hk⟩
  subst hf3 hf4 hf5 hf6
  sl_exec
  iapply (wp_call_spec Variants.nat (c : Thread nD τ) none E
    (loopSpec c arg3 harg3 arg4 harg4 arg5 harg5 arg6 harg6 (arg3.view.read (Elt F) f3) (arg4.view.read (Elt F) f4) (arg5.view.read (Elt F) f5) (arg6.view.read (Elt F) f6) (resN (arg3.view.read (Elt F) f3) (arg4.view.read (Elt F) f4) (arg5.view.read (Elt F) f5) (arg6.view.read (Elt F) f6) 15 (Scalar.subi (BitVec.ofNat 32 (i 2).val) 2#32) (startR (diagSt i hc (arg3.view.read (Elt F) f3) (arg4.view.read (Elt F) f4) (arg5.view.read (Elt F) f5) (arg6.view.read (Elt F) f6))) (diagSt i hc (arg3.view.read (Elt F) f3) (arg4.view.read (Elt F) f4) (arg5.view.read (Elt F) f5) (arg6.view.read (Elt F) f6)))) 15
    (fun u hu => nomatch hu)
    (loop_le c E i arg3 harg3 arg4 harg4 arg5 harg5 arg6 harg6 _ _ _ _ 15 (Scalar.subi (BitVec.ofNat 32 (i 2).val) 2#32) hN.1 hN.2 (startR (diagSt i hc (arg3.view.read (Elt F) f3) (arg4.view.read (Elt F) f4) (arg5.view.read (Elt F) f5) (arg6.view.read (Elt F) f6))) ((diagSt i hc (arg3.view.read (Elt F) f3) (arg4.view.read (Elt F) f4) (arg5.view.read (Elt F) f5) (arg6.view.read (Elt F) f6)).1) ((diagSt i hc (arg3.view.read (Elt F) f3) (arg4.view.read (Elt F) f4) (arg5.view.read (Elt F) f5) (arg6.view.read (Elt F) f6)).2.1) ((diagSt i hc (arg3.view.read (Elt F) f3) (arg4.view.read (Elt F) f4) (arg5.view.read (Elt F) f5) (arg6.view.read (Elt F) f6)).2.2.1) ((diagSt i hc (arg3.view.read (Elt F) f3) (arg4.view.read (Elt F) f4) (arg5.view.read (Elt F) f5) (arg6.view.read (Elt F) f6)).2.2.2.1) ((diagSt i hc (arg3.view.read (Elt F) f3) (arg4.view.read (Elt F) f4) (arg5.view.read (Elt F) f5) (arg6.view.read (Elt F) f6)).2.2.2.2.1) ((diagSt i hc (arg3.view.read (Elt F) f3) (arg4.view.read (Elt F) f4) (arg5.view.read (Elt F) f5) (arg6.view.read (Elt F) f6)).2.2.2.2.2.1) ((diagSt i hc (arg3.view.read (Elt F) f3) (arg4.view.read (Elt F) f4) (arg5.view.read (Elt F) f5) (arg6.view.read (Elt F) f6)).2.2.2.2.2.2.1) ((diagSt i hc (arg3.view.read (Elt F) f3) (arg4.view.read (Elt F) f4) (arg5.view.read (Elt F) f5) (arg6.view.read (Elt F) f6)).2.2.2.2.2.2.2.1) ((diagSt i hc (arg3.view.read (Elt F) f3) (arg4.view.read (Elt F) f4) (arg5.view.read (Elt F) f5) (arg6.view.read (Elt F) f6)).2.2.2.2.2.2.2.2.1) ((diagSt i hc (arg3.view.read (Elt F) f3) (arg4.view.read (Elt F) f4) (arg5.view.read (Elt F) f5) (arg6.view.read (Elt F) f6)).2.2.2.2.2.2.2.2.2.1) ((diagSt i hc (arg3.view.read (Elt F) f3) (arg4.view.read (Elt F) f4) (arg5.view.read (Elt F) f5) (arg6.view.read (Elt F) f6)).2.2.2.2.2.2.2.2.2.2.1) ((diagSt i hc (arg3.view.read (Elt F) f3) (arg4.view.read (Elt F) f4) (arg5.view.read (Elt F) f5) (arg6.view.read (Elt F) f6)).2.2.2.2.2.2.2.2.2.2.2.1) ((diagSt i hc (arg3.view.read (Elt F) f3) (arg4.view.read (Elt F) f4) (arg5.view.read (Elt F) f5) (arg6.view.read (Elt F) f6)).2.2.2.2.2.2.2.2.2.2.2.2.1) ((diagSt i hc (arg3.view.read (Elt F) f3) (arg4.view.read (Elt F) f4) (arg5.view.read (Elt F) f5) (arg6.view.read (Elt F) f6)).2.2.2.2.2.2.2.2.2.2.2.2.2.1) ((diagSt i hc (arg3.view.read (Elt F) f3) (arg4.view.read (Elt F) f4) (arg5.view.read (Elt F) f5) (arg6.view.read (Elt F) f6)).2.2.2.2.2.2.2.2.2.2.2.2.2.2.1) ((diagSt i hc (arg3.view.read (Elt F) f3) (arg4.view.read (Elt F) f4) (arg5.view.read (Elt F) f5) (arg6.view.read (Elt F) f6)).2.2.2.2.2.2.2.2.2.2.2.2.2.2.2)))
  rw [loopSpec_apply]
  unfold held owns
  isplitl [H3 H4 H5 H6]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iintro H
  sl_exec
  sl_step
  iapply Hk
  isplitl [H]
  · iexact H
  iexists _; isplitr
  swap; · iexact H7
  ipureintro
  exact View.read_writes_eq_canon _ _ _ (cover_out _ _ _ _ _ _ _ _)

set_option maxHeartbeats 16000000 in
/-- The body at a point of the later query blocks. -/
theorem sound_two (c : Dev nD) (E : Set ℕ) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (arg7 : Memref sig .tc .vmem S1x256x1024 .bf16) (harg7 : arg7.IsWhole) (x3 : Vec F S1x256x1024 .bf16) (x4 : Vec F S1x4096x1024 .bf16) (x5 : Vec F S1x4096x1024 .bf16) (x6 : Vec F S256x256 .bf16) (K : PUnit → sProp 𝕄) (hc : ¬(k0_cond1 i = 1#1)) :
    iprop(held c arg3 harg3 arg4 harg4 arg5 harg5 arg6 harg6 x3 x4 x5 x6 ∗ (∃ d, owns (c : Thread nD τ) arg7 fullShare d)
        ∗ (iprop(held c arg3 harg3 arg4 harg4 arg5 harg5 arg6 harg6 x3 x4 x5 x6 ∗ owns (c : Thread nD τ) arg7 fullShare (outBlk i x3 x4 x5 x6)) -∗ K ⟨⟩))
      ⊢ wp frame (wpE (defs₀ (F := F)) Variants.nat c none) E (cc0_attention i arg3 harg3 arg4 harg4 arg5 harg5 arg6 harg6 arg7 harg7) K := by
  have hN := N_i i
  rw [show outBlk i x3 x4 x5 x6 = outOf (resN x3 x4 x5 x6 15 (Scalar.subi (BitVec.ofNat 32 (i 2).val) 2#32) (startR (twoSt i hc x3 x4 x5 x6)) (twoSt i hc x3 x4 x5 x6)) by
    unfold outBlk startSt; rw [dif_neg hc]]
  simp only [cc0_attention_eq_skeleton]; unfold cc0_attention_skel
  simp only [k0_part16_eq_skeleton, k0_part17_eq_skeleton]
  unfold k0_part16_skel k0_part17_skel
  simp only [hc, ↓reduceDIte]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold held owns
  iintro ⟨⟨⟨%f3, %hf3, H3⟩, ⟨%f4, %hf4, H4⟩, ⟨%f5, %hf5, H5⟩, ⟨%f6, %hf6, H6⟩⟩, ⟨%d7, %f7, -, H7⟩, Hk⟩
  subst hf3 hf4 hf5 hf6
  sl_exec
  iapply (wp_call_spec Variants.nat (c : Thread nD τ) none E
    (loopSpec c arg3 harg3 arg4 harg4 arg5 harg5 arg6 harg6 (arg3.view.read (Elt F) f3) (arg4.view.read (Elt F) f4) (arg5.view.read (Elt F) f5) (arg6.view.read (Elt F) f6) (resN (arg3.view.read (Elt F) f3) (arg4.view.read (Elt F) f4) (arg5.view.read (Elt F) f5) (arg6.view.read (Elt F) f6) 15 (Scalar.subi (BitVec.ofNat 32 (i 2).val) 2#32) (startR (twoSt i hc (arg3.view.read (Elt F) f3) (arg4.view.read (Elt F) f4) (arg5.view.read (Elt F) f5) (arg6.view.read (Elt F) f6))) (twoSt i hc (arg3.view.read (Elt F) f3) (arg4.view.read (Elt F) f4) (arg5.view.read (Elt F) f5) (arg6.view.read (Elt F) f6)))) 15
    (fun u hu => nomatch hu)
    (loop_le c E i arg3 harg3 arg4 harg4 arg5 harg5 arg6 harg6 _ _ _ _ 15 (Scalar.subi (BitVec.ofNat 32 (i 2).val) 2#32) hN.1 hN.2 (startR (twoSt i hc (arg3.view.read (Elt F) f3) (arg4.view.read (Elt F) f4) (arg5.view.read (Elt F) f5) (arg6.view.read (Elt F) f6))) ((twoSt i hc (arg3.view.read (Elt F) f3) (arg4.view.read (Elt F) f4) (arg5.view.read (Elt F) f5) (arg6.view.read (Elt F) f6)).1) ((twoSt i hc (arg3.view.read (Elt F) f3) (arg4.view.read (Elt F) f4) (arg5.view.read (Elt F) f5) (arg6.view.read (Elt F) f6)).2.1) ((twoSt i hc (arg3.view.read (Elt F) f3) (arg4.view.read (Elt F) f4) (arg5.view.read (Elt F) f5) (arg6.view.read (Elt F) f6)).2.2.1) ((twoSt i hc (arg3.view.read (Elt F) f3) (arg4.view.read (Elt F) f4) (arg5.view.read (Elt F) f5) (arg6.view.read (Elt F) f6)).2.2.2.1) ((twoSt i hc (arg3.view.read (Elt F) f3) (arg4.view.read (Elt F) f4) (arg5.view.read (Elt F) f5) (arg6.view.read (Elt F) f6)).2.2.2.2.1) ((twoSt i hc (arg3.view.read (Elt F) f3) (arg4.view.read (Elt F) f4) (arg5.view.read (Elt F) f5) (arg6.view.read (Elt F) f6)).2.2.2.2.2.1) ((twoSt i hc (arg3.view.read (Elt F) f3) (arg4.view.read (Elt F) f4) (arg5.view.read (Elt F) f5) (arg6.view.read (Elt F) f6)).2.2.2.2.2.2.1) ((twoSt i hc (arg3.view.read (Elt F) f3) (arg4.view.read (Elt F) f4) (arg5.view.read (Elt F) f5) (arg6.view.read (Elt F) f6)).2.2.2.2.2.2.2.1) ((twoSt i hc (arg3.view.read (Elt F) f3) (arg4.view.read (Elt F) f4) (arg5.view.read (Elt F) f5) (arg6.view.read (Elt F) f6)).2.2.2.2.2.2.2.2.1) ((twoSt i hc (arg3.view.read (Elt F) f3) (arg4.view.read (Elt F) f4) (arg5.view.read (Elt F) f5) (arg6.view.read (Elt F) f6)).2.2.2.2.2.2.2.2.2.1) ((twoSt i hc (arg3.view.read (Elt F) f3) (arg4.view.read (Elt F) f4) (arg5.view.read (Elt F) f5) (arg6.view.read (Elt F) f6)).2.2.2.2.2.2.2.2.2.2.1) ((twoSt i hc (arg3.view.read (Elt F) f3) (arg4.view.read (Elt F) f4) (arg5.view.read (Elt F) f5) (arg6.view.read (Elt F) f6)).2.2.2.2.2.2.2.2.2.2.2.1) ((twoSt i hc (arg3.view.read (Elt F) f3) (arg4.view.read (Elt F) f4) (arg5.view.read (Elt F) f5) (arg6.view.read (Elt F) f6)).2.2.2.2.2.2.2.2.2.2.2.2.1) ((twoSt i hc (arg3.view.read (Elt F) f3) (arg4.view.read (Elt F) f4) (arg5.view.read (Elt F) f5) (arg6.view.read (Elt F) f6)).2.2.2.2.2.2.2.2.2.2.2.2.2.1) ((twoSt i hc (arg3.view.read (Elt F) f3) (arg4.view.read (Elt F) f4) (arg5.view.read (Elt F) f5) (arg6.view.read (Elt F) f6)).2.2.2.2.2.2.2.2.2.2.2.2.2.2.1) ((twoSt i hc (arg3.view.read (Elt F) f3) (arg4.view.read (Elt F) f4) (arg5.view.read (Elt F) f5) (arg6.view.read (Elt F) f6)).2.2.2.2.2.2.2.2.2.2.2.2.2.2.2)))
  rw [loopSpec_apply]
  unfold held owns
  isplitl [H3 H4 H5 H6]
  · isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iintro H
  sl_exec
  sl_step
  iapply Hk
  isplitl [H]
  · iexact H
  iexists _; isplitr
  swap; · iexact H7
  ipureintro
  exact View.read_writes_eq_canon _ _ _ (cover_out _ _ _ _ _ _ _ _)

/-- The body at any point. -/
theorem sound_kernel (c : Dev nD) (E : Set ℕ) (i : grid0.Coords) (arg3 : Memref sig .tc .vmem S1x256x1024 .bf16) (harg3 : arg3.IsWhole) (arg4 : Memref sig .tc .vmem S1x4096x1024 .bf16) (harg4 : arg4.IsWhole) (arg5 : Memref sig .tc .vmem S1x4096x1024 .bf16) (harg5 : arg5.IsWhole) (arg6 : Memref sig .tc .vmem S256x256 .bf16) (harg6 : arg6.IsWhole) (arg7 : Memref sig .tc .vmem S1x256x1024 .bf16) (harg7 : arg7.IsWhole) (x3 : Vec F S1x256x1024 .bf16) (x4 : Vec F S1x4096x1024 .bf16) (x5 : Vec F S1x4096x1024 .bf16) (x6 : Vec F S256x256 .bf16) (K : PUnit → sProp 𝕄) :
    iprop(held c arg3 harg3 arg4 harg4 arg5 harg5 arg6 harg6 x3 x4 x5 x6 ∗ (∃ d, owns (c : Thread nD τ) arg7 fullShare d)
        ∗ (iprop(held c arg3 harg3 arg4 harg4 arg5 harg5 arg6 harg6 x3 x4 x5 x6 ∗ owns (c : Thread nD τ) arg7 fullShare (outBlk i x3 x4 x5 x6)) -∗ K ⟨⟩))
      ⊢ wp frame (wpE (defs₀ (F := F)) Variants.nat c none) E (cc0_attention i arg3 harg3 arg4 harg4 arg5 harg5 arg6 harg6 arg7 harg7) K := by
  by_cases hc : k0_cond1 i = 1#1
  · exact sound_diag c E i arg3 harg3 arg4 harg4 arg5 harg5 arg6 harg6 arg7 harg7 x3 x4 x5 x6 K hc
  · exact sound_two c E i arg3 harg3 arg4 harg4 arg5 harg5 arg6 harg6 arg7 harg7 x3 x4 x5 x6 K hc

end Cert.AttnIdeal.Hand

end
-- ==== Proof.AttnIdealFrame.lean ====
/- The attention's run: its arguments end unchanged and every block of its result is `outBlk` of the blocks it reads. -/
module

public import proofs.«01_k».proof.Proof.AttnIdealRun
public import Idealize.ShloMosaic.Lib.Pipeline.Value

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's buffers when the region is entered: after the one constant of @main. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    exact StableHlo.devRef_ne_of_ne (by decide)))

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ (cfg0 (F := F)) c) (hA : dat.A 2 = V m c (Pipeline.arrRef spec0 2))
    (hafter : ∀ t, dat.after 2 t = iblk m c 2 t) (t : Fin (cfg0 (F := F)).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ (cfg0 (F := F)) c) (hA : dat.A 3 = V m c (Pipeline.arrRef spec0 3))
    (hafter : ∀ t, dat.after 3 t = iblk m c 3 t) (t : Fin (cfg0 (F := F)).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- What every window's buffer holds after the body at a point. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (grid0.coords t) (iblk m c 0 t) (iblk m c 1 t) (iblk m c 2 t) (iblk m c 3 t)
  Φ _ := Pipeline.ΦA spec0 c
  q w := Pipeline.shareOf spec0 w
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) : (dats m 0 c).after 3 t = iblk m c 3 t := by dsimp only [dats]; rfl
theorem after0_4 (c : Dev nD) (t : Fin (cfg0 (F := F)).N) : (dats m 0 c).after 4 t = outBlk (grid0.coords t) (iblk m c 0 t) (iblk m c 1 t) (iblk m c 2 t) (iblk m c 3 t) := by dsimp only [dats]; rfl

theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d
theorem before0_2 (c : Dev nD) (t : Fin (cfg0 (F := F)).N) (d) : (dats m 0 c).before 2 t d = iblk m c 2 t :=
  before0_2_of m (dats m 0 c) (A_eq m c 2) (after0_2 m c) t d
theorem before0_3 (c : Dev nD) (t : Fin (cfg0 (F := F)).N) (d) : (dats m 0 c).before 3 t d = iblk m c 3 t :=
  before0_3_of m (dats m 0 c) (A_eq m c 3) (after0_3 m c) t d

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point. -/
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  unfold held
  isplitl [H0 H1 H2 H3]
  · isplitl [H0]; · iexact H0
    isplitl [H1]; · iexact H1
    isplitl [H2]; · iexact H2
    iexact H3
  isplitl [H4]; · iexists _; iexact H4
  iintro ⟨⟨H0, H1, H2, H3⟩, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.nat m ρ main
    (hbody := fun c => (body_obligation m c).loose) (hq := fun _ _ _ => rfl)
    (howed := fun _ _ => rfl) (V := V m) (hmain := hmain m Variants.nat) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- The run: the result named, the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 4 (cfg0 (F := F)).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4, kept_main_arg0 m r h c, kept_main_arg1 m r h c⟩) (run_main m ρ)

/-- The arguments end unchanged and the machine quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨kept_main_arg0 m r h.1 c, kept_main_arg1 m r h.1 c⟩, h.2⟩) (run_main_quiescent m ρ)

theorem flushed4 (c : Dev nD) (t : Fin (cfg0 (F := F)).N) :
    (dats m 0 c).flushed 4 t = ((cfg0 (F := F)).win 4).cut (grid0.coords t) (outBlk (grid0.coords t) (iblk m c 0 t) (iblk m c 1 t) (iblk m c 2 t) (iblk m c 3 t)) := by
  show ((cfg0 (F := F)).win 4).cut (grid0.coords t) ((dats m 0 c).after 4 t) = _
  rw [after0_4]

theorem idx_inj4 : ∀ t t' : Fin (cfg0 (F := F)).N, win0_4.index t = win0_4.index t' → t = t' :=
  (by decide +kernel : ∀ t t' : Fin grid0.N, win0_4.index t = win0_4.index t' → t = t')

theorem disjoint4 : ∀ t t' : Fin (cfg0 (F := F)).N, ((cfg0 (F := F)).win 4).flush t = true → ((cfg0 (F := F)).win 4).flush t' = true → t ≠ t' →
    Disjoint (((cfg0 (F := F)).win 4).blk t).view.set (((cfg0 (F := F)).win 4).blk t').view.set :=
  fun t t' _ _ hne => ((cfg0 (F := F)).win 4).disjoint_blk fun h => hne (idx_inj4 (F := F) t t' h)

/-- A block of the final array is what its point wrote back. -/
theorem blocks4 (c : Dev nD) (t : Fin (cfg0 (F := F)).N) (hf : ((cfg0 (F := F)).win 4).flush t = true) :
    (((cfg0 (F := F)).win 4).blk t).view.read (Elt F) ((dats m 0 c).arrAt 4 (cfg0 (F := F)).N) = (dats m 0 c).flushed 4 t :=
  (dats m 0 c).read_blk_arrAt_eq_flushed 4 disjoint4 (cfg0 (F := F)).N t t.isLt hf

end Cert.AttnIdeal.Hand

end
-- ==== Proof.AttnCanon.lean ====
/- The attention's body head by head: one block's logits, their softplus, the suffix sums, the running exponent and the
   weighted sum, as functions of a head's slices; and that each component of a sweep is one of them. -/
module

public import proofs.«01_k».proof.Proof.AttnIdealRun

@[expose] public section

set_option maxRecDepth 16384

noncomputable section

namespace Cert.AttnIdeal.Hand

open Cert.AttnIdeal Cert.AttnIdeal.Gen
open Idealize.ShloMosaic Idealize.ShloMosaic.TcCoe

variable {F : FTy → Type} [FloatOps F] [Named F]

/-- A block's logits. -/
def zC (q k : Vec F S1x256x128 .bf16) : FVec F S256x256 .f32 :=
  matmul dot_S256x128_S256x128_S256x256_1_1_0_0_n_n none (shapeCast S256x128 q shapeCasts_S1x256x128_S256x128) (shapeCast S256x128 k shapeCasts_S1x256x128_S256x128) (constant S256x256 .f32 0x00000000#32)

/-- The logits of two neighbouring blocks. -/
def zzC (q : Vec F S1x256x128 .bf16) (k : Vec F S1x512x128 .bf16) : FVec F S256x512 .f32 :=
  matmul dot_S256x128_S512x128_S256x512_1_1_0_0_n_n none (shapeCast S256x128 q shapeCasts_S1x256x128_S256x128) (shapeCast S512x128 k shapeCasts_S1x512x128_S512x128) (constant S256x512 .f32 0x00000000#32)

/-- The earlier of two neighbouring blocks. -/
def lC (z : FVec F S256x512 .f32) : FVec F S256x256 .f32 := extractStridedSlice S256x256 ![0, 0] z slices_S256x512_o0_0_S256x256

/-- The later of two neighbouring blocks. -/
def rC (z : FVec F S256x512 .f32) : FVec F S256x256 .f32 := extractStridedSlice S256x256 ![0, 256] z slices_S256x512_o0_256_S256x256

/-- The softplus of a block's logits. -/
def sC (z : FVec F S256x256 .f32) : FVec F S256x256 .f32 :=
  select (cmpf .ogt z (broadcast S256x256 (Named.named κ "linear" 0x42A00000#32))) z (log (addf (broadcast S256x256 (Scalar.ofBits .f32 0x3F800000#32)) (exp z)))

/-- A block's entries before the diagonal, the others zero. -/
def mC (z : FVec F S256x256 .f32) : FVec F S256x256 .f32 := select k0_pay130 z (broadcast S256x256 (Scalar.ofBits .f32 0x00000000#32))

/-- The suffix sums of eight blocks of rows, by one product. -/
def eC (p : Fin 8 → FVec F S256x256 .f32) (t : Vec F S256x256 .bf16) : FVec F S2048x256 .f32 :=
  matmul dot_S2048x256_S256x256_S2048x256_1_0_0_1_n_n none
    (concatenate S2048x256 0 [⟨S256x256, truncf .bf16 (p 0) bitsLt_bf16_f32⟩, ⟨S256x256, truncf .bf16 (p 1) bitsLt_bf16_f32⟩, ⟨S256x256, truncf .bf16 (p 2) bitsLt_bf16_f32⟩, ⟨S256x256, truncf .bf16 (p 3) bitsLt_bf16_f32⟩, ⟨S256x256, truncf .bf16 (p 4) bitsLt_bf16_f32⟩, ⟨S256x256, truncf .bf16 (p 5) bitsLt_bf16_f32⟩, ⟨S256x256, truncf .bf16 (p 6) bitsLt_bf16_f32⟩, ⟨S256x256, truncf .bf16 (p 7) bitsLt_bf16_f32⟩] concatenates_S256x256_S256x256_S256x256_S256x256_S256x256_S256x256_S256x256_S256x256_S2048x256_d0)
    t (constant S2048x256 .f32 0x00000000#32)

/-- The suffix sums of sixteen blocks of rows, by one product. -/
def eeC (p p' : Fin 8 → FVec F S256x256 .f32) (t : Vec F S256x256 .bf16) : FVec F S4096x256 .f32 :=
  matmul dot_S4096x256_S256x256_S4096x256_1_0_0_1_n_n none
    (concatenate S4096x256 0 [⟨S256x256, truncf .bf16 (p 0) bitsLt_bf16_f32⟩, ⟨S256x256, truncf .bf16 (p' 0) bitsLt_bf16_f32⟩, ⟨S256x256, truncf .bf16 (p 1) bitsLt_bf16_f32⟩, ⟨S256x256, truncf .bf16 (p' 1) bitsLt_bf16_f32⟩, ⟨S256x256, truncf .bf16 (p 2) bitsLt_bf16_f32⟩, ⟨S256x256, truncf .bf16 (p' 2) bitsLt_bf16_f32⟩, ⟨S256x256, truncf .bf16 (p 3) bitsLt_bf16_f32⟩, ⟨S256x256, truncf .bf16 (p' 3) bitsLt_bf16_f32⟩, ⟨S256x256, truncf .bf16 (p 4) bitsLt_bf16_f32⟩, ⟨S256x256, truncf .bf16 (p' 4) bitsLt_bf16_f32⟩, ⟨S256x256, truncf .bf16 (p 5) bitsLt_bf16_f32⟩, ⟨S256x256, truncf .bf16 (p' 5) bitsLt_bf16_f32⟩, ⟨S256x256, truncf .bf16 (p 6) bitsLt_bf16_f32⟩, ⟨S256x256, truncf .bf16 (p' 6) bitsLt_bf16_f32⟩, ⟨S256x256, truncf .bf16 (p 7) bitsLt_bf16_f32⟩, ⟨S256x256, truncf .bf16 (p' 7) bitsLt_bf16_f32⟩] concatenates_S256x256_S256x256_S256x256_S256x256_S256x256_S256x256_S256x256_S256x256_S256x256_S256x256_S256x256_S256x256_S256x256_S256x256_S256x256_S256x256_S4096x256_d0)
    t (constant S4096x256 .f32 0x00000000#32)

theorem slice8 : ∀ h : Fin 8, S2048x256.Slices ![256 * h.val, 0] S256x256
  | 0 => slices_S2048x256_o0_0_S256x256
  | 1 => slices_S2048x256_o256_0_S256x256
  | 2 => slices_S2048x256_o512_0_S256x256
  | 3 => slices_S2048x256_o768_0_S256x256
  | 4 => slices_S2048x256_o1024_0_S256x256
  | 5 => slices_S2048x256_o1280_0_S256x256
  | 6 => slices_S2048x256_o1536_0_S256x256
  | 7 => slices_S2048x256_o1792_0_S256x256

theorem slicel : ∀ h : Fin 8, S4096x256.Slices ![512 * h.val, 0] S256x256
  | 0 => slices_S4096x256_o0_0_S256x256
  | 1 => slices_S4096x256_o512_0_S256x256
  | 2 => slices_S4096x256_o1024_0_S256x256
  | 3 => slices_S4096x256_o1536_0_S256x256
  | 4 => slices_S4096x256_o2048_0_S256x256
  | 5 => slices_S4096x256_o2560_0_S256x256
  | 6 => slices_S4096x256_o3072_0_S256x256
  | 7 => slices_S4096x256_o3584_0_S256x256

theorem slicer : ∀ h : Fin 8, S4096x256.Slices ![512 * h.val + 256, 0] S256x256
  | 0 => slices_S4096x256_o256_0_S256x256
  | 1 => slices_S4096x256_o768_0_S256x256
  | 2 => slices_S4096x256_o1280_0_S256x256
  | 3 => slices_S4096x256_o1792_0_S256x256
  | 4 => slices_S4096x256_o2304_0_S256x256
  | 5 => slices_S4096x256_o2816_0_S256x256
  | 6 => slices_S4096x256_o3328_0_S256x256
  | 7 => slices_S4096x256_o3840_0_S256x256

/-- A head's rows of the eight blocks. -/
def e8 (e : FVec F S2048x256 .f32) (h : Fin 8) : FVec F S256x256 .f32 := extractStridedSlice S256x256 ![256 * h.val, 0] e (slice8 h)

/-- A head's earlier block's rows of the sixteen. -/
def el (e : FVec F S4096x256 .f32) (h : Fin 8) : FVec F S256x256 .f32 := extractStridedSlice S256x256 ![512 * h.val, 0] e (slicel h)

/-- A head's later block's rows of the sixteen. -/
def er (e : FVec F S4096x256 .f32) (h : Fin 8) : FVec F S256x256 .f32 := extractStridedSlice S256x256 ![512 * h.val + 256, 0] e (slicer h)

/-- The running exponent after a block. -/
def rnC (run : FVec F S256x1 .f32) (s : FVec F S256x256 .f32) : FVec F S256x1 .f32 :=
  subf run (shapeCast S256x1 (multiReduction .add [1] S256 s 0x00000000#32 reduces_S256x256_S256 (.inl rfl) rfl) shapeCasts_S256_S256x1)

/-- A block's weights. -/
def wC (z s e : FVec F S256x256 .f32) (run : FVec F S256x1 .f32) : FVec F S256x256 .f32 :=
  exp (addf (addf (subf z s) e) (broadcastTo S256x256 run broadcasts_S256x1_S256x256))

/-- The weighted sum after a block. -/
def aC (acc : FVec F S256x128 .f32) (w : FVec F S256x256 .f32) (v : Vec F S1x256x128 .bf16) : FVec F S256x128 .f32 :=
  addf acc (matmul dot_S256x256_S256x128_S256x128_1_0_0_1_n_n none (truncf .bf16 w bitsLt_bf16_f32) (shapeCast S256x128 v shapeCasts_S1x256x128_S256x128) (constant S256x128 .f32 0x00000000#32))

/-- The weighted sum after two neighbouring blocks. -/
def aaC (acc : FVec F S256x128 .f32) (w w' : FVec F S256x256 .f32) (v : Vec F S1x512x128 .bf16) : FVec F S256x128 .f32 :=
  addf acc (matmul dot_S256x512_S512x128_S256x128_1_0_0_1_n_n none
    (concatenate S256x512 1 [⟨S256x256, truncf .bf16 w bitsLt_bf16_f32⟩, ⟨S256x256, truncf .bf16 w' bitsLt_bf16_f32⟩] concatenates_S256x256_S256x256_S256x512_d1)
    (shapeCast S512x128 v shapeCasts_S1x512x128_S512x128) (constant S256x128 .f32 0x00000000#32))

/-- The largest running exponent of a head. -/
def xC (run : FVec F S256x1 .f32) : F .f32 :=
  extractAt ![0, 0, 0] (shapeCast S1x1x1 (multiReduction .maximumf [1, 2] S1 (shapeCast S1x256x1 run shapeCasts_S256x1_S1x256x1) 0xFF800000#32 reduces_S1x256x1_S1 (.inl rfl) rfl) shapeCasts_S1_S1x1x1) inpos_S1x1x1_p0_0_0

/-- No running exponent yet. -/
def r0 : FVec F S256x1 .f32 := broadcast S256x1 (Scalar.ofBits .f32 0x00000000#32)

/-- No weighted sum yet. -/
def a0 : FVec F S256x128 .f32 := broadcast S256x128 (Scalar.ofBits .f32 0x00000000#32)

/-- A head's running exponent in the state. -/
def runAt (s : St F) : Fin 8 → FVec F S256x1 .f32
  | 0 => s.1
  | 1 => s.2.2.1
  | 2 => s.2.2.2.2.1
  | 3 => s.2.2.2.2.2.2.1
  | 4 => s.2.2.2.2.2.2.2.2.1
  | 5 => s.2.2.2.2.2.2.2.2.2.2.1
  | 6 => s.2.2.2.2.2.2.2.2.2.2.2.2.1
  | 7 => s.2.2.2.2.2.2.2.2.2.2.2.2.2.2.1

/-- A head's weighted sum in the state. -/
def accAt (s : St F) : Fin 8 → FVec F S256x128 .f32
  | 0 => s.2.1
  | 1 => s.2.2.2.1
  | 2 => s.2.2.2.2.2.1
  | 3 => s.2.2.2.2.2.2.2.1
  | 4 => s.2.2.2.2.2.2.2.2.2.1
  | 5 => s.2.2.2.2.2.2.2.2.2.2.2.1
  | 6 => s.2.2.2.2.2.2.2.2.2.2.2.2.2.1
  | 7 => s.2.2.2.2.2.2.2.2.2.2.2.2.2.2.2

theorem inb_q : ∀ (h : Fin 8) (a : Fin 3), (![0, 0, 128 * h.val] : Fin 3 → ℕ) a + S1x256x128.size a ≤ S1x256x1024.size a
  | 0 => inb_S1x256x1024_S1x256x128_0_0_0
  | 1 => inb_S1x256x1024_S1x256x128_0_0_128
  | 2 => inb_S1x256x1024_S1x256x128_0_0_256
  | 3 => inb_S1x256x1024_S1x256x128_0_0_384
  | 4 => inb_S1x256x1024_S1x256x128_0_0_512
  | 5 => inb_S1x256x1024_S1x256x128_0_0_640
  | 6 => inb_S1x256x1024_S1x256x128_0_0_768
  | 7 => inb_S1x256x1024_S1x256x128_0_0_896

/-- A head's lanes of the queries. -/
def qC (x3 : Vec F S1x256x1024 .bf16) (h : Fin 8) : Vec F S1x256x128 .bf16 :=
  View.ld x3 (Rect.unit (s := S1x256x1024) ![0, 0, 128 * h.val] S1x256x128.size (inb_q h))

/-- The block of suffix signs. -/
def tC (x6 : Vec F S256x256 .bf16) : Vec F S256x256 .bf16 := View.ld x6 (Rect.unit (s := S256x256) ![0, 0] S256x256.size inb_S256x256_S256x256_0_0)

/-- Where a head's rows of the diagonal block lie. -/
def off1 (i : grid0.Coords) : Fin 8 → Fin 3 → ℕ
  | 0 => k0_off1 i
  | 1 => k0_off2 i
  | 2 => k0_off3 i
  | 3 => k0_off4 i
  | 4 => k0_off5 i
  | 5 => k0_off6 i
  | 6 => k0_off7 i
  | 7 => k0_off8 i

theorem off1_inb (i : grid0.Coords) (hc : k0_cond1 i = 1#1) : ∀ (h : Fin 8) (a : Fin 3), off1 i h a + S1x256x128.size a ≤ S1x4096x1024.size a
  | 0 => k0_off1_inb i hc
  | 1 => k0_off2_inb i hc
  | 2 => k0_off3_inb i hc
  | 3 => k0_off4_inb i hc
  | 4 => k0_off5_inb i hc
  | 5 => k0_off6_inb i hc
  | 6 => k0_off7_inb i hc
  | 7 => k0_off8_inb i hc

/-- A head's rows of the diagonal block. -/
def kC1 (i : grid0.Coords) (hc : k0_cond1 i = 1#1) (x : Vec F S1x4096x1024 .bf16) (h : Fin 8) : Vec F S1x256x128 .bf16 :=
  View.ld x (Rect.unit (s := S1x4096x1024) (off1 i h) S1x256x128.size (off1_inb i hc h))

/-- Where a head's rows of the diagonal block and the one before lie. -/
def off2 (i : grid0.Coords) : Fin 8 → Fin 3 → ℕ
  | 0 => k0_off9 i
  | 1 => k0_off10 i
  | 2 => k0_off11 i
  | 3 => k0_off12 i
  | 4 => k0_off13 i
  | 5 => k0_off14 i
  | 6 => k0_off15 i
  | 7 => k0_off16 i

theorem off2_inb (i : grid0.Coords) (hc : ¬(k0_cond1 i = 1#1)) : ∀ (h : Fin 8) (a : Fin 3), off2 i h a + S1x512x128.size a ≤ S1x4096x1024.size a
  | 0 => k0_off9_inb i hc
  | 1 => k0_off10_inb i hc
  | 2 => k0_off11_inb i hc
  | 3 => k0_off12_inb i hc
  | 4 => k0_off13_inb i hc
  | 5 => k0_off14_inb i hc
  | 6 => k0_off15_inb i hc
  | 7 => k0_off16_inb i hc

/-- A head's rows of the diagonal block and the one before. -/
def kC2 (i : grid0.Coords) (hc : ¬(k0_cond1 i = 1#1)) (x : Vec F S1x4096x1024 .bf16) (h : Fin 8) : Vec F S1x512x128 .bf16 :=
  View.ld x (Rect.unit (s := S1x4096x1024) (off2 i h) S1x512x128.size (off2_inb i hc h))

/-- Where a head's rows of the loop's block lie. -/
def off3 (kb : BitVec 32) : Fin 8 → Fin 3 → ℕ
  | 0 => k0_off17 kb
  | 1 => k0_off18 kb
  | 2 => k0_off19 kb
  | 3 => k0_off20 kb
  | 4 => k0_off21 kb
  | 5 => k0_off22 kb
  | 6 => k0_off23 kb
  | 7 => k0_off24 kb

theorem off3_inb (kb : BitVec 32) (hc : k0_chk1 kb) : ∀ (h : Fin 8) (a : Fin 3), off3 kb h a + S1x256x128.size a ≤ S1x4096x1024.size a
  | 0 => k0_off17_inb kb hc
  | 1 => k0_off18_inb kb hc
  | 2 => k0_off19_inb kb hc
  | 3 => k0_off20_inb kb hc
  | 4 => k0_off21_inb kb hc
  | 5 => k0_off22_inb kb hc
  | 6 => k0_off23_inb kb hc
  | 7 => k0_off24_inb kb hc

/-- A head's rows of the loop's block. -/
def kC3 (kb : BitVec 32) (hc : k0_chk1 kb) (x : Vec F S1x4096x1024 .bf16) (h : Fin 8) : Vec F S1x256x128 .bf16 :=
  View.ld x (Rect.unit (s := S1x4096x1024) (off3 kb h) S1x256x128.size (off3_inb kb hc h))

variable (x3 : Vec F S1x256x1024 .bf16) (x4 : Vec F S1x4096x1024 .bf16) (x5 : Vec F S1x4096x1024 .bf16) (x6 : Vec F S256x256 .bf16)

/-- A head's softplus in a round of the loop. -/
def s3 (kb : BitVec 32) (hc : k0_chk1 kb) (x3 : Vec F S1x256x1024 .bf16) (x4 : Vec F S1x4096x1024 .bf16) (h : Fin 8) : FVec F S256x256 .f32 := sC (zC (qC x3 h) (kC3 kb hc x4 h))

theorem step_run (kb : BitVec 32) (hc : k0_chk1 kb) (s : St F) : ∀ h : Fin 8,
    runAt (stepSt kb hc x3 x4 x5 x6 s).2 h = rnC (runAt s h) (s3 kb hc x3 x4 h)
  | 0 => rfl
  | 1 => rfl
  | 2 => rfl
  | 3 => rfl
  | 4 => rfl
  | 5 => rfl
  | 6 => rfl
  | 7 => rfl

theorem step_acc (kb : BitVec 32) (hc : k0_chk1 kb) (s : St F) : ∀ h : Fin 8,
    accAt (stepSt kb hc x3 x4 x5 x6 s).2 h = aC (accAt s h)
      (wC (zC (qC x3 h) (kC3 kb hc x4 h)) (s3 kb hc x3 x4 h) (e8 (eC (s3 kb hc x3 x4) (tC x6)) h) (runAt s h)) (kC3 kb hc x5 h)
  | 0 => rfl
  | 1 => rfl
  | 2 => rfl
  | 3 => rfl
  | 4 => rfl
  | 5 => rfl
  | 6 => rfl
  | 7 => rfl

theorem step_max (kb : BitVec 32) (hc : k0_chk1 kb) (s : St F) :
    ∃ y, (stepSt kb hc x3 x4 x5 x6 s).1 = Scalar.maximumf y (xC (runAt (stepSt kb hc x3 x4 x5 x6 s).2 7)) := ⟨_, rfl⟩

theorem start_max (s : St F) : ∃ y, startR s = Scalar.maximumf y (xC (runAt s 7)) := ⟨_, rfl⟩

/-- A head's softplus in the sweep over the diagonal block. -/
def s1 (i : grid0.Coords) (hc : k0_cond1 i = 1#1) (x3 : Vec F S1x256x1024 .bf16) (x4 : Vec F S1x4096x1024 .bf16) (h : Fin 8) : FVec F S256x256 .f32 := mC (sC (zC (qC x3 h) (kC1 i hc x4 h)))

theorem diag_run (i : grid0.Coords) (hc : k0_cond1 i = 1#1) : ∀ h : Fin 8,
    runAt (diagSt i hc x3 x4 x5 x6) h = rnC r0 (s1 i hc x3 x4 h)
  | 0 => rfl
  | 1 => rfl
  | 2 => rfl
  | 3 => rfl
  | 4 => rfl
  | 5 => rfl
  | 6 => rfl
  | 7 => rfl

theorem diag_acc (i : grid0.Coords) (hc : k0_cond1 i = 1#1) : ∀ h : Fin 8,
    accAt (diagSt i hc x3 x4 x5 x6) h = aC a0
      (mC (wC (zC (qC x3 h) (kC1 i hc x4 h)) (s1 i hc x3 x4 h) (e8 (eC (s1 i hc x3 x4) (tC x6)) h) r0)) (kC1 i hc x5 h)
  | 0 => rfl
  | 1 => rfl
  | 2 => rfl
  | 3 => rfl
  | 4 => rfl
  | 5 => rfl
  | 6 => rfl
  | 7 => rfl

/-- A head's softplus in the earlier of the first two blocks. -/
def sl (i : grid0.Coords) (hc : ¬(k0_cond1 i = 1#1)) (x3 : Vec F S1x256x1024 .bf16) (x4 : Vec F S1x4096x1024 .bf16) (h : Fin 8) : FVec F S256x256 .f32 := sC (lC (zzC (qC x3 h) (kC2 i hc x4 h)))

/-- A head's softplus in the later of the first two blocks. -/
def sr (i : grid0.Coords) (hc : ¬(k0_cond1 i = 1#1)) (x3 : Vec F S1x256x1024 .bf16) (x4 : Vec F S1x4096x1024 .bf16) (h : Fin 8) : FVec F S256x256 .f32 := mC (sC (rC (zzC (qC x3 h) (kC2 i hc x4 h))))

theorem two_run (i : grid0.Coords) (hc : ¬(k0_cond1 i = 1#1)) : ∀ h : Fin 8,
    runAt (twoSt i hc x3 x4 x5 x6) h = rnC (rnC r0 (sr i hc x3 x4 h)) (sl i hc x3 x4 h)
  | 0 => rfl
  | 1 => rfl
  | 2 => rfl
  | 3 => rfl
  | 4 => rfl
  | 5 => rfl
  | 6 => rfl
  | 7 => rfl

theorem two_acc (i : grid0.Coords) (hc : ¬(k0_cond1 i = 1#1)) : ∀ h : Fin 8,
    accAt (twoSt i hc x3 x4 x5 x6) h = aaC a0
      (wC (lC (zzC (qC x3 h) (kC2 i hc x4 h))) (sl i hc x3 x4 h) (el (eeC (sl i hc x3 x4) (sr i hc x3 x4) (tC x6)) h) (rnC r0 (sr i hc x3 x4 h)))
      (mC (wC (rC (zzC (qC x3 h) (kC2 i hc x4 h))) (sr i hc x3 x4 h) (er (eeC (sl i hc x3 x4) (sr i hc x3 x4) (tC x6)) h) r0)) (kC2 i hc x5 h)
  | 0 => rfl
  | 1 => rfl
  | 2 => rfl
  | 3 => rfl
  | 4 => rfl
  | 5 => rfl
  | 6 => rfl
  | 7 => rfl

end Cert.AttnIdeal.Hand

end
-- ==== Proof.Common.lean ====
module

public import Idealize.ShloMosaic.Lib.Pipeline.Value
public import Idealize.ShloMosaic.Lib.Pipeline.ReadBack
public import Idealize.ShloMosaic.Lib.Pointwise
public import Idealize.ShloMosaic.Lib.Quiescent

@[expose] public section

namespace Cert.Hand

open Idealize.ShloMosaic

/-- A buffer written by two stores that are both parts of one function `G` holds `G` wherever they reach. -/
theorem canon_two {Val : EltTy → Type} {S : Shape} {e : EltTy} [∀ e, Nonempty (Val e)] (G : S.Idx → Val e)
    (r₁ : Rect S) (p₁ : r₁.shape.Idx → Val e) (r₂ : Rect S) (p₂ : r₂.shape.Idx → Val e) (y : S.Idx)
    (hc : ∃ p ∈ ([⟨r₁, p₁⟩, ⟨r₂, p₂⟩] : List (View.Piece Val S e)), y ∈ p.1.set)
    (h₁ : ∀ x, p₁ x = G (r₁.emb x)) (h₂ : ∀ x, p₂ x = G (r₂.emb x)) :
    View.canon [⟨r₁, p₁⟩, ⟨r₂, p₂⟩] y = G y :=
  View.canon_append_of_piecesOf G [] [⟨r₁, p₁⟩, ⟨r₂, p₂⟩] ⟨h₁, h₂, trivial⟩ y hc

/-- A buffer written by one store that is part of one function `G` holds `G` wherever the store reaches. -/
theorem canon_one {Val : EltTy → Type} {S : Shape} {e : EltTy} [∀ e, Nonempty (Val e)] (G : S.Idx → Val e)
    (r₁ : Rect S) (p₁ : r₁.shape.Idx → Val e) (y : S.Idx)
    (hc : ∃ p ∈ ([⟨r₁, p₁⟩] : List (View.Piece Val S e)), y ∈ p.1.set)
    (h₁ : ∀ x, p₁ x = G (r₁.emb x)) : View.canon [⟨r₁, p₁⟩] y = G y :=
  View.canon_append_of_piecesOf G [] [⟨r₁, p₁⟩] ⟨h₁, trivial⟩ y hc

/-- A buffer written by four stores that are all parts of one function `G` holds `G` wherever they reach. -/
theorem canon_four {Val : EltTy → Type} {S : Shape} {e : EltTy} [∀ e, Nonempty (Val e)] (G : S.Idx → Val e)
    (r₁ : Rect S) (p₁ : r₁.shape.Idx → Val e) (r₂ : Rect S) (p₂ : r₂.shape.Idx → Val e)
    (r₃ : Rect S) (p₃ : r₃.shape.Idx → Val e) (r₄ : Rect S) (p₄ : r₄.shape.Idx → Val e) (y : S.Idx)
    (hc : ∃ p ∈ ([⟨r₁, p₁⟩, ⟨r₂, p₂⟩, ⟨r₃, p₃⟩, ⟨r₄, p₄⟩] : List (View.Piece Val S e)), y ∈ p.1.set)
    (h₁ : ∀ x, p₁ x = G (r₁.emb x)) (h₂ : ∀ x, p₂ x = G (r₂.emb x)) (h₃ : ∀ x, p₃ x = G (r₃.emb x))
    (h₄ : ∀ x, p₄ x = G (r₄.emb x)) : View.canon [⟨r₁, p₁⟩, ⟨r₂, p₂⟩, ⟨r₃, p₃⟩, ⟨r₄, p₄⟩] y = G y :=
  View.canon_append_of_piecesOf G [] [⟨r₁, p₁⟩, ⟨r₂, p₂⟩, ⟨r₃, p₃⟩, ⟨r₄, p₄⟩] ⟨h₁, h₂, h₃, h₄, trivial⟩ y hc

/-- A rectangle places an index as its `idx` does. -/
theorem emb_eq {s : Shape} (r : Rect s) (x : r.shape.Idx) : r.emb x = r.toLoadRect.idx x := rfl

/-- A two-axis index is the pair of its coordinates. -/
theorem ix2_of {a b : Nat} (i : (⟨2, ![a, b]⟩ : Shape).Idx) (r : Fin a) (c : Fin b) (h₀ : (i 0).val = r.val) (h₁ : (i 1).val = c.val) :
    i = ix2 r c := by
  funext x
  match x with
  | ⟨0, _⟩ => exact Fin.ext h₀
  | ⟨1, _⟩ => exact Fin.ext h₁

/-- A three-axis index is the triple of its coordinates. -/
theorem ix3_of {a b d : Nat} (i : (⟨3, ![a, b, d]⟩ : Shape).Idx) (r : Fin a) (c : Fin b) (e : Fin d) (h₀ : (i 0).val = r.val)
    (h₁ : (i 1).val = c.val) (h₂ : (i 2).val = e.val) : i = ix3 r c e := by
  funext x
  match x with
  | ⟨0, _⟩ => exact Fin.ext h₀
  | ⟨1, _⟩ => exact Fin.ext h₁
  | ⟨2, _⟩ => exact Fin.ext h₂

/-- One entry `v` of a row's root-mean-square normalisation, at its gain `g`. -/
noncomputable def rmsRow (x : Fin 2048 → EReal) (v g : EReal) : EReal :=
  v * Ideal.rsqrt (Ideal.div (∑ k, x k * x k) (Ideal.ofBits .f32 0x45000000#32) + Ideal.ofBits .f32 0x358637BD#32) * g

/-- One entry of the per-layer embedding: the residual plus the gate of the normalised row times the projected embedding. -/
noncomputable def pleAt (x g w : Fin 2048 → EReal) (p q : Fin 256 → EReal) (v : EReal) : EReal :=
  v + Ideal.logistic (∑ k, rmsRow x (x k) (g k) * w k) * ∑ j, p j * q j

/-- One entry of the output projection: the residual plus row times column. -/
noncomputable def oprojAt (a w : Fin 2048 → EReal) (z : EReal) : EReal := z + ∑ k, a k * w k

/-- One entry of the output projection's row, normalised. -/
noncomputable def oprojNorm (a : Fin 2048 → EReal) (w : Fin 2048 → Fin 2048 → EReal) (z : Fin 2048 → EReal) (g : EReal) (q : Fin 2048) : EReal :=
  rmsRow (fun j => oprojAt a (fun k => w k j) (z j)) (oprojAt a (fun k => w k q) (z q)) g

/-- One entry of a projection: row times column. -/
noncomputable def dotAt (a w : Fin 2048 → EReal) : EReal := ∑ k, a k * w k

/-- One entry of a gate: the logistic function of row times column. -/
noncomputable def gateAt (a w : Fin 2048 → EReal) : EReal := Ideal.logistic (∑ k, a k * w k)

/-- One entry of the recurrence's gate branch: the gelu, in its tangent form, of row times column. -/
noncomputable def geluAt (a w : Fin 2048 → EReal) : EReal :=
  dotAt a w * (Ideal.ofBits .f32 0x3F000000#32 * (1 + Ideal.tanh (Ideal.ofBits .f32 0x3F4C422A#32 *
    (dotAt a w + Ideal.ofBits .f32 0x3D372713#32 * (dotAt a w * dotAt a w * dotAt a w)))))

/-- One entry `v` of a head's root-mean-square normalisation over its 128 columns `f`, at its gain `g`. -/
noncomputable def headAt (f : Fin 128 → EReal) (v g : EReal) : EReal :=
  v * Ideal.rsqrt (Ideal.div (∑ d, f d * f d) (Ideal.ofBits .f32 0x43000000#32) + Ideal.ofBits .f32 0x358637BD#32) * g

theorem headAt_congr {f f' : Fin 128 → EReal} {v v' g g' : EReal} (hf : ∀ d, f d = f' d) (hv : v = v') (hg : g = g') :
    headAt f v g = headAt f' v' g' := by
  obtain rfl : f = f' := funext hf
  subst hv hg
  rfl

/-- The gain of a column of the queries and keys: a query's is scaled. -/
noncomputable def gainAt (a b : Fin 128 → EReal) (n : ℕ) : EReal :=
  if n < 2048 then a ⟨n % 128, Nat.mod_lt _ (by decide)⟩ * Ideal.ofBits .f32 0x3DB504F3#32 else b ⟨n % 128, Nat.mod_lt _ (by decide)⟩

end Cert.Hand
-- ==== Proof.AttnCell.lean ====
/- The attention's head by head functions, entry by entry over the extended reals. -/
module

public import proofs.«01_k».proof.Proof.AttnCanon
public import proofs.«01_k».proof.Proof.Common
public import Idealize.ShloMosaic.Lib.Pipeline.ValueKit

@[expose] public section

set_option maxRecDepth 16384

noncomputable section

namespace Cert.AttnIdeal.Hand

open Cert.AttnIdeal Cert.AttnIdeal.Gen Cert.Hand
open Idealize.ShloMosaic Idealize.ShloMosaic.TcCoe

theorem linear_top : (Named.named (F := Ideal) κ "linear" (φ := .f32) 0x42A00000#32 : EReal) = ⊤ := by
  show (κ "linear").getD _ = ⊤
  simp [κ]

theorem prune_bot : (Named.named (F := Ideal) κ "prune" (φ := .f32) 0xC2D00000#32 : EReal) = ⊥ := by
  show (κ "prune").getD _ = ⊥
  simp [κ]

theorem zC_apply (q k : Vec Ideal S1x256x128 .bf16) (r c : Fin 256) :
    zC q k (ix2 r c) = ∑ d : Fin 128, (q (ix3 0 r d) : EReal) * k (ix3 0 c d) := by
  unfold zC
  pointwise

theorem zzC_apply (q : Vec Ideal S1x256x128 .bf16) (k : Vec Ideal S1x512x128 .bf16) (r : Fin 256) (c : Fin 512) :
    zzC q k (ix2 r c) = ∑ d : Fin 128, (q (ix3 0 r d) : EReal) * k (ix3 0 c d) := by
  unfold zzC
  pointwise

theorem lC_apply (z : FVec Ideal S256x512 .f32) (r c : Fin 256) : lC z (ix2 r c) = z (ix2 r ⟨c.val, by omega⟩) := by
  unfold lC
  pointwise

theorem rC_apply (z : FVec Ideal S256x512 .f32) (r c : Fin 256) : rC z (ix2 r c) = z (ix2 r ⟨256 + c.val, by omega⟩) := by
  unfold rC
  pointwise

/-- The softplus of a real. -/
def spl (x : ℝ) : ℝ := Real.log (1 + Real.exp x)

theorem log_coe_pos (x : ℝ) (h : 0 < x) : Ideal.log (x : EReal) = (Real.log x : ℝ) := by
  show (if x ≤ 0 then ⊥ else ((Real.log x : ℝ) : EReal)) = _
  rw [if_neg (not_le.2 h)]

theorem sC_apply (z : FVec Ideal S256x256 .f32) (r c : Fin 256) (x : ℝ) (h : z (ix2 r c) = (x : EReal)) : sC z (ix2 r c) = ((spl x : ℝ) : EReal) := by
  unfold sC
  pointwise [linear_top, h]
  rw [if_neg (not_lt.2 le_top), show Ideal.exp (x : EReal) = ((Real.exp x : ℝ) : EReal) from rfl, ← EReal.coe_one, ← EReal.coe_add]
  exact log_coe_pos _ (by positivity)

theorem slt_nat (a b : ℕ) (ha : a < 4096) (hb : b < 4096) :
    IntOp.cmpi .slt (BitVec.ofNat 32 a) (BitVec.ofNat 32 b) = if a < b then 1#1 else 0#1 := by
  have ea : (BitVec.ofNat 32 a).toInt = a := by
    have h2 : (BitVec.ofNat 32 a).toInt = Int.bmod a (2 ^ 32) := BitVec.toInt_ofNat ..
    rw [h2]; simp only [Int.bmod]; omega
  have eb : (BitVec.ofNat 32 b).toInt = b := by
    have h2 : (BitVec.ofNat 32 b).toInt = Int.bmod b (2 ^ 32) := BitVec.toInt_ofNat ..
    rw [h2]; simp only [Int.bmod]; omega
  have e : (BitVec.ofNat 32 a).slt (BitVec.ofNat 32 b) = decide (a < b) := by
    rw [BitVec.slt, ea, eb]; simp
  show BitVec.ofBool ((BitVec.ofNat 32 a).slt (BitVec.ofNat 32 b)) = _
  rw [e]
  by_cases h : a < b <;> simp [h]

theorem mC_apply (z : FVec Ideal S256x256 .f32) (r c : Fin 256) : mC z (ix2 r c) = if c.val < r.val then z (ix2 r c) else 0 := by
  unfold mC k0_pay130
  pointwise
  rw [slt_nat c.val r.val (by omega) (by omega)]
  by_cases hcr : c.val < r.val
  · simp only [hcr, if_true]; rfl
  · simp only [hcr, if_false]; rfl

theorem rnC_apply (run : FVec Ideal S256x1 .f32) (s : FVec Ideal S256x256 .f32) (r : Fin 256) :
    rnC run s (ix2 r 0) = (run (ix2 r 0) : EReal) - ∑ c : Fin 256, (s (ix2 r c) : EReal) := by
  unfold rnC
  pointwise

theorem wC_apply (z s e : FVec Ideal S256x256 .f32) (run : FVec Ideal S256x1 .f32) (r c : Fin 256) :
    wC z s e run (ix2 r c) = Ideal.exp ((((z (ix2 r c) : EReal) - s (ix2 r c)) + e (ix2 r c)) + run (ix2 r 0)) := by
  unfold wC
  pointwise

theorem aC_apply (acc : FVec Ideal S256x128 .f32) (w : FVec Ideal S256x256 .f32) (v : Vec Ideal S1x256x128 .bf16) (r : Fin 256) (d : Fin 128) :
    aC acc w v (ix2 r d) = (acc (ix2 r d) : EReal) + ∑ c : Fin 256, (w (ix2 r c) : EReal) * v (ix3 0 c d) := by
  unfold aC
  pointwise

theorem aaC_apply (acc : FVec Ideal S256x128 .f32) (w w' : FVec Ideal S256x256 .f32) (v : Vec Ideal S1x512x128 .bf16) (r : Fin 256) (d : Fin 128) :
    aaC acc w w' v (ix2 r d) = (acc (ix2 r d) : EReal) + ((∑ c : Fin 256, (w (ix2 r c) : EReal) * v (ix3 0 ⟨c.val, by omega⟩ d)) + ∑ c : Fin 256, (w' (ix2 r c) : EReal) * v (ix3 0 ⟨256 + c.val, by omega⟩ d)) := by
  unfold aaC
  pointwise

theorem r0_apply (r : Fin 256) : (r0 : FVec Ideal S256x1 .f32) (ix2 r 0) = (0 : EReal) := by
  unfold r0
  pointwise

theorem a0_apply (r : Fin 256) (d : Fin 128) : (a0 : FVec Ideal S256x128 .f32) (ix2 r d) = (0 : EReal) := by
  unfold a0
  pointwise

theorem qC_apply (x3 : Vec Ideal S1x256x1024 .bf16) (h : Fin 8) (r : Fin 256) (d : Fin 128) :
    qC x3 h (ix3 0 r d) = x3 (ix3 0 r ⟨128 * h.val + d.val, by omega⟩) := by
  unfold qC
  pointwise

theorem tC_apply (x6 : Vec Ideal S256x256 .bf16) (r c : Fin 256) : tC x6 (ix2 r c) = x6 (ix2 r c) := by
  unfold tC
  pointwise

/-- The blocks of rows one product takes. -/
abbrev cat8_list (p : Fin 8 → FVec Ideal S256x256 .f32) : List ((s : Shape) × (s.Idx → Ideal .bf16)) := [⟨S256x256, truncf .bf16 (p 0) bitsLt_bf16_f32⟩, ⟨S256x256, truncf .bf16 (p 1) bitsLt_bf16_f32⟩, ⟨S256x256, truncf .bf16 (p 2) bitsLt_bf16_f32⟩, ⟨S256x256, truncf .bf16 (p 3) bitsLt_bf16_f32⟩, ⟨S256x256, truncf .bf16 (p 4) bitsLt_bf16_f32⟩, ⟨S256x256, truncf .bf16 (p 5) bitsLt_bf16_f32⟩, ⟨S256x256, truncf .bf16 (p 6) bitsLt_bf16_f32⟩, ⟨S256x256, truncf .bf16 (p 7) bitsLt_bf16_f32⟩]

theorem cat8_pre : ∀ k : Fin 8, ((List.replicate k.val S256x256).map fun s => if h : s.rank = S2048x256.rank then s.size ((0 : Fin S2048x256.rank).cast h.symm) else 0).sum = 256 * k.val := by decide +kernel

theorem cat8_0 (p : Fin 8 → FVec Ideal S256x256 .f32) (r k : Fin 256) (j : S2048x256.Idx) (h0 : 0 + r.val = (j 0).val) (h1 : k.val = (j 1).val) :
    concatenate S2048x256 0 (cat8_list p) concatenates_S256x256_S256x256_S256x256_S256x256_S256x256_S256x256_S256x256_S256x256_S2048x256_d0 j = (p 0 (ix2 r k) : EReal) :=
  concatenate_apply_piece (t := S2048x256) (0 : Fin 2) (cat8_list p) _ j 0 (by show 0 < 8; decide) S256x256 (p 0) rfl rfl 0 (cat8_pre 0) (ix2 r k) (fun b hb => by match b, hb with | ⟨0, _⟩, hb => exact absurd rfl hb | ⟨1, _⟩, _ => exact h1) h0

theorem cat8_1 (p : Fin 8 → FVec Ideal S256x256 .f32) (r k : Fin 256) (j : S2048x256.Idx) (h0 : 256 + r.val = (j 0).val) (h1 : k.val = (j 1).val) :
    concatenate S2048x256 0 (cat8_list p) concatenates_S256x256_S256x256_S256x256_S256x256_S256x256_S256x256_S256x256_S256x256_S2048x256_d0 j = (p 1 (ix2 r k) : EReal) :=
  concatenate_apply_piece (t := S2048x256) (0 : Fin 2) (cat8_list p) _ j 1 (by show 1 < 8; decide) S256x256 (p 1) rfl rfl 256 (cat8_pre 1) (ix2 r k) (fun b hb => by match b, hb with | ⟨0, _⟩, hb => exact absurd rfl hb | ⟨1, _⟩, _ => exact h1) h0

theorem cat8_2 (p : Fin 8 → FVec Ideal S256x256 .f32) (r k : Fin 256) (j : S2048x256.Idx) (h0 : 512 + r.val = (j 0).val) (h1 : k.val = (j 1).val) :
    concatenate S2048x256 0 (cat8_list p) concatenates_S256x256_S256x256_S256x256_S256x256_S256x256_S256x256_S256x256_S256x256_S2048x256_d0 j = (p 2 (ix2 r k) : EReal) :=
  concatenate_apply_piece (t := S2048x256) (0 : Fin 2) (cat8_list p) _ j 2 (by show 2 < 8; decide) S256x256 (p 2) rfl rfl 512 (cat8_pre 2) (ix2 r k) (fun b hb => by match b, hb with | ⟨0, _⟩, hb => exact absurd rfl hb | ⟨1, _⟩, _ => exact h1) h0

theorem cat8_3 (p : Fin 8 → FVec Ideal S256x256 .f32) (r k : Fin 256) (j : S2048x256.Idx) (h0 : 768 + r.val = (j 0).val) (h1 : k.val = (j 1).val) :
    concatenate S2048x256 0 (cat8_list p) concatenates_S256x256_S256x256_S256x256_S256x256_S256x256_S256x256_S256x256_S256x256_S2048x256_d0 j = (p 3 (ix2 r k) : EReal) :=
  concatenate_apply_piece (t := S2048x256) (0 : Fin 2) (cat8_list p) _ j 3 (by show 3 < 8; decide) S256x256 (p 3) rfl rfl 768 (cat8_pre 3) (ix2 r k) (fun b hb => by match b, hb with | ⟨0, _⟩, hb => exact absurd rfl hb | ⟨1, _⟩, _ => exact h1) h0

theorem cat8_4 (p : Fin 8 → FVec Ideal S256x256 .f32) (r k : Fin 256) (j : S2048x256.Idx) (h0 : 1024 + r.val = (j 0).val) (h1 : k.val = (j 1).val) :
    concatenate S2048x256 0 (cat8_list p) concatenates_S256x256_S256x256_S256x256_S256x256_S256x256_S256x256_S256x256_S256x256_S2048x256_d0 j = (p 4 (ix2 r k) : EReal) :=
  concatenate_apply_piece (t := S2048x256) (0 : Fin 2) (cat8_list p) _ j 4 (by show 4 < 8; decide) S256x256 (p 4) rfl rfl 1024 (cat8_pre 4) (ix2 r k) (fun b hb => by match b, hb with | ⟨0, _⟩, hb => exact absurd rfl hb | ⟨1, _⟩, _ => exact h1) h0

theorem cat8_5 (p : Fin 8 → FVec Ideal S256x256 .f32) (r k : Fin 256) (j : S2048x256.Idx) (h0 : 1280 + r.val = (j 0).val) (h1 : k.val = (j 1).val) :
    concatenate S2048x256 0 (cat8_list p) concatenates_S256x256_S256x256_S256x256_S256x256_S256x256_S256x256_S256x256_S256x256_S2048x256_d0 j = (p 5 (ix2 r k) : EReal) :=
  concatenate_apply_piece (t := S2048x256) (0 : Fin 2) (cat8_list p) _ j 5 (by show 5 < 8; decide) S256x256 (p 5) rfl rfl 1280 (cat8_pre 5) (ix2 r k) (fun b hb => by match b, hb with | ⟨0, _⟩, hb => exact absurd rfl hb | ⟨1, _⟩, _ => exact h1) h0

theorem cat8_6 (p : Fin 8 → FVec Ideal S256x256 .f32) (r k : Fin 256) (j : S2048x256.Idx) (h0 : 1536 + r.val = (j 0).val) (h1 : k.val = (j 1).val) :
    concatenate S2048x256 0 (cat8_list p) concatenates_S256x256_S256x256_S256x256_S256x256_S256x256_S256x256_S256x256_S256x256_S2048x256_d0 j = (p 6 (ix2 r k) : EReal) :=
  concatenate_apply_piece (t := S2048x256) (0 : Fin 2) (cat8_list p) _ j 6 (by show 6 < 8; decide) S256x256 (p 6) rfl rfl 1536 (cat8_pre 6) (ix2 r k) (fun b hb => by match b, hb with | ⟨0, _⟩, hb => exact absurd rfl hb | ⟨1, _⟩, _ => exact h1) h0

theorem cat8_7 (p : Fin 8 → FVec Ideal S256x256 .f32) (r k : Fin 256) (j : S2048x256.Idx) (h0 : 1792 + r.val = (j 0).val) (h1 : k.val = (j 1).val) :
    concatenate S2048x256 0 (cat8_list p) concatenates_S256x256_S256x256_S256x256_S256x256_S256x256_S256x256_S256x256_S256x256_S2048x256_d0 j = (p 7 (ix2 r k) : EReal) :=
  concatenate_apply_piece (t := S2048x256) (0 : Fin 2) (cat8_list p) _ j 7 (by show 7 < 8; decide) S256x256 (p 7) rfl rfl 1792 (cat8_pre 7) (ix2 r k) (fun b hb => by match b, hb with | ⟨0, _⟩, hb => exact absurd rfl hb | ⟨1, _⟩, _ => exact h1) h0

theorem cat8 (p : Fin 8 → FVec Ideal S256x256 .f32) (r k : Fin 256) (h : Fin 8) :
    concatenate S2048x256 0 (cat8_list p) concatenates_S256x256_S256x256_S256x256_S256x256_S256x256_S256x256_S256x256_S256x256_S2048x256_d0 (ix2 ⟨256 * h.val + r.val, by omega⟩ k) = (p h (ix2 r k) : EReal) := by
  obtain hh | hh | hh | hh | hh | hh | hh | hh : h.val = 0 ∨ h.val = 1 ∨ h.val = 2 ∨ h.val = 3 ∨ h.val = 4 ∨ h.val = 5 ∨ h.val = 6 ∨ h.val = 7 := by omega
  · have e : h = 0 := Fin.ext hh
    rw [cat8_0 p r k _ (by show 0 + r.val = 256 * h.val + r.val; omega) rfl, e]
  · have e : h = 1 := Fin.ext hh
    rw [cat8_1 p r k _ (by show 256 + r.val = 256 * h.val + r.val; omega) rfl, e]
  · have e : h = 2 := Fin.ext hh
    rw [cat8_2 p r k _ (by show 512 + r.val = 256 * h.val + r.val; omega) rfl, e]
  · have e : h = 3 := Fin.ext hh
    rw [cat8_3 p r k _ (by show 768 + r.val = 256 * h.val + r.val; omega) rfl, e]
  · have e : h = 4 := Fin.ext hh
    rw [cat8_4 p r k _ (by show 1024 + r.val = 256 * h.val + r.val; omega) rfl, e]
  · have e : h = 5 := Fin.ext hh
    rw [cat8_5 p r k _ (by show 1280 + r.val = 256 * h.val + r.val; omega) rfl, e]
  · have e : h = 6 := Fin.ext hh
    rw [cat8_6 p r k _ (by show 1536 + r.val = 256 * h.val + r.val; omega) rfl, e]
  · have e : h = 7 := Fin.ext hh
    rw [cat8_7 p r k _ (by show 1792 + r.val = 256 * h.val + r.val; omega) rfl, e]

theorem eC_apply (p : Fin 8 → FVec Ideal S256x256 .f32) (t : Vec Ideal S256x256 .bf16) (h : Fin 8) (r c : Fin 256) :
    e8 (eC p t) h (ix2 r c) = ∑ k : Fin 256, (p h (ix2 r k) : EReal) * t (ix2 k c) := by
  unfold e8 eC
  have key := fun k => cat8 p r k h
  generalize concatenate S2048x256 0 _ _ = A at key ⊢
  pointwise [key]

/-- The blocks of rows one product takes. -/
abbrev catl_list (p p' : Fin 8 → FVec Ideal S256x256 .f32) : List ((s : Shape) × (s.Idx → Ideal .bf16)) := [⟨S256x256, truncf .bf16 (p 0) bitsLt_bf16_f32⟩, ⟨S256x256, truncf .bf16 (p' 0) bitsLt_bf16_f32⟩, ⟨S256x256, truncf .bf16 (p 1) bitsLt_bf16_f32⟩, ⟨S256x256, truncf .bf16 (p' 1) bitsLt_bf16_f32⟩, ⟨S256x256, truncf .bf16 (p 2) bitsLt_bf16_f32⟩, ⟨S256x256, truncf .bf16 (p' 2) bitsLt_bf16_f32⟩, ⟨S256x256, truncf .bf16 (p 3) bitsLt_bf16_f32⟩, ⟨S256x256, truncf .bf16 (p' 3) bitsLt_bf16_f32⟩, ⟨S256x256, truncf .bf16 (p 4) bitsLt_bf16_f32⟩, ⟨S256x256, truncf .bf16 (p' 4) bitsLt_bf16_f32⟩, ⟨S256x256, truncf .bf16 (p 5) bitsLt_bf16_f32⟩, ⟨S256x256, truncf .bf16 (p' 5) bitsLt_bf16_f32⟩, ⟨S256x256, truncf .bf16 (p 6) bitsLt_bf16_f32⟩, ⟨S256x256, truncf .bf16 (p' 6) bitsLt_bf16_f32⟩, ⟨S256x256, truncf .bf16 (p 7) bitsLt_bf16_f32⟩, ⟨S256x256, truncf .bf16 (p' 7) bitsLt_bf16_f32⟩]

theorem catl_pre : ∀ k : Fin 16, ((List.replicate k.val S256x256).map fun s => if h : s.rank = S4096x256.rank then s.size ((0 : Fin S4096x256.rank).cast h.symm) else 0).sum = 256 * k.val := by decide +kernel

theorem catl_0 (p p' : Fin 8 → FVec Ideal S256x256 .f32) (r k : Fin 256) (j : S4096x256.Idx) (h0 : 0 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 0 (ix2 r k) : EReal) :=
  concatenate_apply_piece (t := S4096x256) (0 : Fin 2) (catl_list p p') _ j 0 (by show 0 < 16; decide) S256x256 (p 0) rfl rfl 0 (catl_pre 0) (ix2 r k) (fun b hb => by match b, hb with | ⟨0, _⟩, hb => exact absurd rfl hb | ⟨1, _⟩, _ => exact h1) h0

theorem catl_1 (p p' : Fin 8 → FVec Ideal S256x256 .f32) (r k : Fin 256) (j : S4096x256.Idx) (h0 : 512 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 1 (ix2 r k) : EReal) :=
  concatenate_apply_piece (t := S4096x256) (0 : Fin 2) (catl_list p p') _ j 2 (by show 2 < 16; decide) S256x256 (p 1) rfl rfl 512 (catl_pre 2) (ix2 r k) (fun b hb => by match b, hb with | ⟨0, _⟩, hb => exact absurd rfl hb | ⟨1, _⟩, _ => exact h1) h0

theorem catl_2 (p p' : Fin 8 → FVec Ideal S256x256 .f32) (r k : Fin 256) (j : S4096x256.Idx) (h0 : 1024 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 2 (ix2 r k) : EReal) :=
  concatenate_apply_piece (t := S4096x256) (0 : Fin 2) (catl_list p p') _ j 4 (by show 4 < 16; decide) S256x256 (p 2) rfl rfl 1024 (catl_pre 4) (ix2 r k) (fun b hb => by match b, hb with | ⟨0, _⟩, hb => exact absurd rfl hb | ⟨1, _⟩, _ => exact h1) h0

theorem catl_3 (p p' : Fin 8 → FVec Ideal S256x256 .f32) (r k : Fin 256) (j : S4096x256.Idx) (h0 : 1536 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 3 (ix2 r k) : EReal) :=
  concatenate_apply_piece (t := S4096x256) (0 : Fin 2) (catl_list p p') _ j 6 (by show 6 < 16; decide) S256x256 (p 3) rfl rfl 1536 (catl_pre 6) (ix2 r k) (fun b hb => by match b, hb with | ⟨0, _⟩, hb => exact absurd rfl hb | ⟨1, _⟩, _ => exact h1) h0

theorem catl_4 (p p' : Fin 8 → FVec Ideal S256x256 .f32) (r k : Fin 256) (j : S4096x256.Idx) (h0 : 2048 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 4 (ix2 r k) : EReal) :=
  concatenate_apply_piece (t := S4096x256) (0 : Fin 2) (catl_list p p') _ j 8 (by show 8 < 16; decide) S256x256 (p 4) rfl rfl 2048 (catl_pre 8) (ix2 r k) (fun b hb => by match b, hb with | ⟨0, _⟩, hb => exact absurd rfl hb | ⟨1, _⟩, _ => exact h1) h0

theorem catl_5 (p p' : Fin 8 → FVec Ideal S256x256 .f32) (r k : Fin 256) (j : S4096x256.Idx) (h0 : 2560 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 5 (ix2 r k) : EReal) :=
  concatenate_apply_piece (t := S4096x256) (0 : Fin 2) (catl_list p p') _ j 10 (by show 10 < 16; decide) S256x256 (p 5) rfl rfl 2560 (catl_pre 10) (ix2 r k) (fun b hb => by match b, hb with | ⟨0, _⟩, hb => exact absurd rfl hb | ⟨1, _⟩, _ => exact h1) h0

theorem catl_6 (p p' : Fin 8 → FVec Ideal S256x256 .f32) (r k : Fin 256) (j : S4096x256.Idx) (h0 : 3072 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 6 (ix2 r k) : EReal) :=
  concatenate_apply_piece (t := S4096x256) (0 : Fin 2) (catl_list p p') _ j 12 (by show 12 < 16; decide) S256x256 (p 6) rfl rfl 3072 (catl_pre 12) (ix2 r k) (fun b hb => by match b, hb with | ⟨0, _⟩, hb => exact absurd rfl hb | ⟨1, _⟩, _ => exact h1) h0

theorem catl_7 (p p' : Fin 8 → FVec Ideal S256x256 .f32) (r k : Fin 256) (j : S4096x256.Idx) (h0 : 3584 + r.val = (j 0).val) (h1 : k.val = (j 1).val) :
    concatenate S4096x256 0 (catl_list p p') concatenates_S256x256_S256x256_S256x256_S256x256_S256x256_S256x256_S256x256_S256x256_S256x256_S256x256_S256x256_S256x256_S256x256_S256x256_S256x256_S256x256_S4096x256_d0 j = (p 7 (ix2 r k) : EReal) :=
  concatenate_apply_piece (t := S4096x256) (0 : Fin 2) (catl_list p p') _ j 14 (by show 14 < 16; decide) S256x256 (p 7) rfl rfl 3584 (catl_pre 14) (ix2 r k) (fun b hb => by match b, hb with | ⟨0, _⟩, hb => exact absurd rfl hb | ⟨1, _⟩, _ => exact h1) h0

theorem catl (p p' : Fin 8 → FVec Ideal S256x256 .f32) (r k : Fin 256) (h : Fin 8) :
    concatenate S4096x256 0 (catl_list p p') concatenates_S256x256_S256x256_S256x256_S256x256_S256x256_S256x256_S256x256_S256x256_S256x256_S256x256_S256x256_S256x256_S256x256_S256x256_S256x256_S256x256_S4096x256_d0 (ix2 ⟨512 * h.val + r.val, by omega⟩ k) = (p h (ix2 r k) : EReal) := by
  obtain hh | hh | hh | hh | hh | hh | hh | hh : h.val = 0 ∨ h.val = 1 ∨ h.val = 2 ∨ h.val = 3 ∨ h.val = 4 ∨ h.val = 5 ∨ h.val = 6 ∨ h.val = 7 := by omega
  · have e : h = 0 := Fin.ext hh
    rw [catl_0 p p' r k _ (by show 0 + r.val = 512 * h.val + r.val; omega) rfl, e]
  · have e : h = 1 := Fin.ext hh
    rw [catl_1 p p' r k _ (by show 512 + r.val = 512 * h.val + r.val; omega) rfl, e]
  · have e : h = 2 := Fin.ext hh
    rw [catl_2 p p' r k _ (by show 1024 + r.val = 512 * h.val + r.val; omega) rfl, e]
  · have e : h = 3 := Fin.ext hh
    rw [catl_3 p p' r k _ (by show 1536 + r.val = 512 * h.val + r.val; omega) rfl, e]
  · have e : h = 4 := Fin.ext hh
    rw [catl_4 p p' r k _ (by show 2048 + r.val = 512 * h.val + r.val; omega) rfl, e]
  · have e : h = 5 := Fin.ext hh
    rw [catl_5 p p' r k _ (by show 2560 + r.val = 512 * h.val + r.val; omega) rfl, e]
  · have e : h = 6 := Fin.ext hh
    rw [catl_6 p p' r k _ (by show 3072 + r.val = 512 * h.val + r.val; omega) rfl, e]
  · have e : h = 7 := Fin.ext hh
    rw [catl_7 p p' r k _ (by show 3584 + r.val = 512 * h.val + r.val; omega) rfl, e]

theorem el_apply (p p' : Fin 8 → FVec Ideal S256x256 .f32) (t : Vec Ideal S256x256 .bf16) (h : Fin 8) (r c : Fin 256) :
    el (eeC p p' t) h (ix2 r c) = ∑ k : Fin 256, (p h (ix2 r k) : EReal) * t (ix2 k c) := by
  unfold el eeC
  have key := fun k => catl p p' r k h
  generalize concatenate S4096x256 0 _ _ = A at key ⊢
  pointwise [key]

/-- The blocks of rows one product takes. -/
abbrev catr_list (p p' : Fin 8 → FVec Ideal S256x256 .f32) : List ((s : Shape) × (s.Idx → Ideal .bf16)) := [⟨S256x256, truncf .bf16 (p 0) bitsLt_bf16_f32⟩, ⟨S256x256, truncf .bf16 (p' 0) bitsLt_bf16_f32⟩, ⟨S256x256, truncf .bf16 (p 1) bitsLt_bf16_f32⟩, ⟨S256x256, truncf .bf16 (p' 1) bitsLt_bf16_f32⟩, ⟨S256x256, truncf .bf16 (p 2) bitsLt_bf16_f32⟩, ⟨S256x256, truncf .bf16 (p' 2) bitsLt_bf16_f32⟩, ⟨S256x256, truncf .bf16 (p 3) bitsLt_bf16_f32⟩, ⟨S256x256, truncf .bf16 (p' 3) bitsLt_bf16_f32⟩, ⟨S256x256, truncf .bf16 (p 4) bitsLt_bf16_f32⟩, ⟨S256x256, truncf .bf16 (p' 4) bitsLt_bf16_f32⟩, ⟨S256x256, truncf .bf16 (p 5) bitsLt_bf16_f32⟩, ⟨S256x256, truncf .bf16 (p' 5) bitsLt_bf16_f32⟩, ⟨S256x256, truncf .bf16 (p 6) bitsLt_bf16_f32⟩, ⟨S256x256, truncf .bf16 (p' 6) bitsLt_bf16_f32⟩, ⟨S256x256, truncf .bf16 (p 7) bitsLt_bf16_f32⟩, ⟨S256x256, truncf .bf16 (p' 7) bitsLt_bf16_f32⟩]

theorem catr_pre : ∀ k : Fin 16, ((List.replicate k.val S256x256).map fun s => if h : s.rank = S4096x256.rank then s.size ((0 : Fin S4096x256.rank).cast h.symm) else 0).sum = 256 * k.val := by decide +kernel

theorem catr_0 (p p' : Fin 8 → FVec Ideal S256x256 .f32) (r k : Fin 256) (j : S4096x256.Idx) (h0 : 256 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 0 (ix2 r k) : EReal) :=
  concatenate_apply_piece (t := S4096x256) (0 : Fin 2) (catr_list p p') _ j 1 (by show 1 < 16; decide) S256x256 (p' 0) rfl rfl 256 (catr_pre 1) (ix2 r k) (fun b hb => by match b, hb with | ⟨0, _⟩, hb => exact absurd rfl hb | ⟨1, _⟩, _ => exact h1) h0

theorem catr_1 (p p' : Fin 8 → FVec Ideal S256x256 .f32) (r k : Fin 256) (j : S4096x256.Idx) (h0 : 768 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 1 (ix2 r k) : EReal) :=
  concatenate_apply_piece (t := S4096x256) (0 : Fin 2) (catr_list p p') _ j 3 (by show 3 < 16; decide) S256x256 (p' 1) rfl rfl 768 (catr_pre 3) (ix2 r k) (fun b hb => by match b, hb with | ⟨0, _⟩, hb => exact absurd rfl hb | ⟨1, _⟩, _ => exact h1) h0

theorem catr_2 (p p' : Fin 8 → FVec Ideal S256x256 .f32) (r k : Fin 256) (j : S4096x256.Idx) (h0 : 1280 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 2 (ix2 r k) : EReal) :=
  concatenate_apply_piece (t := S4096x256) (0 : Fin 2) (catr_list p p') _ j 5 (by show 5 < 16; decide) S256x256 (p' 2) rfl rfl 1280 (catr_pre 5) (ix2 r k) (fun b hb => by match b, hb with | ⟨0, _⟩, hb => exact absurd rfl hb | ⟨1, _⟩, _ => exact h1) h0

theorem catr_3 (p p' : Fin 8 → FVec Ideal S256x256 .f32) (r k : Fin 256) (j : S4096x256.Idx) (h0 : 1792 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 3 (ix2 r k) : EReal) :=
  concatenate_apply_piece (t := S4096x256) (0 : Fin 2) (catr_list p p') _ j 7 (by show 7 < 16; decide) S256x256 (p' 3) rfl rfl 1792 (catr_pre 7) (ix2 r k) (fun b hb => by match b, hb with | ⟨0, _⟩, hb => exact absurd rfl hb | ⟨1, _⟩, _ => exact h1) h0

theorem catr_4 (p p' : Fin 8 → FVec Ideal S256x256 .f32) (r k : Fin 256) (j : S4096x256.Idx) (h0 : 2304 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 4 (ix2 r k) : EReal) :=
  concatenate_apply_piece (t := S4096x256) (0 : Fin 2) (catr_list p p') _ j 9 (by show 9 < 16; decide) S256x256 (p' 4) rfl rfl 2304 (catr_pre 9) (ix2 r k) (fun b hb => by match b, hb with | ⟨0, _⟩, hb => exact absurd rfl hb | ⟨1, _⟩, _ => exact h1) h0

theorem catr_5 (p p' : Fin 8 → FVec Ideal S256x256 .f32) (r k : Fin 256) (j : S4096x256.Idx) (h0 : 2816 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 5 (ix2 r k) : EReal) :=
  concatenate_apply_piece (t := S4096x256) (0 : Fin 2) (catr_list p p') _ j 11 (by show 11 < 16; decide) S256x256 (p' 5) rfl rfl 2816 (catr_pre 11) (ix2 r k) (fun b hb => by match b, hb with | ⟨0, _⟩, hb => exact absurd rfl hb | ⟨1, _⟩, _ => exact h1) h0

theorem catr_6 (p p' : Fin 8 → FVec Ideal S256x256 .f32) (r k : Fin 256) (j : S4096x256.Idx) (h0 : 3328 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 6 (ix2 r k) : EReal) :=
  concatenate_apply_piece (t := S4096x256) (0 : Fin 2) (catr_list p p') _ j 13 (by show 13 < 16; decide) S256x256 (p' 6) rfl rfl 3328 (catr_pre 13) (ix2 r k) (fun b hb => by match b, hb with | ⟨0, _⟩, hb => exact absurd rfl hb | ⟨1, _⟩, _ => exact h1) h0

theorem catr_7 (p p' : Fin 8 → FVec Ideal S256x256 .f32) (r k : Fin 256) (j : S4096x256.Idx) (h0 : 3840 + r.val = (j 0).val) (h1 : k.val = (j 1).val) :
    concatenate S4096x256 0 (catr_list p p') concatenates_S256x256_S256x256_S256x256_S256x256_S256x256_S256x256_S256x256_S256x256_S256x256_S256x256_S256x256_S256x256_S256x256_S256x256_S256x256_S256x256_S4096x256_d0 j = (p' 7 (ix2 r k) : EReal) :=
  concatenate_apply_piece (t := S4096x256) (0 : Fin 2) (catr_list p p') _ j 15 (by show 15 < 16; decide) S256x256 (p' 7) rfl rfl 3840 (catr_pre 15) (ix2 r k) (fun b hb => by match b, hb with | ⟨0, _⟩, hb => exact absurd rfl hb | ⟨1, _⟩, _ => exact h1) h0

theorem catr (p p' : Fin 8 → FVec Ideal S256x256 .f32) (r k : Fin 256) (h : Fin 8) :
    concatenate S4096x256 0 (catr_list p p') concatenates_S256x256_S256x256_S256x256_S256x256_S256x256_S256x256_S256x256_S256x256_S256x256_S256x256_S256x256_S256x256_S256x256_S256x256_S256x256_S256x256_S4096x256_d0 (ix2 ⟨512 * h.val + 256 + r.val, by omega⟩ k) = (p' h (ix2 r k) : EReal) := by
  obtain hh | hh | hh | hh | hh | hh | hh | hh : h.val = 0 ∨ h.val = 1 ∨ h.val = 2 ∨ h.val = 3 ∨ h.val = 4 ∨ h.val = 5 ∨ h.val = 6 ∨ h.val = 7 := by omega
  · have e : h = 0 := Fin.ext hh
    rw [catr_0 p p' r k _ (by show 256 + r.val = 512 * h.val + 256 + r.val; omega) rfl, e]
  · have e : h = 1 := Fin.ext hh
    rw [catr_1 p p' r k _ (by show 768 + r.val = 512 * h.val + 256 + r.val; omega) rfl, e]
  · have e : h = 2 := Fin.ext hh
    rw [catr_2 p p' r k _ (by show 1280 + r.val = 512 * h.val + 256 + r.val; omega) rfl, e]
  · have e : h = 3 := Fin.ext hh
    rw [catr_3 p p' r k _ (by show 1792 + r.val = 512 * h.val + 256 + r.val; omega) rfl, e]
  · have e : h = 4 := Fin.ext hh
    rw [catr_4 p p' r k _ (by show 2304 + r.val = 512 * h.val + 256 + r.val; omega) rfl, e]
  · have e : h = 5 := Fin.ext hh
    rw [catr_5 p p' r k _ (by show 2816 + r.val = 512 * h.val + 256 + r.val; omega) rfl, e]
  · have e : h = 6 := Fin.ext hh
    rw [catr_6 p p' r k _ (by show 3328 + r.val = 512 * h.val + 256 + r.val; omega) rfl, e]
  · have e : h = 7 := Fin.ext hh
    rw [catr_7 p p' r k _ (by show 3840 + r.val = 512 * h.val + 256 + r.val; omega) rfl, e]

theorem er_apply (p p' : Fin 8 → FVec Ideal S256x256 .f32) (t : Vec Ideal S256x256 .bf16) (h : Fin 8) (r c : Fin 256) :
    er (eeC p p' t) h (ix2 r c) = ∑ k : Fin 256, (p' h (ix2 r k) : EReal) * t (ix2 k c) := by
  unfold er eeC
  have key := fun k => catr p p' r k h
  generalize concatenate S4096x256 0 _ _ = A at key ⊢
  pointwise [key]

theorem xC_apply (run : FVec Ideal S256x1 .f32) (a : ℝ) (h : run (ix2 0 0) = (a : EReal)) : (⊥ : EReal) < xC run := by
  unfold xC
  pointwise
  rw [Finset.lt_fold_max]
  exact Or.inr ⟨(0, 0), Finset.mem_univ _, by rw [h]; exact EReal.bot_lt_coe a⟩

end Cert.AttnIdeal.Hand

end
-- ==== Proof.AttnRow.lean ====
/- One row of the attention over the reals: the running exponent and the weighted sum after the keys from a position on,
   and that a block of keys extends them. -/
module

public import proofs.«01_k».proof.Proof.AttnCell

@[expose] public section

set_option maxRecDepth 16384

noncomputable section

namespace Cert.AttnIdeal.Hand

open Cert.AttnIdeal Cert.AttnIdeal.Gen Cert.Hand
open Idealize.ShloMosaic Idealize.ShloMosaic.TcCoe

/-- A row's softplus before its query `g`, zero from there on. -/
def fS (z : ℕ → ℝ) (g j : ℕ) : ℝ := if j < g then spl (z j) else 0

/-- The running exponent after the keys from `a` on. -/
def runS (f : ℕ → ℝ) (T a : ℕ) : ℝ := -∑ j ∈ Finset.Ico a T, f j

/-- A key's weight. -/
def wS (z f : ℕ → ℝ) (T j : ℕ) : ℝ := Real.exp (z j - f j - ∑ i ∈ Finset.Ico (j + 1) T, f i)

/-- A key's weight before the query, zero from there on. -/
def mS (z f : ℕ → ℝ) (g T j : ℕ) : EReal := if j < g then ((wS z f T j : ℝ) : EReal) else 0

/-- The weighted sum after the keys from `a` on. -/
def accS (z f : ℕ → ℝ) (v : ℕ → EReal) (g T a : ℕ) : EReal := ∑ j ∈ Finset.Ico a T, mS z f g T j * v j

theorem coe_sum {ι : Type} (s : Finset ι) (φ : ι → ℝ) : ∑ c ∈ s, ((φ c : ℝ) : EReal) = ((∑ c ∈ s, φ c : ℝ) : EReal) :=
  (map_sum (⟨⟨fun x : ℝ => (x : EReal), EReal.coe_zero⟩, EReal.coe_add⟩ : ℝ →+ EReal) φ s).symm

theorem sum_block {M : Type} [AddCommMonoid M] (φ : ℕ → M) (a n : ℕ) : ∑ c : Fin n, φ (a + c.val) = ∑ j ∈ Finset.Ico a (a + n), φ j := by
  rw [Finset.sum_Ico_eq_sum_range, Nat.add_sub_cancel_left, Finset.sum_range]

theorem sum_split {M : Type} [AddCommMonoid M] (φ : ℕ → M) {a b T : ℕ} (h : a ≤ b) (h' : b ≤ T) :
    ∑ j ∈ Finset.Ico a b, φ j + ∑ j ∈ Finset.Ico b T, φ j = ∑ j ∈ Finset.Ico a T, φ j :=
  Finset.sum_Ico_consecutive φ h h'

/-- The suffix sums one product with the block of signs gives. -/
theorem suffix (f : ℕ → ℝ) (a : ℕ) (c : Fin 256) :
    ∑ k : Fin 256, ((f (a + k.val) : ℝ) : EReal) * (if c.val < k.val then (-1 : EReal) else 0)
      = ((-∑ j ∈ Finset.Ico (a + c.val + 1) (a + 256), f j : ℝ) : EReal) := by
  have h1 : ∀ k : Fin 256, ((f (a + k.val) : ℝ) : EReal) * (if c.val < k.val then (-1 : EReal) else 0)
      = (((if a + c.val < a + k.val then -f (a + k.val) else 0) : ℝ) : EReal) := fun k => by
    by_cases h : c.val < k.val
    · rw [if_pos h, if_pos (by omega), EReal.coe_neg, mul_neg, mul_one]
    · rw [if_neg h, if_neg (by omega), EReal.coe_zero, mul_zero]
  rw [Finset.sum_congr rfl fun k _ => h1 k, coe_sum]
  refine congrArg _ ?_
  rw [sum_block (fun j => if a + c.val < j then -f j else 0) a 256, ← sum_split _ (show a ≤ a + c.val + 1 by omega) (show a + c.val + 1 ≤ a + 256 by omega),
    Finset.sum_eq_zero, zero_add, ← Finset.sum_neg_distrib]
  · refine Finset.sum_congr rfl fun j hj => ?_
    rw [Finset.mem_Ico] at hj
    rw [if_pos (by omega)]
  · intro j hj
    rw [Finset.mem_Ico] at hj
    rw [if_neg (by omega)]

section Block
variable (z f : ℕ → ℝ) (v : ℕ → EReal) (g T a : ℕ) (r : Fin 256)

theorem rn_block (run : FVec Ideal S256x1 .f32) (s : FVec Ideal S256x256 .f32) (hT : a + 256 ≤ T)
    (hr : run (ix2 r 0) = ((runS f T (a + 256) : ℝ) : EReal)) (hs : ∀ c : Fin 256, s (ix2 r c) = ((f (a + c.val) : ℝ) : EReal)) :
    rnC run s (ix2 r 0) = ((runS f T a : ℝ) : EReal) := by
  rw [rnC_apply, hr, Finset.sum_congr rfl fun c _ => hs c, coe_sum, ← EReal.coe_sub, sum_block f a 256]
  refine congrArg _ ?_
  unfold runS
  rw [← sum_split f (show a ≤ a + 256 by omega) hT]
  ring

theorem w_block (zz s e : FVec Ideal S256x256 .f32) (run : FVec Ideal S256x1 .f32) (hT : a + 256 ≤ T)
    (hz : ∀ c : Fin 256, zz (ix2 r c) = ((z (a + c.val) : ℝ) : EReal)) (hs : ∀ c : Fin 256, s (ix2 r c) = ((f (a + c.val) : ℝ) : EReal))
    (he : ∀ c : Fin 256, e (ix2 r c) = ((-∑ j ∈ Finset.Ico (a + c.val + 1) (a + 256), f j : ℝ) : EReal))
    (hr : run (ix2 r 0) = ((runS f T (a + 256) : ℝ) : EReal)) (c : Fin 256) :
    wC zz s e run (ix2 r c) = ((wS z f T (a + c.val) : ℝ) : EReal) := by
  rw [wC_apply, hz, hs, he, hr, ← EReal.coe_sub, ← EReal.coe_add, ← EReal.coe_add]
  show ((Real.exp _ : ℝ) : EReal) = _
  refine congrArg _ (congrArg _ ?_)
  unfold runS
  rw [← sum_split f (show a + c.val + 1 ≤ a + 256 by omega) hT]
  ring

theorem sum_acc (w : Fin 256 → EReal) (x : Fin 256 → EReal) (hw : ∀ c : Fin 256, w c = mS z f g T (a + c.val)) (hx : ∀ c : Fin 256, x c = v (a + c.val)) :
    ∑ c : Fin 256, w c * x c = ∑ j ∈ Finset.Ico a (a + 256), mS z f g T j * v j := by
  rw [← sum_block (fun j => mS z f g T j * v j) a 256]
  exact Finset.sum_congr rfl fun c _ => by rw [hw, hx]

theorem a_block (acc : FVec Ideal S256x128 .f32) (w : FVec Ideal S256x256 .f32) (x : Vec Ideal S1x256x128 .bf16) (d : Fin 128) (hT : a + 256 ≤ T)
    (ha : acc (ix2 r d) = accS z f v g T (a + 256)) (hw : ∀ c : Fin 256, w (ix2 r c) = mS z f g T (a + c.val))
    (hx : ∀ c : Fin 256, x (ix3 0 c d) = v (a + c.val)) :
    aC acc w x (ix2 r d) = accS z f v g T a := by
  rw [aC_apply, ha, sum_acc z f v g T a _ _ hw hx, add_comm]
  exact sum_split _ (by omega) hT

theorem aa_block (acc : FVec Ideal S256x128 .f32) (w w' : FVec Ideal S256x256 .f32) (x : Vec Ideal S1x512x128 .bf16) (d : Fin 128) (hT : a + 256 + 256 ≤ T)
    (ha : acc (ix2 r d) = accS z f v g T (a + 256 + 256)) (hw : ∀ c : Fin 256, w (ix2 r c) = mS z f g T (a + c.val))
    (hw' : ∀ c : Fin 256, w' (ix2 r c) = mS z f g T (a + 256 + c.val))
    (hx : ∀ c : Fin 512, x (ix3 0 c d) = v (a + c.val)) :
    aaC acc w w' x (ix2 r d) = accS z f v g T a := by
  rw [aaC_apply, ha, sum_acc z f v g T a _ _ hw (fun c => hx ⟨c.val, by omega⟩),
    sum_acc z f v g T (a + 256) _ _ hw' (fun c => (hx ⟨256 + c.val, by omega⟩).trans (by rw [Nat.add_assoc])), add_comm,
    sum_split _ (show a ≤ a + 256 by omega) (show a + 256 ≤ a + 256 + 256 by omega)]
  exact sum_split _ (by omega) hT

end Block

theorem fS_lt (z : ℕ → ℝ) {g j : ℕ} (h : j < g) : fS z g j = spl (z j) := if_pos h

theorem runS_self (f : ℕ → ℝ) (T : ℕ) : ((runS f T T : ℝ) : EReal) = 0 := by
  unfold runS; rw [Finset.Ico_self, Finset.sum_empty, neg_zero, EReal.coe_zero]

theorem accS_self (z f : ℕ → ℝ) (v : ℕ → EReal) (g T : ℕ) : accS z f v g T T = 0 := by
  unfold accS; rw [Finset.Ico_self, Finset.sum_empty]

/-- A load out of a buffer, entry by entry. -/
theorem ld_at {A B : ℕ} (x : Vec Ideal (⟨3, ![1, A, B]⟩ : Shape) .bf16) {n k : ℕ} (off : Fin 3 → ℕ) (inb : ∀ a, off a + (![1, n, k] : Fin 3 → ℕ) a ≤ (⟨3, ![1, A, B]⟩ : Shape).size a)
    (h0 : off 0 = 0) (c : Fin n) (d : Fin k) (i : Fin A) (j : Fin B) (h1 : i.val = off 1 + c.val) (h2 : j.val = off 2 + d.val) :
    View.ld x (Rect.unit (s := (⟨3, ![1, A, B]⟩ : Shape)) off ![1, n, k] inb) (ix3 0 c d) = x (ix3 0 i j) := by
  show x _ = _
  refine congrArg x (ix3_of _ _ _ _ ?_ ?_ ?_)
  · show off 0 + 1 * 0 = 0; omega
  · show off 1 + 1 * c.val = i.val; omega
  · show off 2 + 1 * d.val = j.val; omega

end Cert.AttnIdeal.Hand

end
-- ==== Proof.AttnLoop.lean ====
/- The attention's sweeps and its loop over the extended reals: what they leave in the state, where the logits are real. -/
module

public import proofs.«01_k».proof.Proof.AttnRow

@[expose] public section

set_option maxRecDepth 16384

noncomputable section

namespace Cert.AttnIdeal.Hand

open Cert.AttnIdeal Cert.AttnIdeal.Gen Cert.Hand
open Idealize.ShloMosaic Idealize.ShloMosaic.TcCoe

theorem blk0 : ∀ k : Fin 16, (Scalar.indexCast (Scalar.muli (Scalar.subi (BitVec.ofNat 32 k.val) 0#32) 256#32)).toNat = 256 * k.val := by decide +kernel

theorem blk1 : ∀ k : Fin 16, k.val ≠ 0 → (Scalar.indexCast (Scalar.muli (Scalar.subi (BitVec.ofNat 32 k.val) 1#32) 256#32)).toNat = 256 * (k.val - 1) := by decide +kernel

theorem cond1 : ∀ k : Fin 16, (Scalar.cmpi .ne (Scalar.extui (Scalar.cmpi .eq (BitVec.ofNat 32 k.val) 0#32)) 0#32 = 1#1) ↔ k.val = 0 := by decide +kernel

theorem cond1_iff (i : grid0.Coords) : k0_cond1 i = 1#1 ↔ (i 2).val = 0 := cond1 (i 2)

theorem off1_eq (i : grid0.Coords) : ∀ h : Fin 8, off1 i h = ![0, (Scalar.indexCast (Scalar.muli (Scalar.subi (BitVec.ofNat 32 (i 2).val) 0#32) 256#32)).toNat, 128 * h.val]
  | 0 => rfl
  | 1 => rfl
  | 2 => rfl
  | 3 => rfl
  | 4 => rfl
  | 5 => rfl
  | 6 => rfl
  | 7 => rfl

theorem off2_eq (i : grid0.Coords) : ∀ h : Fin 8, off2 i h = ![0, (Scalar.indexCast (Scalar.muli (Scalar.subi (BitVec.ofNat 32 (i 2).val) 1#32) 256#32)).toNat, 128 * h.val]
  | 0 => rfl
  | 1 => rfl
  | 2 => rfl
  | 3 => rfl
  | 4 => rfl
  | 5 => rfl
  | 6 => rfl
  | 7 => rfl

theorem off3_eq (kb : BitVec 32) : ∀ h : Fin 8, off3 kb h = ![0, (Scalar.indexCast (Scalar.muli (Scalar.subi kb 0#32) 256#32)).toNat, 128 * h.val]
  | 0 => rfl
  | 1 => rfl
  | 2 => rfl
  | 3 => rfl
  | 4 => rfl
  | 5 => rfl
  | 6 => rfl
  | 7 => rfl

theorem kC1_at (i : grid0.Coords) (hc : k0_cond1 i = 1#1) (x : Vec Ideal S1x4096x1024 .bf16) (h : Fin 8) (c : Fin 256) (d : Fin 128) :
    kC1 i hc x h (ix3 0 c d) = x (ix3 0 ⟨c.val, by omega⟩ ⟨128 * h.val + d.val, by omega⟩) := by
  have e := off1_eq i h
  have e1 : off1 i h 1 = 256 * (i 2).val := by rw [e]; exact blk0 (i 2)
  have hq := (cond1_iff i).1 hc
  refine ld_at (A := 4096) (B := 1024) x (off1 i h) (off1_inb i hc h) (by rw [e]; rfl) c d _ _ ?_ ?_
  · rw [e1, hq]; show c.val = _; omega
  · rw [e]; rfl

theorem kC2_at (i : grid0.Coords) (hc : ¬(k0_cond1 i = 1#1)) (x : Vec Ideal S1x4096x1024 .bf16) (h : Fin 8) (c : Fin 512) (d : Fin 128)
    (hb : 256 * ((i 2).val - 1) + c.val < 4096) :
    kC2 i hc x h (ix3 0 c d) = x (ix3 0 ⟨256 * ((i 2).val - 1) + c.val, hb⟩ ⟨128 * h.val + d.val, by omega⟩) := by
  have e := off2_eq i h
  have e1 : off2 i h 1 = 256 * ((i 2).val - 1) := by rw [e]; exact blk1 (i 2) (fun hq => hc ((cond1_iff i).2 hq))
  refine ld_at (A := 4096) (B := 1024) x (off2 i h) (off2_inb i hc h) (by rw [e]; rfl) c d _ _ ?_ ?_
  · rw [e1]
  · rw [e]; rfl

theorem kC3_at (k : Fin 16) (hc : k0_chk1 (BitVec.ofNat 32 k.val)) (x : Vec Ideal S1x4096x1024 .bf16) (h : Fin 8) (c : Fin 256) (d : Fin 128) :
    kC3 (BitVec.ofNat 32 k.val) hc x h (ix3 0 c d) = x (ix3 0 ⟨256 * k.val + c.val, by omega⟩ ⟨128 * h.val + d.val, by omega⟩) := by
  have e := off3_eq (BitVec.ofNat 32 k.val) h
  have e1 : off3 (BitVec.ofNat 32 k.val) h 1 = 256 * k.val := by rw [e]; exact blk0 k
  refine ld_at (A := 4096) (B := 1024) x (off3 (BitVec.ofNat 32 k.val) h) (off3_inb (BitVec.ofNat 32 k.val) hc h) (by rw [e]; rfl) c d _ _ ?_ ?_
  · rw [e1]
  · rw [e]; rfl

variable (x3 : Vec Ideal S1x256x1024 .bf16) (x4 : Vec Ideal S1x4096x1024 .bf16) (x5 : Vec Ideal S1x4096x1024 .bf16) (x6 : Vec Ideal S256x256 .bf16)

/-- A head's logit of a query row and a key. -/
def zE (h : Fin 8) (r : Fin 256) (j : ℕ) : EReal :=
  if hj : j < 4096 then ∑ d : Fin 128, (x3 (ix3 0 r ⟨128 * h.val + d.val, by omega⟩) : EReal) * x4 (ix3 0 ⟨j, hj⟩ ⟨128 * h.val + d.val, by omega⟩) else 0

/-- The logit as a real. -/
def zR (h : Fin 8) (r : Fin 256) (j : ℕ) : ℝ := (zE x3 x4 h r j).toReal

/-- A key's value in a head's lane. -/
def vE (h : Fin 8) (d : Fin 128) (j : ℕ) : EReal := if hj : j < 4096 then x5 (ix3 0 ⟨j, hj⟩ ⟨128 * h.val + d.val, by omega⟩) else 0

/-- The state holds, for every head and row, the sums over the keys from `a` on. -/
def Inv (q a : ℕ) (s : St Ideal) : Prop := ∀ (h : Fin 8) (r : Fin 256),
  runAt s h (ix2 r 0) = ((runS (fS (zR x3 x4 h r) (256 * q + r.val)) (256 * (q + 1)) a : ℝ) : EReal) ∧
  ∀ d : Fin 128, accAt s h (ix2 r d) = accS (zR x3 x4 h r) (fS (zR x3 x4 h r) (256 * q + r.val)) (vE x5 h d) (256 * q + r.val) (256 * (q + 1)) a

variable (hz : ∀ h r j, zE x3 x4 h r j = ((zR x3 x4 h r j : ℝ) : EReal)) (ht : ∀ k c : Fin 256, x6 (ix2 k c) = if c.val < k.val then (-1 : EReal) else 0)

include ht in
theorem e_of (f : ℕ → ℝ) (a : ℕ) (s : FVec Ideal S256x256 .f32) (r c : Fin 256) (hs : ∀ c : Fin 256, s (ix2 r c) = ((f (a + c.val) : ℝ) : EReal)) :
    ∑ k : Fin 256, (s (ix2 r k) : EReal) * tC x6 (ix2 k c) = ((-∑ j ∈ Finset.Ico (a + c.val + 1) (a + 256), f j : ℝ) : EReal) := by
  rw [← suffix f a c]
  exact Finset.sum_congr rfl fun k _ => by rw [hs, tC_apply, ht]

include hz in
theorem z3 (k : Fin 16) (hc : k0_chk1 (BitVec.ofNat 32 k.val)) (h : Fin 8) (r c : Fin 256) :
    zC (qC x3 h) (kC3 (BitVec.ofNat 32 k.val) hc x4 h) (ix2 r c) = ((zR x3 x4 h r (256 * k.val + c.val) : ℝ) : EReal) := by
  rw [← hz, zC_apply, zE, dif_pos (show 256 * k.val + c.val < 4096 by omega)]
  exact Finset.sum_congr rfl fun d _ => by rw [qC_apply, kC3_at]

include hz ht in
theorem step_inv (q : ℕ) (k : Fin 16) (hk : k.val + 1 ≤ q) (hc : k0_chk1 (BitVec.ofNat 32 k.val)) (s : St Ideal)
    (hs : Inv x3 x4 x5 q (256 * k.val + 256) s) : Inv x3 x4 x5 q (256 * k.val) (stepSt (BitVec.ofNat 32 k.val) hc x3 x4 x5 x6 s).2 := fun h r => by
  have hT : 256 * k.val + 256 ≤ 256 * (q + 1) := by omega
  have hz' := fun c => z3 x3 x4 hz k hc h r c
  have hs' : ∀ c : Fin 256, s3 (BitVec.ofNat 32 k.val) hc x3 x4 h (ix2 r c) = ((fS (zR x3 x4 h r) (256 * q + r.val) (256 * k.val + c.val) : ℝ) : EReal) := fun c => by
    rw [fS_lt _ (by omega)]
    exact sC_apply _ r c _ (hz' c)
  refine ⟨?_, fun d => ?_⟩
  · rw [step_run]
    exact rn_block _ _ _ r _ _ hT (hs h r).1 hs'
  · rw [step_acc]
    refine a_block _ _ _ _ _ _ r _ _ _ d hT ((hs h r).2 d) (fun c => ?_) (fun c => ?_)
    · rw [mS, if_pos (by omega)]
      refine w_block _ _ _ _ r _ _ _ _ hT hz' hs' (fun c => ?_) (hs h r).1 c
      rw [eC_apply]
      exact e_of x6 ht _ _ _ r c hs'
    · rw [kC3_at, vE, dif_pos (show 256 * k.val + c.val < 4096 by omega)]

include hz in
theorem z1 (i : grid0.Coords) (hc : k0_cond1 i = 1#1) (h : Fin 8) (r c : Fin 256) :
    zC (qC x3 h) (kC1 i hc x4 h) (ix2 r c) = ((zR x3 x4 h r (0 + c.val) : ℝ) : EReal) := by
  rw [Nat.zero_add, ← hz, zC_apply, zE, dif_pos (show c.val < 4096 by omega)]
  exact Finset.sum_congr rfl fun d _ => by rw [qC_apply, kC1_at]

theorem m_of (z : ℕ → ℝ) (q : ℕ) (s : FVec Ideal S256x256 .f32) (r c : Fin 256) (a : ℕ) (ha : a = 256 * q)
    (hs : s (ix2 r c) = ((spl (z (a + c.val)) : ℝ) : EReal)) :
    mC s (ix2 r c) = ((fS z (256 * q + r.val) (a + c.val) : ℝ) : EReal) := by
  rw [mC_apply, fS]
  by_cases h : c.val < r.val
  · rw [if_pos h, if_pos (by omega), hs]
  · rw [if_neg h, if_neg (by omega), EReal.coe_zero]

theorem mw_of (z f : ℕ → ℝ) (q : ℕ) (w : FVec Ideal S256x256 .f32) (r c : Fin 256) (a T : ℕ) (ha : a = 256 * q)
    (hw : w (ix2 r c) = ((wS z f T (a + c.val) : ℝ) : EReal)) :
    mC w (ix2 r c) = mS z f (256 * q + r.val) T (a + c.val) := by
  rw [mC_apply, mS]
  by_cases h : c.val < r.val
  · rw [if_pos h, if_pos (by omega), hw]
  · rw [if_neg h, if_neg (by omega)]

include hz ht in
theorem diag_inv (i : grid0.Coords) (hc : k0_cond1 i = 1#1) : Inv x3 x4 x5 (i 2).val 0 (diagSt i hc x3 x4 x5 x6) := fun h r => by
  have hq := (cond1_iff i).1 hc
  have hT : 0 + 256 ≤ 256 * ((i 2).val + 1) := by omega
  have hT' : 0 + 256 = 256 * ((i 2).val + 1) := by omega
  have hz' := fun c => z1 x3 x4 hz i hc h r c
  have hs' : ∀ c : Fin 256, s1 i hc x3 x4 h (ix2 r c) = ((fS (zR x3 x4 h r) (256 * (i 2).val + r.val) (0 + c.val) : ℝ) : EReal) := fun c =>
    m_of _ _ _ r c 0 (by omega) (sC_apply _ r c _ (hz' c))
  have hr : (r0 (F := Ideal) (ix2 r 0) : EReal) = ((runS (fS (zR x3 x4 h r) (256 * (i 2).val + r.val)) (256 * ((i 2).val + 1)) (0 + 256) : ℝ) : EReal) := by
    rw [hT', runS_self]; exact r0_apply r
  refine ⟨?_, fun d => ?_⟩
  · rw [diag_run]
    exact rn_block _ _ _ r _ _ hT hr hs'
  · rw [diag_acc]
    refine a_block _ _ _ _ _ _ r _ _ _ d hT ?_ (fun c => ?_) (fun c => ?_)
    · rw [hT', accS_self]; exact a0_apply r d
    · refine mw_of _ _ _ _ r c 0 _ (by omega) ?_
      refine w_block _ _ _ _ r _ _ _ _ hT hz' hs' (fun c => ?_) hr c
      rw [eC_apply]
      exact e_of x6 ht _ _ _ r c hs'
    · rw [kC1_at, vE, dif_pos (show 0 + c.val < 4096 by omega)]
      simp only [Nat.zero_add]

include hz in
theorem z2 (i : grid0.Coords) (hc : ¬(k0_cond1 i = 1#1)) (h : Fin 8) (r : Fin 256) (c : Fin 512) (hb : 256 * ((i 2).val - 1) + c.val < 4096) :
    zzC (qC x3 h) (kC2 i hc x4 h) (ix2 r c) = ((zR x3 x4 h r (256 * ((i 2).val - 1) + c.val) : ℝ) : EReal) := by
  rw [← hz, zzC_apply, zE, dif_pos hb]
  exact Finset.sum_congr rfl fun d _ => by rw [qC_apply, kC2_at i hc x4 h c d hb]

include hz ht in
theorem two_inv (i : grid0.Coords) (hc : ¬(k0_cond1 i = 1#1)) : Inv x3 x4 x5 (i 2).val (256 * ((i 2).val - 1)) (twoSt i hc x3 x4 x5 x6) := fun h r => by
  have hq : (i 2).val ≠ 0 := fun hq => hc ((cond1_iff i).2 hq)
  have hi : (i 2).val < 16 := (i 2).isLt
  obtain ⟨a, ha⟩ : ∃ a, a = 256 * ((i 2).val - 1) := ⟨_, rfl⟩
  have haq : a + 256 = 256 * (i 2).val := by omega
  have hT' : a + 256 + 256 = 256 * ((i 2).val + 1) := by omega
  have hT : a + 256 + 256 ≤ 256 * ((i 2).val + 1) := by omega
  have hTl : a + 256 ≤ 256 * ((i 2).val + 1) := by omega
  rw [← ha]
  have hzl : ∀ c : Fin 256, lC (zzC (qC x3 h) (kC2 i hc x4 h)) (ix2 r c) = ((zR x3 x4 h r (a + c.val) : ℝ) : EReal) := fun c => by
    rw [lC_apply, z2 x3 x4 hz i hc h r _ (show 256 * ((i 2).val - 1) + c.val < 4096 by omega), ha]
  have hzr : ∀ c : Fin 256, rC (zzC (qC x3 h) (kC2 i hc x4 h)) (ix2 r c) = ((zR x3 x4 h r (a + 256 + c.val) : ℝ) : EReal) := fun c => by
    rw [rC_apply, z2 x3 x4 hz i hc h r _ (show 256 * ((i 2).val - 1) + (256 + c.val) < 4096 by omega), ha, Nat.add_assoc]
  have hsl : ∀ c : Fin 256, sl i hc x3 x4 h (ix2 r c) = ((fS (zR x3 x4 h r) (256 * (i 2).val + r.val) (a + c.val) : ℝ) : EReal) := fun c => by
    rw [fS_lt _ (by omega)]
    exact sC_apply _ r c _ (hzl c)
  have hsr : ∀ c : Fin 256, sr i hc x3 x4 h (ix2 r c) = ((fS (zR x3 x4 h r) (256 * (i 2).val + r.val) (a + 256 + c.val) : ℝ) : EReal) := fun c =>
    m_of _ _ _ r c (a + 256) haq (sC_apply _ r c _ (hzr c))
  have hr : (r0 (F := Ideal) (ix2 r 0) : EReal) = ((runS (fS (zR x3 x4 h r) (256 * (i 2).val + r.val)) (256 * ((i 2).val + 1)) (a + 256 + 256) : ℝ) : EReal) := by
    rw [hT', runS_self]; exact r0_apply r
  have hr' := rn_block _ _ _ r _ _ hT hr hsr
  refine ⟨?_, fun d => ?_⟩
  · rw [two_run]
    exact rn_block _ _ _ r _ _ hTl hr' hsl
  · rw [two_acc]
    refine aa_block _ _ _ _ _ _ r _ _ _ _ d hT ?_ (fun c => ?_) (fun c => ?_) (fun c => ?_)
    · rw [hT', accS_self]; exact a0_apply r d
    · rw [mS, if_pos (by omega)]
      refine w_block _ _ _ _ r _ _ _ _ hTl hzl hsl (fun c => ?_) hr' c
      rw [el_apply]
      exact e_of x6 ht _ _ _ r c hsl
    · refine mw_of _ _ _ _ r c (a + 256) _ haq ?_
      refine w_block _ _ _ _ r _ _ _ _ hT hzr hsr (fun c => ?_) hr c
      rw [er_apply]
      exact e_of x6 ht _ _ _ r c hsr
    · rw [kC2_at i hc x5 h c d (by omega), vE, dif_pos (show a + c.val < 4096 by omega)]
      simp only [ha]

theorem max_bot (y : EReal) (run : FVec Ideal S256x1 .f32) (a : ℝ) (h : run (ix2 0 0) = (a : EReal)) : (⊥ : EReal) < Scalar.maximumf (F := Ideal) (φ := .f32) y (xC run) :=
  lt_of_lt_of_le (xC_apply run a h) (le_max_right _ _)

theorem test_of (k : Fin 16) (r : Ideal .f32) (hr : (⊥ : EReal) < r) : loopTest (BitVec.ofNat 32 k.val) r = 1#1 := by
  have h1 : Scalar.cmpi .sge (BitVec.ofNat 32 k.val) 0#32 = 1#1 := (by decide +kernel : ∀ k : Fin 16, Scalar.cmpi .sge (BitVec.ofNat 32 k.val) 0#32 = 1#1) k
  have h2 : Scalar.cmpf (F := Ideal) (φ := .f32) .ogt r (Named.named κ "prune" 0xC2D00000#32) = 1#1 := by
    rw [prune_bot]
    show BitVec.ofBool (decide ((⊥ : EReal) < r)) = 1#1
    rw [decide_eq_true hr]; rfl
  unfold loopTest
  rw [h1, h2]
  rfl

include hz ht in
/-- The loop leaves the sums over all the keys. -/
theorem loop_inv (q : ℕ) : ∀ (n K : ℕ) (r : Ideal .f32) (s : St Ideal), K ≤ n → K ≤ 15 → K ≤ q → (⊥ : EReal) < r → Inv x3 x4 x5 q (256 * K) s →
    Inv x3 x4 x5 q 0 (resN x3 x4 x5 x6 n (Scalar.subi (BitVec.ofNat 32 K) 1#32) r s).2.2 := by
  intro n
  induction n with
  | zero =>
    intro K r s h1 h2 h3 hr hs
    obtain rfl : K = 0 := by omega
    exact hs
  | succ n ih =>
    intro K r s h1 h2 h3 hr hs
    rcases K with _ | K
    · rw [resN_stop]
      · exact hs
      · exact loopTest_le _ _ (by decide)
    · have e : Scalar.subi (BitVec.ofNat 32 (K + 1)) 1#32 = BitVec.ofNat 32 K := (by decide +kernel : ∀ k : Fin 16, Scalar.subi (BitVec.ofNat 32 (k.val + 1)) 1#32 = BitVec.ofNat 32 k.val) ⟨K, by omega⟩
      have hc : k0_chk1 (BitVec.ofNat 32 K) := chk_all ⟨K, by omega⟩
      rw [e, resN_step x3 x4 x5 x6 n _ r s (test_of ⟨K, by omega⟩ r hr) hc]
      have hi := step_inv x3 x4 x5 x6 hz ht q ⟨K, by omega⟩ h3 hc s hs
      refine ih K _ _ (by omega) (by omega) (by omega) ?_ hi
      obtain ⟨y, hy⟩ := step_max (x3 := x3) (x4 := x4) (x5 := x5) (x6 := x6) (BitVec.ofNat 32 K) hc s
      rw [hy]
      exact max_bot y _ _ (hi 7 0).1

include hz ht in
/-- What the loop leaves at a point. -/
theorem point_inv (i : grid0.Coords) :
    Inv x3 x4 x5 (i 2).val 0 (resN x3 x4 x5 x6 15 (Scalar.subi (BitVec.ofNat 32 (i 2).val) 2#32) (startR (startSt i x3 x4 x5 x6)) (startSt i x3 x4 x5 x6)).2.2 := by
  have hi : (i 2).val < 16 := (i 2).isLt
  unfold startSt
  by_cases hc : k0_cond1 i = 1#1
  · rw [dif_pos hc, resN_stop]
    · exact diag_inv x3 x4 x5 x6 hz ht i hc
    · rw [(cond1_iff i).1 hc]
      exact loopTest_le _ _ (by decide)
  · have hq : (i 2).val ≠ 0 := fun hq => hc ((cond1_iff i).2 hq)
    rw [dif_neg hc]
    have e : Scalar.subi (BitVec.ofNat 32 (i 2).val) 2#32 = Scalar.subi (BitVec.ofNat 32 ((i 2).val - 1)) 1#32 :=
      (by decide +kernel : ∀ k : Fin 16, k.val ≠ 0 → Scalar.subi (BitVec.ofNat 32 k.val) 2#32 = Scalar.subi (BitVec.ofNat 32 (k.val - 1)) 1#32) (i 2) hq
    have h2 := two_inv x3 x4 x5 x6 hz ht i hc
    rw [e]
    refine loop_inv x3 x4 x5 x6 hz ht (i 2).val 15 ((i 2).val - 1) _ _ (by omega) (by omega) (by omega) ?_ h2
    obtain ⟨y, hy⟩ := start_max (twoSt i hc x3 x4 x5 x6)
    rw [hy]
    exact max_bot y _ _ (h2 7 0).1

end Cert.AttnIdeal.Hand

end
-- ==== Proof.AttnOut.lean ====
/- The attention's output block, entry by entry, and the argument blocks a grid point reads. -/
module

public import proofs.«01_k».proof.Proof.AttnLoop
public import proofs.«01_k».proof.Proof.AttnIdealFrame
public import Idealize.ShloMosaic.Lib.Pipeline.ValueKit

@[expose] public section

set_option maxRecDepth 16384

noncomputable section

namespace Cert.AttnIdeal.Hand

open Cert.AttnIdeal Cert.AttnIdeal.Gen Cert.Hand
open Idealize.ShloMosaic Idealize.ShloMosaic.TcCoe

/-- A buffer written by eight stores that are all parts of one function `G` holds `G` wherever they reach. -/
theorem canon_eight {Val : EltTy → Type} {S : Shape} {e : EltTy} [∀ e, Nonempty (Val e)] (G : S.Idx → Val e)
    (r1 : Rect S) (p1 : r1.shape.Idx → Val e)
    (r2 : Rect S) (p2 : r2.shape.Idx → Val e)
    (r3 : Rect S) (p3 : r3.shape.Idx → Val e)
    (r4 : Rect S) (p4 : r4.shape.Idx → Val e)
    (r5 : Rect S) (p5 : r5.shape.Idx → Val e)
    (r6 : Rect S) (p6 : r6.shape.Idx → Val e)
    (r7 : Rect S) (p7 : r7.shape.Idx → Val e)
    (r8 : Rect S) (p8 : r8.shape.Idx → Val e) (y : S.Idx)
    (hc : ∃ p ∈ ([⟨r1, p1⟩, ⟨r2, p2⟩, ⟨r3, p3⟩, ⟨r4, p4⟩, ⟨r5, p5⟩, ⟨r6, p6⟩, ⟨r7, p7⟩, ⟨r8, p8⟩] : List (View.Piece Val S e)), y ∈ p.1.set)
    (h1 : ∀ x, p1 x = G (r1.emb x)) (h2 : ∀ x, p2 x = G (r2.emb x)) (h3 : ∀ x, p3 x = G (r3.emb x)) (h4 : ∀ x, p4 x = G (r4.emb x)) (h5 : ∀ x, p5 x = G (r5.emb x)) (h6 : ∀ x, p6 x = G (r6.emb x)) (h7 : ∀ x, p7 x = G (r7.emb x)) (h8 : ∀ x, p8 x = G (r8.emb x)) :
    View.canon [⟨r1, p1⟩, ⟨r2, p2⟩, ⟨r3, p3⟩, ⟨r4, p4⟩, ⟨r5, p5⟩, ⟨r6, p6⟩, ⟨r7, p7⟩, ⟨r8, p8⟩] y = G y :=
  View.canon_append_of_piecesOf G [] [⟨r1, p1⟩, ⟨r2, p2⟩, ⟨r3, p3⟩, ⟨r4, p4⟩, ⟨r5, p5⟩, ⟨r6, p6⟩, ⟨r7, p7⟩, ⟨r8, p8⟩] ⟨h1, h2, h3, h4, h5, h6, h7, h8, trivial⟩ y hc

set_option maxHeartbeats 4000000 in
/-- The output block holds every head's weighted sums side by side. -/
theorem outOf_apply (w : W Ideal) (G : S1x256x1024.Idx → EReal)
    (hG : ∀ (h : Fin 8) (r : Fin 256) (d : Fin 128), accAt w.2.2 h (ix2 r d) = G (ix3 0 r ⟨128 * h.val + d.val, by omega⟩)) (y : S1x256x1024.Idx) :
    outOf w y = G y := by
  unfold outOf
  refine canon_eight (Val := Elt Ideal) (e := .bf16) G _ _ _ _ _ _ _ _ _ _ _ _ _ _ _ _ y (cover_out _ _ _ _ _ _ _ _ y)
    (fun x => ?_) (fun x => ?_) (fun x => ?_) (fun x => ?_) (fun x => ?_) (fun x => ?_) (fun x => ?_) (fun x => ?_)
  · refine Eq.trans ?_ ((hG 7 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 896 + 1 * (x 2).val = 128 * 7 + (x 2).val
      omega
  · refine Eq.trans ?_ ((hG 6 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 768 + 1 * (x 2).val = 128 * 6 + (x 2).val
      omega
  · refine Eq.trans ?_ ((hG 5 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 640 + 1 * (x 2).val = 128 * 5 + (x 2).val
      omega
  · refine Eq.trans ?_ ((hG 4 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 512 + 1 * (x 2).val = 128 * 4 + (x 2).val
      omega
  · refine Eq.trans ?_ ((hG 3 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 384 + 1 * (x 2).val = 128 * 3 + (x 2).val
      omega
  · refine Eq.trans ?_ ((hG 2 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 256 + 1 * (x 2).val = 128 * 2 + (x 2).val
      omega
  · refine Eq.trans ?_ ((hG 1 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 128 + 1 * (x 2).val = 128 * 1 + (x 2).val
      omega
  · refine Eq.trans ?_ ((hG 0 (x 1) (x 2)).trans (congrArg G (ix3_of _ _ _ _ ?_ ?_ ?_).symm))
    · idx_vars x
      unfold_payloads
      pointwise
      rfl
    · show 0 + 1 * (x 0).val = 0
      have h0 : (x 0).val < 1 := (x 0).isLt
      omega
    · show 0 + 1 * (x 1).val = (x 1).val
      omega
    · show 0 + 1 * (x 2).val = 128 * 0 + (x 2).val
      omega

end Cert.AttnIdeal.Hand

end
-- ==== Proof.AttnRef.lean ====
/- The attention's reference, entry by entry over the extended reals, where the logits are real. -/
module

public import proofs.«01_k».proof.Proof.AttnRow
public import proofs.«01_k».proof.Proof.Gen.AttnRefIdeal.Run

@[expose] public section

set_option maxRecDepth 16384

noncomputable section

namespace Cert.AttnRefIdeal.Hand

open Cert.AttnRefIdeal Cert.AttnRefIdeal.Gen Cert.Hand
open Cert.AttnIdeal.Hand (spl fS wS mS accS coe_sum sum_block sum_split slt_nat log_coe_pos)
open Idealize.ShloMosaic Idealize.ShloMosaic.TcCoe

abbrev Sq := FVec Ideal S2x16x4096x4096 .f32

def oR : Sq := broadcastInDim S2x16x4096x4096 ![] bcast_S_S2x16x4096x4096 (constant S_ .f32 0x00000000#32)

def zRef (x : Vec Ideal S2x4096x4096 .bf16) : Sq :=
  Host.dotGeneral dot_S2x16x4096x128_S2x16x4096x128_S2x16x4096x4096_3_3_2_2_01_01 none (transpose S2x16x4096x128 [0, 2, 1, 3] (shapeCast _ (extf .f32 (extractStridedSlice S2x4096x2048 ![0, 0, 0] x slices_S2x4096x4096_S2x4096x2048_0_0_0) bitsLt_bf16_f32) shapeCasts_S2x4096x2048_S2x4096x16x128) transposes_S2x4096x16x128_S2x16x4096x128_0_2_1_3) (transpose S2x16x4096x128 [0, 2, 1, 3] (shapeCast _ (extf .f32 (extractStridedSlice S2x4096x2048 ![0, 0, 2048] x slices_S2x4096x4096_S2x4096x2048_0_0_2048) bitsLt_bf16_f32) shapeCasts_S2x4096x2048_S2x4096x16x128) transposes_S2x4096x16x128_S2x16x4096x128_0_2_1_3)

/-- The logarithm of the sigmoid. -/
def lsR (z : Sq) : Sq :=
  Host.negf (select (cmpf .une (subf (Host.negf z) oR) (subf (Host.negf z) oR)) (addf (Host.negf z) oR) (addf (maximumf (Host.negf z) oR) (Host.log1p (Host.exp (Host.negf (Host.absf (subf (Host.negf z) oR)))))))

/-- The keys before the query, zero elsewhere. -/
def maskR (x : Sq) : Sq :=
  select (broadcastInDim S2x16x4096x4096 ![2, 3] bcast_S4096x4096_S2x16x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) x (broadcastInDim S2x16x4096x4096 ![] bcast_S_S2x16x4096x4096 (id (constant S_ .f32 0x00000000#32)))

/-- The sums from a key on. -/
def cumR (x : Sq) : Sq :=
  Host.reduceWindowAdd ![1, 1, 1, 4096] ![1, 1, 1, 1] ![0, 0, 0, 0] ![0, 0, 0, 4095] x (broadcastInDim S_ ![] bcast_S_S_ (constant S_ .f32 0x00000000#32)) reduceWindows_S2x16x4096x4096_S2x16x4096x4096_w1s1p0_0_w1s1p0_0_w1s1p0_0_w4096s1p0_4095 h_S_

/-- The next key's entry, zero at the last. -/
def nextR (x : Sq) : Sq :=
  concatenate S2x16x4096x4096 3 [⟨S2x16x4096x4095, (extractStridedSlice S2x16x4096x4095 ![0, 0, 0, 1] x slices_S2x16x4096x4096_S2x16x4096x4095_0_0_0_1)⟩, ⟨S2x16x4096x1, (broadcastInDim S2x16x4096x1 ![] bcast_S_S2x16x4096x1 (constant S_ .f32 0x00000000#32))⟩] concatenates_S2x16x4096x4095_S2x16x4096x1_S2x16x4096x4096_d3

def outR (w : Sq) (v : Vec Ideal S2x4096x2048 .bf16) : Vec Ideal S2x4096x2048 .bf16 :=
  truncf .bf16 (shapeCast _ (transpose S2x4096x16x128 [0, 2, 1, 3] (Host.dotGeneral dot_S2x16x4096x4096_S2x16x4096x128_S2x16x4096x128_3_2_2_3_01_01 none w (transpose S2x16x4096x128 [0, 2, 1, 3] (shapeCast _ (extf .f32 v bitsLt_bf16_f32) shapeCasts_S2x4096x2048_S2x4096x16x128) transposes_S2x4096x16x128_S2x16x4096x128_0_2_1_3)) transposes_S2x16x4096x128_S2x4096x16x128_0_2_1_3) shapeCasts_S2x4096x16x128_S2x4096x2048) bitsLt_bf16_f32

theorem res_eq (m : (ℓ : Loc nD τ sig) → Buf (Elt Ideal) ℓ) (c : Dev nD) :
    Value.res_main_v34 m c = outR (maskR (Host.exp (addf (lsR (zRef (m ((c.tc : Thread nD τ).loc main_arg0))))
      (nextR (cumR (maskR (lsR (Host.negf (zRef (m ((c.tc : Thread nD τ).loc main_arg0)))))))))))
      (m ((c.tc : Thread nD τ).loc main_arg1)) := rfl

theorem zRef_apply (x : Vec Ideal S2x4096x4096 .bf16) (b : Fin 2) (h : Fin 16) (g j : Fin 4096) :
    zRef x (ix4 b h g j) = ∑ d : Fin 128, (x (ix3 b g ⟨128 * h.val + d.val, by omega⟩) : EReal) * x (ix3 b j ⟨2048 + (128 * h.val + d.val), by omega⟩) := by
  unfold zRef
  pointwise
  simp only [Nat.mul_comm h.val 128]

theorem outR_apply (w : Sq) (v : Vec Ideal S2x4096x2048 .bf16) (b : Fin 2) (g : Fin 4096) (l : Fin 2048) :
    outR w v (ix3 b g l) = ∑ j : Fin 4096, (w (ix4 b ⟨l.val / 128, by omega⟩ g j) : EReal) * v (ix3 b j l) := by
  unfold outR
  pointwise

theorem maskR_apply (x : Sq) (b : Fin 2) (h : Fin 16) (g j : Fin 4096) :
    maskR x (ix4 b h g j) = if j.val < g.val then (x (ix4 b h g j) : EReal) else 0 := by
  unfold maskR
  pointwise
  rw [slt_nat _ _ j.isLt g.isLt]
  by_cases hj : j.val < g.val
  · rw [if_pos hj, if_pos hj]; rfl
  · rw [if_neg hj, if_neg hj]
    show (Ideal.ofBits .f32 0#32 : EReal) = 0
    pointwise

theorem nextR_apply (x : Sq) (b : Fin 2) (h : Fin 16) (g j : Fin 4096) :
    nextR x (ix4 b h g j) = if hj : j.val + 1 < 4096 then (x (ix4 b h g ⟨j.val + 1, hj⟩) : EReal) else 0 := by
  unfold nextR
  pointwise
  by_cases hj : j.val + 1 < 4096
  · rw [dif_pos (show j.val < 4095 by omega), dif_pos hj]
    simp only [Nat.add_comm 1 j.val]
  · rw [dif_neg (show ¬ j.val < 4095 by omega), dif_neg hj]

/-- The softplus as it is computed: the larger of the argument and zero, and the rest. -/
theorem softplus (y : ℝ) : max y 0 + Real.log (1 + Real.exp (-max y (-y))) = spl y := by
  unfold spl
  rcases le_total 0 y with h | h
  · rw [max_eq_left h, max_eq_left (by linarith)]
    conv_lhs => rw [← Real.log_exp y]
    rw [← Real.log_mul (by positivity) (by positivity), mul_add, mul_one, Real.log_exp, ← Real.exp_add, add_neg_cancel, Real.exp_zero, add_comm]
  · rw [max_eq_right h, max_eq_right (by linarith), zero_add, neg_neg]

theorem lsR_apply (z : Sq) (i : S2x16x4096x4096.Idx) (x : ℝ) (h : z i = (x : EReal)) : lsR z i = ((-spl (-x) : ℝ) : EReal) := by
  unfold lsR oR
  pointwise [h]
  rw [if_neg (fun hh => hh rfl), ← softplus (-x), EReal.coe_neg (_ + _), EReal.coe_add]
  refine congrArg _ (congrArg₂ _ ?_ ?_)
  · rw [← EReal.coe_neg, ← EReal.coe_zero, ← EReal.coe_strictMono.monotone.map_max]
  · rw [← log_coe_pos _ (by positivity), EReal.coe_add, EReal.coe_one]
    show Ideal.log (1 + Ideal.exp (-max (-(x : EReal)) (-(-(x : EReal))))) = _
    rw [← EReal.coe_neg, ← EReal.coe_neg, ← EReal.coe_strictMono.monotone.map_max, ← EReal.coe_neg]
    rfl

theorem foldl_sum {M ι : Type} [AddCommMonoid M] (f : ι → M) : ∀ (l : List ι) (v : M), l.foldl (fun r n => r + f n) v = v + (l.map f).sum
  | [], v => by simp
  | a :: l, v => by rw [List.foldl_cons, foldl_sum f l, List.map_cons, List.sum_cons, add_assoc]

/-- The window's positions are its keys. -/
def winEquiv : Fin 4096 ≃ (⟨4, ![1, 1, 1, 4096]⟩ : Shape).Idx where
  toFun k := ix4 0 0 0 k
  invFun i := i 3
  left_inv _ := rfl
  right_inv i := by
    refine funext fun a => ?_
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl

/-- A windowed sum from zero is the sum over the window's positions. -/
theorem windowed {s t : Shape} (window strides lo hi : Fin s.rank → Nat) (x : FVec Ideal s .f32) (h : s.ReduceWindows window strides lo hi t) (j : t.Idx) :
    (FloatOps.hostReduceWindowAdd (F := Ideal) window strides lo hi h .single x (0 : EReal) j : EReal)
      = ∑ w : (⟨s.rank, window⟩ : Shape).Idx, (if hin : ∀ a, lo a ≤ (j (a.cast h.1.symm)).val * strides a + (w a).val ∧ (j (a.cast h.1.symm)).val * strides a + (w a).val - lo a < s.size a
        then (x (fun a => ⟨(j (a.cast h.1.symm)).val * strides a + (w a).val - lo a, (hin a).2⟩) : EReal) else 0) := by
  rw [Ideal.hostReduceWindowAdd_def]
  unfold Ideal.hostReduceWindowAdd Host.reduceWindow
  dsimp only
  rw [foldl_sum, zero_add, ← Fin.sum_univ_def]
  refine Eq.trans (Finset.sum_congr rfl fun n _ => ?_) (Equiv.sum_comp (Shape.rowMajor (⟨s.rank, window⟩ : Shape)).symm (fun w : (⟨s.rank, window⟩ : Shape).Idx =>
    if hin : ∀ a, lo a ≤ (j (a.cast h.1.symm)).val * strides a + (w a).val ∧ (j (a.cast h.1.symm)).val * strides a + (w a).val - lo a < s.size a
        then (x (fun a => ⟨(j (a.cast h.1.symm)).val * strides a + (w a).val - lo a, (hin a).2⟩) : EReal) else 0))
  congr

theorem cum_zero : (broadcastInDim S_ ![] bcast_S_S_ (constant S_ .f32 0x00000000#32) : FVec Ideal S_ .f32) (Shape.Idx.first h_S_) = (0 : EReal) := by
  show (Ideal.ofBits .f32 0#32 : EReal) = 0
  pointwise

theorem cumR_apply (x : Sq) (b : Fin 2) (h : Fin 16) (g j : Fin 4096) :
    cumR x (ix4 b h g j) = ∑ i ∈ Finset.Ico j.val 4096, (if hi : i < 4096 then (x (ix4 b h g ⟨i, hi⟩) : EReal) else 0) := by
  unfold cumR Host.reduceWindowAdd
  rw [cum_zero]
  refine (windowed _ _ _ _ x _ _).trans ?_
  refine (Equiv.sum_comp winEquiv _).symm.trans ?_
  refine (Finset.sum_congr rfl fun k _ => ?_).trans ((sum_block (fun i => if hi : i < 4096 then (x (ix4 b h g ⟨i, hi⟩) : EReal) else 0) j.val 4096).trans ?_)
  · dsimp only
    by_cases hk : j.val + k.val < 4096
    · rw [dif_pos hk, dif_pos]
      · refine congrArg x (funext fun a => Fin.ext ?_)
        match a with
        | ⟨0, _⟩ => show b.val * 1 + 0 - 0 = b.val; omega
        | ⟨1, _⟩ => show h.val * 1 + 0 - 0 = h.val; omega
        | ⟨2, _⟩ => show g.val * 1 + 0 - 0 = g.val; omega
        | ⟨3, _⟩ => show j.val * 1 + k.val - 0 = j.val + k.val; omega
      · intro a
        match a with
        | ⟨0, _⟩ => exact ⟨Nat.zero_le _, show b.val * 1 + 0 - 0 < 2 by omega⟩
        | ⟨1, _⟩ => exact ⟨Nat.zero_le _, show h.val * 1 + 0 - 0 < 16 by omega⟩
        | ⟨2, _⟩ => exact ⟨Nat.zero_le _, show g.val * 1 + 0 - 0 < 4096 by omega⟩
        | ⟨3, _⟩ => exact ⟨Nat.zero_le _, show j.val * 1 + k.val - 0 < 4096 by omega⟩
    · rw [dif_neg hk, dif_neg]
      intro hin
      have h3 : j.val * 1 + k.val - 0 < 4096 := (hin 3).2
      omega
  rw [← sum_split _ (show j.val ≤ 4096 by omega) (show 4096 ≤ j.val + 4096 by omega), Finset.sum_eq_zero (s := Finset.Ico 4096 (j.val + 4096)), add_zero]
  intro i hi
  rw [Finset.mem_Ico] at hi
  exact dif_neg (by omega)

/-- A key's weight in the reference. -/
theorem weight (x : Vec Ideal S2x4096x4096 .bf16) (b : Fin 2) (h : Fin 16) (g j : Fin 4096) (z : ℕ → ℝ)
    (hz : ∀ j : Fin 4096, zRef x (ix4 b h g j) = ((z j.val : ℝ) : EReal)) :
    maskR (Host.exp (addf (lsR (zRef x)) (nextR (cumR (maskR (lsR (Host.negf (zRef x)))))))) (ix4 b h g j) = mS z (fS z g.val) g.val 4096 j.val := by
  rw [maskR_apply, mS]
  by_cases hj : j.val < g.val
  swap
  · rw [if_neg hj, if_neg hj]
  rw [if_pos hj, if_pos hj]
  have h1 := lsR_apply (zRef x) (ix4 b h g j) _ (hz j)
  have h2 : ∀ i : Fin 4096, maskR (lsR (Host.negf (zRef x))) (ix4 b h g i) = ((-fS z g.val i.val : ℝ) : EReal) := fun i => by
    rw [maskR_apply, fS]
    by_cases hi : i.val < g.val
    · rw [if_pos hi, if_pos hi, lsR_apply (Host.negf (zRef x)) (ix4 b h g i) (-z i.val) (by
        show -(zRef x (ix4 b h g i) : EReal) = _
        rw [hz, EReal.coe_neg]), neg_neg]
    · rw [if_neg hi, if_neg hi, neg_zero, EReal.coe_zero]
  have h3 : nextR (cumR (maskR (lsR (Host.negf (zRef x))))) (ix4 b h g j) = ((-∑ i ∈ Finset.Ico (j.val + 1) 4096, fS z g.val i : ℝ) : EReal) := by
    rw [nextR_apply]
    by_cases hj' : j.val + 1 < 4096
    · rw [dif_pos hj', cumR_apply, ← Finset.sum_neg_distrib, ← coe_sum]
      refine Finset.sum_congr rfl fun i hi => ?_
      rw [Finset.mem_Ico] at hi
      rw [dif_pos hi.2, h2]
    · rw [dif_neg hj', Finset.Ico_eq_empty (by omega), Finset.sum_empty, neg_zero, EReal.coe_zero]
  show Ideal.exp ((lsR (zRef x) (ix4 b h g j) : EReal) + nextR (cumR (maskR (lsR (Host.negf (zRef x))))) (ix4 b h g j)) = _
  rw [h1, h3, ← EReal.coe_add, wS]
  show ((Real.exp _ : ℝ) : EReal) = _
  refine congrArg (fun r : ℝ => ((Real.exp r : ℝ) : EReal)) ?_
  rw [fS, if_pos hj, sub_eq_add_neg (z j.val - spl (z j.val))]
  congr 1
  have h4 : spl (-z j.val) = spl (z j.val) - z j.val := by
    unfold spl
    conv_rhs => rw [← Real.log_exp (z j.val)]
    rw [← Real.log_div (by positivity) (by positivity), Real.log_exp]
    congr 1
    rw [Real.exp_neg]
    field_simp
    ring
  rw [h4]; ring

/-- An entry of the reference's result, over its arguments. -/
theorem out_entry (x : Vec Ideal S2x4096x4096 .bf16) (v : Vec Ideal S2x4096x2048 .bf16) (b : Fin 2) (g : Fin 4096) (l : Fin 2048) (z : ℕ → ℝ)
    (hz : ∀ j : Fin 4096, ∑ d : Fin 128, (x (ix3 b g ⟨128 * (l.val / 128) + d.val, by omega⟩) : EReal)
      * x (ix3 b j ⟨2048 + (128 * (l.val / 128) + d.val), by omega⟩) = ((z j.val : ℝ) : EReal)) :
    outR (maskR (Host.exp (addf (lsR (zRef x)) (nextR (cumR (maskR (lsR (Host.negf (zRef x))))))))) v (ix3 b g l)
      = accS z (fS z g.val) (fun j => if hj : j < 4096 then (v (ix3 b ⟨j, hj⟩ l) : EReal) else 0) g.val 4096 0 := by
  rw [outR_apply, accS]
  refine Eq.trans (Finset.sum_congr rfl fun j _ => ?_) ((sum_block (fun j => mS z (fS z g.val) g.val 4096 j * (if hj : j < 4096 then (v (ix3 b ⟨j, hj⟩ l) : EReal) else 0)) 0 4096).trans ?_)
  · rw [weight x b _ g j z (fun j => (zRef_apply _ _ _ _ _).trans (hz j))]
    simp only [Nat.zero_add, dif_pos j.isLt]
  · rw [Nat.zero_add]

end Cert.AttnRefIdeal.Hand

end
-- ==== Proof.AttnTri0.lean ====
/- The triangle of signs the attention sums with: its rows from 0 on. -/
module

public import proofs.«01_k».proof.AttnIdeal

@[expose] public section

set_option maxRecDepth 16384

namespace Cert.AttnIdeal.Hand

open Cert.AttnIdeal

theorem tri0_0 : ∀ k : Fin 8, ∀ c : Fin 256, lit0t (256 * (0 + k.val) + c.val) = if c.val < 0 + k.val then 0xBF80#16 else 0x8000#16 := by decide +kernel

theorem tri0_1 : ∀ k : Fin 8, ∀ c : Fin 256, lit0t (256 * (8 + k.val) + c.val) = if c.val < 8 + k.val then 0xBF80#16 else 0x8000#16 := by decide +kernel

theorem tri0_2 : ∀ k : Fin 8, ∀ c : Fin 256, lit0t (256 * (16 + k.val) + c.val) = if c.val < 16 + k.val then 0xBF80#16 else 0x8000#16 := by decide +kernel

theorem tri0_3 : ∀ k : Fin 8, ∀ c : Fin 256, lit0t (256 * (24 + k.val) + c.val) = if c.val < 24 + k.val then 0xBF80#16 else 0x8000#16 := by decide +kernel

theorem tri0_4 : ∀ k : Fin 8, ∀ c : Fin 256, lit0t (256 * (32 + k.val) + c.val) = if c.val < 32 + k.val then 0xBF80#16 else 0x8000#16 := by decide +kernel

theorem tri0_5 : ∀ k : Fin 8, ∀ c : Fin 256, lit0t (256 * (40 + k.val) + c.val) = if c.val < 40 + k.val then 0xBF80#16 else 0x8000#16 := by decide +kernel

theorem tri0_6 : ∀ k : Fin 8, ∀ c : Fin 256, lit0t (256 * (48 + k.val) + c.val) = if c.val < 48 + k.val then 0xBF80#16 else 0x8000#16 := by decide +kernel

theorem tri0_7 : ∀ k : Fin 8, ∀ c : Fin 256, lit0t (256 * (56 + k.val) + c.val) = if c.val < 56 + k.val then 0xBF80#16 else 0x8000#16 := by decide +kernel

theorem tri0 (k : ℕ) (h : 0 ≤ k) (h' : k < 64) (c : Fin 256) : lit0t (256 * k + c.val) = if c.val < k then 0xBF80#16 else 0x8000#16 := by
  rcases (show (0 ≤ k ∧ k < 8) ∨ (8 ≤ k ∧ k < 16) ∨ (16 ≤ k ∧ k < 24) ∨ (24 ≤ k ∧ k < 32) ∨ (32 ≤ k ∧ k < 40) ∨ (40 ≤ k ∧ k < 48) ∨ (48 ≤ k ∧ k < 56) ∨ (56 ≤ k ∧ k < 64) by omega) with h | h | h | h | h | h | h | h
  · have e := tri0_0 ⟨k - 0, by omega⟩ c
    simpa only [show 0 + (k - 0) = k by omega] using e
  · have e := tri0_1 ⟨k - 8, by omega⟩ c
    simpa only [show 8 + (k - 8) = k by omega] using e
  · have e := tri0_2 ⟨k - 16, by omega⟩ c
    simpa only [show 16 + (k - 16) = k by omega] using e
  · have e := tri0_3 ⟨k - 24, by omega⟩ c
    simpa only [show 24 + (k - 24) = k by omega] using e
  · have e := tri0_4 ⟨k - 32, by omega⟩ c
    simpa only [show 32 + (k - 32) = k by omega] using e
  · have e := tri0_5 ⟨k - 40, by omega⟩ c
    simpa only [show 40 + (k - 40) = k by omega] using e
  · have e := tri0_6 ⟨k - 48, by omega⟩ c
    simpa only [show 48 + (k - 48) = k by omega] using e
  · have e := tri0_7 ⟨k - 56, by omega⟩ c
    simpa only [show 56 + (k - 56) = k by omega] using e

end Cert.AttnIdeal.Hand

end
-- ==== Proof.AttnTri1.lean ====
/- The triangle of signs the attention sums with: its rows from 64 on. -/
module

public import proofs.«01_k».proof.AttnIdeal
public import proofs.«01_k».proof.Proof.AttnTri0

@[expose] public section

set_option maxRecDepth 16384

namespace Cert.AttnIdeal.Hand

open Cert.AttnIdeal

theorem tri1_0 : ∀ k : Fin 8, ∀ c : Fin 256, lit0t (256 * (64 + k.val) + c.val) = if c.val < 64 + k.val then 0xBF80#16 else 0x8000#16 := by decide +kernel

theorem tri1_1 : ∀ k : Fin 8, ∀ c : Fin 256, lit0t (256 * (72 + k.val) + c.val) = if c.val < 72 + k.val then 0xBF80#16 else 0x8000#16 := by decide +kernel

theorem tri1_2 : ∀ k : Fin 8, ∀ c : Fin 256, lit0t (256 * (80 + k.val) + c.val) = if c.val < 80 + k.val then 0xBF80#16 else 0x8000#16 := by decide +kernel

theorem tri1_3 : ∀ k : Fin 8, ∀ c : Fin 256, lit0t (256 * (88 + k.val) + c.val) = if c.val < 88 + k.val then 0xBF80#16 else 0x8000#16 := by decide +kernel

theorem tri1_4 : ∀ k : Fin 8, ∀ c : Fin 256, lit0t (256 * (96 + k.val) + c.val) = if c.val < 96 + k.val then 0xBF80#16 else 0x8000#16 := by decide +kernel

theorem tri1_5 : ∀ k : Fin 8, ∀ c : Fin 256, lit0t (256 * (104 + k.val) + c.val) = if c.val < 104 + k.val then 0xBF80#16 else 0x8000#16 := by decide +kernel

theorem tri1_6 : ∀ k : Fin 8, ∀ c : Fin 256, lit0t (256 * (112 + k.val) + c.val) = if c.val < 112 + k.val then 0xBF80#16 else 0x8000#16 := by decide +kernel

theorem tri1_7 : ∀ k : Fin 8, ∀ c : Fin 256, lit0t (256 * (120 + k.val) + c.val) = if c.val < 120 + k.val then 0xBF80#16 else 0x8000#16 := by decide +kernel

theorem tri1 (k : ℕ) (h : 64 ≤ k) (h' : k < 128) (c : Fin 256) : lit0t (256 * k + c.val) = if c.val < k then 0xBF80#16 else 0x8000#16 := by
  rcases (show (64 ≤ k ∧ k < 72) ∨ (72 ≤ k ∧ k < 80) ∨ (80 ≤ k ∧ k < 88) ∨ (88 ≤ k ∧ k < 96) ∨ (96 ≤ k ∧ k < 104) ∨ (104 ≤ k ∧ k < 112) ∨ (112 ≤ k ∧ k < 120) ∨ (120 ≤ k ∧ k < 128) by omega) with h | h | h | h | h | h | h | h
  · have e := tri1_0 ⟨k - 64, by omega⟩ c
    simpa only [show 64 + (k - 64) = k by omega] using e
  · have e := tri1_1 ⟨k - 72, by omega⟩ c
    simpa only [show 72 + (k - 72) = k by omega] using e
  · have e := tri1_2 ⟨k - 80, by omega⟩ c
    simpa only [show 80 + (k - 80) = k by omega] using e
  · have e := tri1_3 ⟨k - 88, by omega⟩ c
    simpa only [show 88 + (k - 88) = k by omega] using e
  · have e := tri1_4 ⟨k - 96, by omega⟩ c
    simpa only [show 96 + (k - 96) = k by omega] using e
  · have e := tri1_5 ⟨k - 104, by omega⟩ c
    simpa only [show 104 + (k - 104) = k by omega] using e
  · have e := tri1_6 ⟨k - 112, by omega⟩ c
    simpa only [show 112 + (k - 112) = k by omega] using e
  · have e := tri1_7 ⟨k - 120, by omega⟩ c
    simpa only [show 120 + (k - 120) = k by omega] using e

end Cert.AttnIdeal.Hand

end
-- ==== Proof.AttnTri2.lean ====
/- The triangle of signs the attention sums with: its rows from 128 on. -/
module

public import proofs.«01_k».proof.AttnIdeal

@[expose] public section

set_option maxRecDepth 16384

namespace Cert.AttnIdeal.Hand

open Cert.AttnIdeal

theorem tri2_0 : ∀ k : Fin 8, ∀ c : Fin 256, lit0t (256 * (128 + k.val) + c.val) = if c.val < 128 + k.val then 0xBF80#16 else 0x8000#16 := by decide +kernel

theorem tri2_1 : ∀ k : Fin 8, ∀ c : Fin 256, lit0t (256 * (136 + k.val) + c.val) = if c.val < 136 + k.val then 0xBF80#16 else 0x8000#16 := by decide +kernel

theorem tri2_2 : ∀ k : Fin 8, ∀ c : Fin 256, lit0t (256 * (144 + k.val) + c.val) = if c.val < 144 + k.val then 0xBF80#16 else 0x8000#16 := by decide +kernel

theorem tri2_3 : ∀ k : Fin 8, ∀ c : Fin 256, lit0t (256 * (152 + k.val) + c.val) = if c.val < 152 + k.val then 0xBF80#16 else 0x8000#16 := by decide +kernel

theorem tri2_4 : ∀ k : Fin 8, ∀ c : Fin 256, lit0t (256 * (160 + k.val) + c.val) = if c.val < 160 + k.val then 0xBF80#16 else 0x8000#16 := by decide +kernel

theorem tri2_5 : ∀ k : Fin 8, ∀ c : Fin 256, lit0t (256 * (168 + k.val) + c.val) = if c.val < 168 + k.val then 0xBF80#16 else 0x8000#16 := by decide +kernel

theorem tri2_6 : ∀ k : Fin 8, ∀ c : Fin 256, lit0t (256 * (176 + k.val) + c.val) = if c.val < 176 + k.val then 0xBF80#16 else 0x8000#16 := by decide +kernel

theorem tri2_7 : ∀ k : Fin 8, ∀ c : Fin 256, lit0t (256 * (184 + k.val) + c.val) = if c.val < 184 + k.val then 0xBF80#16 else 0x8000#16 := by decide +kernel

theorem tri2 (k : ℕ) (h : 128 ≤ k) (h' : k < 192) (c : Fin 256) : lit0t (256 * k + c.val) = if c.val < k then 0xBF80#16 else 0x8000#16 := by
  rcases (show (128 ≤ k ∧ k < 136) ∨ (136 ≤ k ∧ k < 144) ∨ (144 ≤ k ∧ k < 152) ∨ (152 ≤ k ∧ k < 160) ∨ (160 ≤ k ∧ k < 168) ∨ (168 ≤ k ∧ k < 176) ∨ (176 ≤ k ∧ k < 184) ∨ (184 ≤ k ∧ k < 192) by omega) with h | h | h | h | h | h | h | h
  · have e := tri2_0 ⟨k - 128, by omega⟩ c
    simpa only [show 128 + (k - 128) = k by omega] using e
  · have e := tri2_1 ⟨k - 136, by omega⟩ c
    simpa only [show 136 + (k - 136) = k by omega] using e
  · have e := tri2_2 ⟨k - 144, by omega⟩ c
    simpa only [show 144 + (k - 144) = k by omega] using e
  · have e := tri2_3 ⟨k - 152, by omega⟩ c
    simpa only [show 152 + (k - 152) = k by omega] using e
  · have e := tri2_4 ⟨k - 160, by omega⟩ c
    simpa only [show 160 + (k - 160) = k by omega] using e
  · have e := tri2_5 ⟨k - 168, by omega⟩ c
    simpa only [show 168 + (k - 168) = k by omega] using e
  · have e := tri2_6 ⟨k - 176, by omega⟩ c
    simpa only [show 176 + (k - 176) = k by omega] using e
  · have e := tri2_7 ⟨k - 184, by omega⟩ c
    simpa only [show 184 + (k - 184) = k by omega] using e

end Cert.AttnIdeal.Hand

end
-- ==== Proof.AttnTri3.lean ====
/- The triangle of signs the attention sums with: its rows from 192 on. -/
module

public import proofs.«01_k».proof.AttnIdeal
public import proofs.«01_k».proof.Proof.AttnTri2

@[expose] public section

set_option maxRecDepth 16384

namespace Cert.AttnIdeal.Hand

open Cert.AttnIdeal

theorem tri3_0 : ∀ k : Fin 8, ∀ c : Fin 256, lit0t (256 * (192 + k.val) + c.val) = if c.val < 192 + k.val then 0xBF80#16 else 0x8000#16 := by decide +kernel

theorem tri3_1 : ∀ k : Fin 8, ∀ c : Fin 256, lit0t (256 * (200 + k.val) + c.val) = if c.val < 200 + k.val then 0xBF80#16 else 0x8000#16 := by decide +kernel

theorem tri3_2 : ∀ k : Fin 8, ∀ c : Fin 256, lit0t (256 * (208 + k.val) + c.val) = if c.val < 208 + k.val then 0xBF80#16 else 0x8000#16 := by decide +kernel

theorem tri3_3 : ∀ k : Fin 8, ∀ c : Fin 256, lit0t (256 * (216 + k.val) + c.val) = if c.val < 216 + k.val then 0xBF80#16 else 0x8000#16 := by decide +kernel

theorem tri3_4 : ∀ k : Fin 8, ∀ c : Fin 256, lit0t (256 * (224 + k.val) + c.val) = if c.val < 224 + k.val then 0xBF80#16 else 0x8000#16 := by decide +kernel

theorem tri3_5 : ∀ k : Fin 8, ∀ c : Fin 256, lit0t (256 * (232 + k.val) + c.val) = if c.val < 232 + k.val then 0xBF80#16 else 0x8000#16 := by decide +kernel

theorem tri3_6 : ∀ k : Fin 8, ∀ c : Fin 256, lit0t (256 * (240 + k.val) + c.val) = if c.val < 240 + k.val then 0xBF80#16 else 0x8000#16 := by decide +kernel

theorem tri3_7 : ∀ k : Fin 8, ∀ c : Fin 256, lit0t (256 * (248 + k.val) + c.val) = if c.val < 248 + k.val then 0xBF80#16 else 0x8000#16 := by decide +kernel

theorem tri3 (k : ℕ) (h : 192 ≤ k) (h' : k < 256) (c : Fin 256) : lit0t (256 * k + c.val) = if c.val < k then 0xBF80#16 else 0x8000#16 := by
  rcases (show (192 ≤ k ∧ k < 200) ∨ (200 ≤ k ∧ k < 208) ∨ (208 ≤ k ∧ k < 216) ∨ (216 ≤ k ∧ k < 224) ∨ (224 ≤ k ∧ k < 232) ∨ (232 ≤ k ∧ k < 240) ∨ (240 ≤ k ∧ k < 248) ∨ (248 ≤ k ∧ k < 256) by omega) with h | h | h | h | h | h | h | h
  · have e := tri3_0 ⟨k - 192, by omega⟩ c
    simpa only [show 192 + (k - 192) = k by omega] using e
  · have e := tri3_1 ⟨k - 200, by omega⟩ c
    simpa only [show 200 + (k - 200) = k by omega] using e
  · have e := tri3_2 ⟨k - 208, by omega⟩ c
    simpa only [show 208 + (k - 208) = k by omega] using e
  · have e := tri3_3 ⟨k - 216, by omega⟩ c
    simpa only [show 216 + (k - 216) = k by omega] using e
  · have e := tri3_4 ⟨k - 224, by omega⟩ c
    simpa only [show 224 + (k - 224) = k by omega] using e
  · have e := tri3_5 ⟨k - 232, by omega⟩ c
    simpa only [show 232 + (k - 232) = k by omega] using e
  · have e := tri3_6 ⟨k - 240, by omega⟩ c
    simpa only [show 240 + (k - 240) = k by omega] using e
  · have e := tri3_7 ⟨k - 248, by omega⟩ c
    simpa only [show 248 + (k - 248) = k by omega] using e

end Cert.AttnIdeal.Hand

end
-- ==== Proof.AttnValue.lean ====
/- The attention's value: over the extended reals the kernel's result is its reference's, where the queries and keys are finite. -/
module

public import proofs.«01_k».proof.Defs
public import proofs.«01_k».proof.Proof.AttnOut
public import proofs.«01_k».proof.Proof.AttnRef
public import proofs.«01_k».proof.Proof.AttnTri0
public import proofs.«01_k».proof.Proof.AttnTri1
public import proofs.«01_k».proof.Proof.AttnTri2
public import proofs.«01_k».proof.Proof.AttnTri3
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AttnIdeal.Hand

open Cert.AttnIdeal Cert.AttnIdeal.Gen Cert.Hand

/-- The keys past a row's last block add nothing. -/
theorem accS_all (z : ℕ → ℝ) (v : ℕ → EReal) (g T T' : ℕ) (h : g ≤ T) (h' : T ≤ T') : accS z (fS z g) v g T 0 = accS z (fS z g) v g T' 0 := by
  unfold accS
  rw [← sum_split (fun j => mS z (fS z g) g T' j * v j) (Nat.zero_le T) h', Finset.sum_eq_zero (s := Finset.Ico T T'), add_zero]
  · refine Finset.sum_congr rfl fun j hj => ?_
    rw [Finset.mem_Ico] at hj
    have e : wS z (fS z g) T j = wS z (fS z g) T' j := by
      unfold wS
      rw [← sum_split (fS z g) (show j + 1 ≤ T by omega) h', Finset.sum_eq_zero (s := Finset.Ico T T'), add_zero]
      intro i hi
      rw [Finset.mem_Ico] at hi
      exact if_neg (by omega)
    unfold mS
    rw [e]
  · intro j hj
    rw [Finset.mem_Ico] at hj
    rw [mS, if_neg (by omega), zero_mul]

theorem real_sum (x y : Fin 128 → EReal) (hx : ∀ d, ∃ r : ℝ, x d = (r : EReal)) (hy : ∀ d, ∃ r : ℝ, y d = (r : EReal)) :
    ∑ d, x d * y d = (((∑ d, x d * y d).toReal : ℝ) : EReal) := by
  choose a ha using hx
  choose b hb using hy
  have e : ∑ d, x d * y d = ((∑ d, a d * b d : ℝ) : EReal) := by
    rw [← coe_sum]
    exact Finset.sum_congr rfl fun d _ => by rw [ha, hb, EReal.coe_mul]
  rw [e, EReal.toReal_coe]

/-- A head's logit of a query and a key. -/
def zG (x : Vec Ideal S2x4096x4096 .bf16) (b : Fin 2) (g : Fin 4096) (h : Fin 16) (j : ℕ) : ℝ :=
  (if hj : j < 4096 then ∑ d : Fin 128, (x (ix3 b g ⟨128 * h.val + d.val, by omega⟩) : EReal) * x (ix3 b ⟨j, hj⟩ ⟨2048 + (128 * h.val + d.val), by omega⟩) else 0).toReal

/-- A lane's value of a key. -/
def vG (v : Vec Ideal S2x4096x2048 .bf16) (b : Fin 2) (l : Fin 2048) (j : ℕ) : EReal := if hj : j < 4096 then v (ix3 b ⟨j, hj⟩ l) else 0

/-- One entry of the attention. -/
def attnAt (x : Vec Ideal S2x4096x4096 .bf16) (v : Vec Ideal S2x4096x2048 .bf16) (b : Fin 2) (g : Fin 4096) (h : Fin 16) (l : Fin 2048) : EReal :=
  accS (zG x b g h) (fS (zG x b g h) g.val) (vG v b l) g.val 4096 0

/-- The entries a precondition on the queries and keys makes real. -/
def Fin0 (x : Vec Ideal S2x4096x4096 .bf16) : Prop := ∀ i, ∃ r : ℝ, (x i : EReal) = (r : EReal)

section block

variable (x : Vec Ideal S2x4096x4096 .bf16) (v : Vec Ideal S2x4096x2048 .bf16) (hx : Fin0 x)
  (x3 : Vec Ideal S1x256x1024 .bf16) (x4 : Vec Ideal S1x4096x1024 .bf16) (x5 : Vec Ideal S1x4096x1024 .bf16) (x6 : Vec Ideal S256x256 .bf16)
  (b : Fin 2) (p : Fin 2) (q : Fin 16)
  (h3 : ∀ (r : Fin 256) (l : Fin 1024), x3 (ix3 0 r l) = x (ix3 b ⟨256 * q.val + r.val, by omega⟩ ⟨1024 * p.val + l.val, by omega⟩))
  (h4 : ∀ (j : Fin 4096) (l : Fin 1024), x4 (ix3 0 j l) = x (ix3 b j ⟨2048 + (1024 * p.val + l.val), by omega⟩))
  (h5 : ∀ (j : Fin 4096) (l : Fin 1024), x5 (ix3 0 j l) = v (ix3 b j ⟨1024 * p.val + l.val, by omega⟩))
  (ht : ∀ k c : Fin 256, x6 (ix2 k c) = if c.val < k.val then (-1 : EReal) else 0)

include h3 h4 in
theorem zE_eq (h : Fin 8) (r : Fin 256) (j : ℕ) : zE x3 x4 h r j =
    if hj : j < 4096 then ∑ d : Fin 128, (x (ix3 b ⟨256 * q.val + r.val, by omega⟩ ⟨128 * (8 * p.val + h.val) + d.val, by omega⟩) : EReal)
      * x (ix3 b ⟨j, hj⟩ ⟨2048 + (128 * (8 * p.val + h.val) + d.val), by omega⟩) else 0 := by
  unfold zE
  by_cases hj : j < 4096
  · rw [dif_pos hj, dif_pos hj]
    refine Finset.sum_congr rfl fun d _ => ?_
    rw [h3, h4]
    refine congrArg₂ _ (congrArg x ?_) (congrArg x ?_)
    · exact ix3_of _ _ _ _ rfl rfl (show 1024 * p.val + (128 * h.val + d.val) = 128 * (8 * p.val + h.val) + d.val by omega)
    · exact ix3_of _ _ _ _ rfl rfl (show 2048 + (1024 * p.val + (128 * h.val + d.val)) = 2048 + (128 * (8 * p.val + h.val) + d.val) by omega)
  · rw [dif_neg hj, dif_neg hj]

include h3 h4 in
theorem zR_eq (h : Fin 8) (r : Fin 256) : zR x3 x4 h r = zG x b ⟨256 * q.val + r.val, by omega⟩ ⟨8 * p.val + h.val, by omega⟩ := by
  funext j
  unfold zR
  rw [zE_eq x x3 x4 b p q h3 h4]
  rfl

include hx h3 h4 in
theorem zE_real (h : Fin 8) (r : Fin 256) (j : ℕ) : zE x3 x4 h r j = ((zR x3 x4 h r j : ℝ) : EReal) := by
  unfold zR
  rw [zE_eq x x3 x4 b p q h3 h4]
  by_cases hj : j < 4096
  · rw [dif_pos hj]
    exact real_sum _ _ (fun d => hx _) (fun d => hx _)
  · rw [dif_neg hj, EReal.toReal_zero, EReal.coe_zero]

include h5 in
theorem vE_eq (h : Fin 8) (d : Fin 128) : vE x5 h d = vG v b ⟨128 * (8 * p.val + h.val) + d.val, by omega⟩ := by
  funext j
  unfold vE vG
  by_cases hj : j < 4096
  · rw [dif_pos hj, dif_pos hj, h5]
    refine congrArg v ?_
    exact ix3_of _ _ _ _ rfl rfl (show 1024 * p.val + (128 * h.val + d.val) = 128 * (8 * p.val + h.val) + d.val by omega)
  · rw [dif_neg hj, dif_neg hj]

include hx h3 h4 h5 ht in
/-- The block a grid point stores, over the arguments. -/
theorem block (i : grid0.Coords) (hq : (i 2).val = q.val) (G : S1x256x1024.Idx → EReal)
    (hG : ∀ (h : Fin 8) (r : Fin 256) (d : Fin 128), G (ix3 0 r ⟨128 * h.val + d.val, by omega⟩)
      = attnAt x v b ⟨256 * q.val + r.val, by omega⟩ ⟨8 * p.val + h.val, by omega⟩ ⟨128 * (8 * p.val + h.val) + d.val, by omega⟩) (y : S1x256x1024.Idx) :
    outBlk i x3 x4 x5 x6 y = G y := by
  unfold outBlk
  refine outOf_apply _ G (fun h r d => ?_) y
  have hi := (point_inv x3 x4 x5 x6 (zE_real x hx x3 x4 b p q h3 h4) ht i h r).2 d
  rw [hi, hG, zR_eq x x3 x4 b p q h3 h4, vE_eq v x5 b p h5, hq]
  exact accS_all _ _ _ _ _ (by omega) (by omega)

end block

theorem idx : ∀ t : Fin (cfg0 (F := Ideal)).N, win0_0.index t = ![(grid0.coords t 0).val, (grid0.coords t 2).val, (grid0.coords t 1).val]
    ∧ win0_1.index t = ![(grid0.coords t 0).val, 0, 2 + (grid0.coords t 1).val]
    ∧ win0_2.index t = ![(grid0.coords t 0).val, 0, (grid0.coords t 1).val] ∧ win0_3.index t = ![0, 0]
    ∧ win0_4.index t = ![(grid0.coords t 0).val, (grid0.coords t 2).val, (grid0.coords t 1).val] :=
  (by decide +kernel : ∀ t : Fin grid0.N, _)

theorem tri : ∀ k c : Fin 256, lit0t (256 * k.val + c.val) = if c.val < k.val then 0xBF80#16 else 0x8000#16 := fun k c => by
  rcases (show k.val < 64 ∨ (64 ≤ k.val ∧ k.val < 128) ∨ (128 ≤ k.val ∧ k.val < 192) ∨ (192 ≤ k.val ∧ k.val < 256) by omega) with h | h | h | h
  · exact tri0 k.val (by omega) h c
  · exact tri1 k.val h.1 h.2 c
  · exact tri2 k.val h.1 h.2 c
  · exact tri3 k.val h.1 h.2 c

variable (m : (ℓ : Loc nD τ sig) → Buf (Elt Ideal) ℓ) (ρ : Dev nD → PrngReg)

theorem V_cst (c : Dev nD) : V m c main_cst = fun i : S256x256.Idx => FloatOps.ofBits (F := Ideal) .bf16 (lit0 (S256x256.rowMajor i)) := by
  unfold V
  simp only [hostOps0]
  after_results
  rfl

theorem tri_blk (c : Dev nD) (t : Fin (cfg0 (F := Ideal)).N) (k j : Fin 256) :
    (iblk m c 3 t : Vec Ideal S256x256 .bf16) (ix2 k j) = if j.val < k.val then (-1 : EReal) else 0 := by
  obtain ⟨i0, i1, i2, i3, i4⟩ := idx t
  have e : (iblk m c 3 t : Vec Ideal S256x256 .bf16) (ix2 k j) = V m c main_cst (ix2 k j) := by
    refine congrArg (V m c main_cst) (ix2_of _ _ _ ?_ ?_)
    · show win0_3.index t 0 * 256 + 1 * k.val = _; rw [i3]; simp
    · show win0_3.index t 1 * 256 + 1 * j.val = _; rw [i3]; simp
  rw [e, V_cst]
  have e2 : (S256x256.rowMajor (ix2 k j)).val = 256 * k.val + j.val := by
    rw [Shape.rowMajor_val_two]
    show k.val * 256 + j.val = _
    omega
  show (FloatOps.ofBits (F := Ideal) .bf16 (lit0t (S256x256.rowMajor (ix2 k j)).val) : EReal) = _
  rw [e2, tri]
  by_cases h : j.val < k.val
  · rw [if_pos h, if_pos h]
    show Ideal.ofBits .bf16 0xBF80#16 = -1
    rw [Idealize.ShloMosaic.Ideal.ofBits_neg_one_bf16, EReal.coe_one]
  · rw [if_neg h, if_neg h]
    show Ideal.ofBits .bf16 0x8000#16 = 0
    simp [Ideal.ofBits, Ideal.ieee]

/-- The whole result array, entry by entry, over the argument arrays. -/
def G (c : Dev nD) : Buf (Elt Ideal) ((c : Thread nD τ).loc main_v0) := fun i : S2x4096x2048.Idx =>
  attnAt (m ((c : Thread nD τ).loc main_arg0)) (m ((c : Thread nD τ).loc main_arg1)) (i 0) (i 1)
    ⟨(i 2).val / 128, by have h : (i 2).val < 2048 := (i 2).isLt; omega⟩ (i 2)

theorem attnAt_congr (x : Vec Ideal S2x4096x4096 .bf16) (v : Vec Ideal S2x4096x2048 .bf16) {b b' : Fin 2} {g g' : Fin 4096} {h h' : Fin 16} {l l' : Fin 2048}
    (e0 : b = b') (e1 : g = g') (e2 : h = h') (e3 : l = l') : attnAt x v b g h l = attnAt x v b' g' h' l' := by
  subst e0 e1 e2 e3; rfl

/-- Every block of the result is some point's. -/
theorem points : ∀ (b : Fin 2) (p : Fin 2) (q : Fin 16), ∃ t : Fin (cfg0 (F := Ideal)).N, ((cfg0 (F := Ideal)).win 4).flush t = true
    ∧ win0_4.index t = ![b.val, q.val, p.val] :=
  (by decide +kernel : ∀ (b : Fin 2) (p : Fin 2) (q : Fin 16), ∃ t : Fin grid0.N, win0_4.flush t = true ∧ win0_4.index t = ![b.val, q.val, p.val])

set_option maxHeartbeats 4000000 in
theorem flushed_eq (c : Dev nD) (hx : Fin0 (m ((c : Thread nD τ).loc main_arg0))) (t : Fin (cfg0 (F := Ideal)).N) :
    (dats m 0 c).flushed 4 t = (win0_4.blk t).view.read (Elt Ideal) (G m c) := by
  rw [flushed4]
  obtain ⟨i0, i1, i2, i3, i4⟩ := idx t
  funext y
  refine block (m ((c : Thread nD τ).loc main_arg0)) (m ((c : Thread nD τ).loc main_arg1)) hx (iblk m c 0 t) (iblk m c 1 t) (iblk m c 2 t) (iblk m c 3 t)
    (grid0.coords t 0) (grid0.coords t 1) (grid0.coords t 2) (fun r l => ?_) (fun j l => ?_) (fun j l => ?_) (tri_blk m c t) (grid0.coords t) rfl
    (fun y : S1x256x1024.Idx => G m c ((win0_4.blk t).view.emb y)) (fun h r d => ?_) y
  · refine congrArg (m ((c : Thread nD τ).loc main_arg0)) (ix3_of _ _ _ _ ?_ ?_ ?_)
    · show win0_0.index t 0 * 1 + 1 * 0 = _; rw [i0]; simp
    · show win0_0.index t 1 * 256 + 1 * r.val = _; rw [i0]; simp; omega
    · show win0_0.index t 2 * 1024 + 1 * l.val = _; rw [i0]; simp; omega
  · refine congrArg (m ((c : Thread nD τ).loc main_arg0)) (ix3_of _ _ _ _ ?_ ?_ ?_)
    · show win0_1.index t 0 * 1 + 1 * 0 = _; rw [i1]; simp
    · show win0_1.index t 1 * 4096 + 1 * j.val = _; rw [i1]; simp
    · show win0_1.index t 2 * 1024 + 1 * l.val = _; rw [i1]; simp; omega
  · refine congrArg (m ((c : Thread nD τ).loc main_arg1)) (ix3_of _ _ _ _ ?_ ?_ ?_)
    · show win0_2.index t 0 * 1 + 1 * 0 = _; rw [i2]; simp
    · show win0_2.index t 1 * 4096 + 1 * j.val = _; rw [i2]; simp
    · show win0_2.index t 2 * 1024 + 1 * l.val = _; rw [i2]; simp; omega
  · have e0 : ((win0_4.blk t).view.emb (ix3 0 r ⟨128 * h.val + d.val, by omega⟩) 0).val = (grid0.coords t 0).val := by
      show win0_4.index t 0 * 1 + 1 * 0 = _; rw [i4]; simp
    have e1 : ((win0_4.blk t).view.emb (ix3 0 r ⟨128 * h.val + d.val, by omega⟩) 1).val = 256 * (grid0.coords t 2).val + r.val := by
      show win0_4.index t 1 * 256 + 1 * r.val = _; rw [i4]; simp; omega
    have e2 : ((win0_4.blk t).view.emb (ix3 0 r ⟨128 * h.val + d.val, by omega⟩) 2).val = 128 * (8 * (grid0.coords t 1).val + h.val) + d.val := by
      show win0_4.index t 2 * 1024 + 1 * (128 * h.val + d.val) = _; rw [i4]; simp; omega
    dsimp only
    generalize (win0_4.blk t).view.emb (ix3 0 r ⟨128 * h.val + d.val, by omega⟩) = i at e0 e1 e2
    exact attnAt_congr _ _ (Fin.ext e0) (Fin.ext e1) (Fin.ext (show (i 2).val / 128 = 8 * (grid0.coords t 1).val + h.val by rw [e2]; omega)) (Fin.ext e2)

theorem cover (i : S2x4096x2048.Idx) : ∃ t : Fin (cfg0 (F := Ideal)).N, ((cfg0 (F := Ideal)).win 4).flush t = true ∧ i ∈ (((cfg0 (F := Ideal)).win 4).blk t).view.set := by
  have h0 : (i 0).val < 2 := (i 0).isLt
  have h1 : (i 1).val < 4096 := (i 1).isLt
  have h2 : (i 2).val < 2048 := (i 2).isLt
  obtain ⟨t, hf, ht⟩ := points ⟨(i 0).val, h0⟩ ⟨(i 2).val / 1024, by omega⟩ ⟨(i 1).val / 256, by omega⟩
  refine ⟨t, hf, ?_⟩
  show i ∈ ((View.whole main_v0).slice (win0_4.rect t)).set
  rw [View.set_slice_whole, Rect.mem_set_unit]
  intro a
  match a with
  | ⟨0, _⟩ => show win0_4.index t 0 * 1 ≤ (i 0).val ∧ (i 0).val < win0_4.index t 0 * 1 + 1
              rw [ht]; simp
  | ⟨1, _⟩ => show win0_4.index t 1 * 256 ≤ (i 1).val ∧ (i 1).val < win0_4.index t 1 * 256 + 256
              rw [ht]; simp; omega
  | ⟨2, _⟩ => show win0_4.index t 2 * 1024 ≤ (i 2).val ∧ (i 2).val < win0_4.index t 2 * 1024 + 1024
              rw [ht]; simp; omega

theorem final (c : Dev nD) (hx : Fin0 (m ((c : Thread nD τ).loc main_arg0))) : (dats m 0 c).arrAt 4 (cfg0 (F := Ideal)).N = G m c :=
  (dats m 0 c).arrAt_eq_of_cover 4 _ (fun t _ => flushed_eq m c hx t) cover

end Cert.AttnIdeal.Hand

namespace Cert.Pre_qk_finite.Hand

open Cert.Pre_qk_finite

theorem facts : Cert.Pre_qk_finite.Facts where
  bitsLt_bf16_f32 := by decide
  bcast_S_S2x4096x4096 := by decide

theorem abs_lt (x : EReal) (h : Ideal.cmp .olt (max x (-x)) (⊤ : EReal) = 1#1) : ∃ r : ℝ, x = (r : EReal) := by
  have h' : max x (-x) < ⊤ := by
    by_contra hn
    have e : Ideal.cmp .olt (max x (-x)) (⊤ : EReal) = BitVec.ofBool (decide (max x (-x) < ⊤)) := rfl
    rw [e, decide_eq_false hn] at h
    exact absurd h (by decide)
  induction x using EReal.rec with
  | bot => simp at h'
  | coe r => exact ⟨r, rfl⟩
  | top => simp at h'

/-- Where the precondition holds every query and key is a real. -/
theorem real (x : FVec Ideal S2x4096x4096 .bf16) (v : FVec Ideal S2x4096x2048 .bf16)
    (h : @Cert.Pre_qk_finite.fn facts Ideal _ x v = fun _ => 1#1) (i : S2x4096x4096.Idx) : ∃ r : ℝ, (x i : EReal) = (r : EReal) := by
  refine abs_lt _ ?_
  have e := congrFun h i
  unfold Cert.Pre_qk_finite.fn at e
  revert e
  idx_vars i
  pointwise
  exact id

end Cert.Pre_qk_finite.Hand

namespace Cert.Hand

theorem attn_value : Cert.algebraic_AttnIdeal_AttnRefIdeal_pre_qk_finite (hAttnIdeal := Cert.AttnIdeal.Gen.facts) (hAttnRefIdeal := Cert.AttnRefIdeal.Gen.facts)
    (hPre_qk_finite := Cert.Pre_qk_finite.Hand.facts) := by
  intro m ρ m' ρ' hpre hagree
  have hx : ∀ c : Dev Cert.AttnIdeal.nD, Cert.AttnIdeal.Hand.Fin0 (m ((c.tc : Thread Cert.AttnIdeal.nD Cert.AttnIdeal.τ).loc Cert.AttnIdeal.main_arg0)) := fun c i =>
    Cert.Pre_qk_finite.Hand.real _ _ (hpre c) i
  refine ⟨fun c => Cert.AttnIdeal.Hand.G m c, ?_, ?_⟩
  · exact (θ_run Cert.AttnIdeal.defs _ _).mono (fun r h c => ⟨((h c).1).trans (Cert.AttnIdeal.Hand.final m c (hx c)), (h c).2⟩)
      (Cert.AttnIdeal.Hand.run_blocks (F := Ideal) m ρ)
  · refine (θ_run Cert.AttnRefIdeal.defs _ _).mono (fun r h c => ⟨((h c).1).trans ?_, (h c).2⟩)
      (Cert.AttnRefIdeal.Value.run (F := Ideal) m' ρ')
    obtain ⟨a0, a1⟩ := hagree c
    rw [Cert.AttnRefIdeal.Hand.res_eq, a0, a1]
    funext i
    rw [eq_ix3 i]
    refine Cert.AttnRefIdeal.Hand.out_entry _ _ (i 0) (i 1) (i 2) (Cert.AttnIdeal.Hand.zG (m ((c.tc : Thread Cert.AttnIdeal.nD Cert.AttnIdeal.τ).loc Cert.AttnIdeal.main_arg0)) (i 0) (i 1)
      ⟨(i 2).val / 128, by have h : (i 2).val < 2048 := (i 2).isLt; omega⟩) (fun j => ?_)
    unfold Cert.AttnIdeal.Hand.zG
    rw [dif_pos j.isLt]
    exact Cert.AttnIdeal.Hand.real_sum _ _ (fun d => hx c _) (fun d => hx c _)

end Cert.Hand
-- ==== Proof.FfnValue.lean ====
module

public import proofs.«01_k».proof.Defs
public import proofs.«01_k».proof.Proof.Gen.FfnIdeal.Value
public import proofs.«01_k».proof.Proof.Gen.FfnRefIdeal.Run
public import proofs.«01_k».proof.Proof.Common

@[expose] public section

set_option maxRecDepth 16384

noncomputable section

open Idealize.ShloMosaic Idealize.ShloMosaic.TcCoe Idealize.SL.Sem
open Idealize.ShloMosaic.Pipeline (Dat)

/-- One hidden unit's activation: the gate's SiLU times the up projection. -/
def ffnAct (x g u : Fin 2048 → EReal) : EReal :=
  (∑ k, x k * g k) * Ideal.logistic (∑ k, x k * g k) * (∑ k, x k * u k)

namespace Cert.FfnIdeal.Hand

open Cert.FfnIdeal Cert.FfnIdeal.Gen

/-- One hidden unit's activation of row `r`: columns `f` and `5632 + f` of the packed weights. -/
def ffnHid (x : S8192x2048.Idx → EReal) (w : S2048x11264.Idx → EReal) (r : Fin 8192) (f : Fin 5632) : EReal :=
  ffnAct (fun k => x (ix2 r k)) (fun k => w (ix2 k ⟨f.val, by omega⟩)) (fun k => w (ix2 k ⟨5632 + f.val, by omega⟩))

/-- One entry's share from hidden unit `f`. -/
def ffnTerm (x : S8192x2048.Idx → EReal) (w : S2048x11264.Idx → EReal) (d : S5632x2048.Idx → EReal) (i : S8192x2048.Idx) (f : Fin 5632) : EReal :=
  ffnHid x w (i 0) f * d (ix2 f (i 1))

/-- The same, over the first `j + 1` of the eleven blocks of hidden units. -/
def ffnUpto (x : S8192x2048.Idx → EReal) (w : S2048x11264.Idx → EReal) (d : S5632x2048.Idx → EReal) (z : EReal) (i : S8192x2048.Idx)
    (j : Nat) (hj : j < 11) : EReal :=
  z + ∑ p : Fin (j + 1), ∑ f : Fin 512, ffnTerm x w d i ⟨p.val * 512 + f.val, by omega⟩

/-- One entry of the result: the residual plus every hidden unit's share. -/
def ffnAt (x : S8192x2048.Idx → EReal) (w : S2048x11264.Idx → EReal) (d : S5632x2048.Idx → EReal) (z : EReal) (i : S8192x2048.Idx) : EReal :=
  z + ∑ f : Fin 5632, ffnTerm x w d i f

/-- One point's update of its block, entry by entry. -/
theorem pay_apply (x : Vec Ideal S1024x2048 .bf16) (g u : Vec Ideal S2048x512 .bf16) (acc : Vec Ideal S1024x2048 .f32)
    (w : Vec Ideal S512x2048 .bf16) (y : S1024x2048.Idx) :
    k0_pay1 x g u acc w y = acc y + ∑ f : Fin 512, ffnAct (fun k => x (ix2 (y 0) k)) (fun k => g (ix2 k f)) (fun k => u (ix2 k f)) * w (ix2 f (y 1)) := by
  idx_vars y
  unfold_payloads
  pointwise! [ffnAct]

variable (m : (ℓ : Loc nD τ sig) → Buf (Elt Ideal) ℓ) (ρ : Dev nD → PrngReg)

/-- The whole result array, entry by entry, over the argument arrays. -/
def Gf (c : Dev nD) : Buf (Elt Ideal) ((c : Thread nD τ).loc main_v0) := fun i : S8192x2048.Idx =>
  ffnAt (m ((c : Thread nD τ).loc main_arg0)) (m ((c : Thread nD τ).loc main_arg1)) (m ((c : Thread nD τ).loc main_arg2)) (m ((c : Thread nD τ).loc main_arg3) i) i

theorem idx : ∀ t : Fin cfg0.N, win0_0.index t = ![t.val / 11, 0] ∧ win0_1.index t = ![0, t.val % 11] ∧ win0_2.index t = ![0, t.val % 11 + 11]
    ∧ win0_3.index t = ![t.val % 11, 0] ∧ win0_4.index t = ![t.val / 11, 0] :=
  (by decide +kernel : ∀ t : Fin grid0.N, _)

/-- What point `n` adds at place `y` of its block. -/
theorem part_eq (c : Dev nD) (n : Nat) (h : n < cfg0.N) (y : S1024x2048.Idx) (i : S8192x2048.Idx) (p : Fin 11)
    (hp : n % 11 = p.val) (h0 : (i 0).val = n / 11 * 1024 + (y 0).val) (h1 : (i 1).val = (y 1).val) :
    (∑ f : Fin 512, ffnAct (fun k => iblk m c 0 ⟨n, h⟩ (ix2 (y 0) k)) (fun k => iblk m c 1 ⟨n, h⟩ (ix2 k f))
      (fun k => iblk m c 2 ⟨n, h⟩ (ix2 k f)) * iblk m c 3 ⟨n, h⟩ (ix2 f (y 1)))
    = ∑ f : Fin 512, ffnTerm (m ((c : Thread nD τ).loc main_arg0)) (m ((c : Thread nD τ).loc main_arg1)) (m ((c : Thread nD τ).loc main_arg2)) i ⟨p.val * 512 + f.val, by omega⟩ := by
  obtain ⟨i0, i1, i2, i3, i4⟩ := idx ⟨n, h⟩
  refine Finset.sum_congr rfl fun f _ => ?_
  unfold ffnTerm ffnHid
  congr 1
  · congr 1
    · funext k
      refine congrArg (m ((c : Thread nD τ).loc main_arg0)) (Cert.Hand.ix2_of _ _ _ ?_ ?_)
      · show win0_0.index ⟨n, h⟩ 0 * 1024 + 1 * (y 0).val = _; rw [i0, h0]; simp
      · show win0_0.index ⟨n, h⟩ 1 * 2048 + 1 * k.val = _; rw [i0]; simp
    · funext k
      refine congrArg (m ((c : Thread nD τ).loc main_arg1)) (Cert.Hand.ix2_of _ _ _ ?_ ?_)
      · show win0_1.index ⟨n, h⟩ 0 * 2048 + 1 * k.val = _; rw [i1]; simp
      · show win0_1.index ⟨n, h⟩ 1 * 512 + 1 * f.val = p.val * 512 + f.val; rw [i1]; simp; omega
    · funext k
      refine congrArg (m ((c : Thread nD τ).loc main_arg1)) (Cert.Hand.ix2_of _ _ _ ?_ ?_)
      · show win0_2.index ⟨n, h⟩ 0 * 2048 + 1 * k.val = _; rw [i2]; simp
      · show win0_2.index ⟨n, h⟩ 1 * 512 + 1 * f.val = 5632 + (p.val * 512 + f.val); rw [i2]; simp; omega
  · refine congrArg (m ((c : Thread nD τ).loc main_arg2)) (Cert.Hand.ix2_of _ _ _ ?_ ?_)
    · show win0_3.index ⟨n, h⟩ 0 * 512 + 1 * f.val = p.val * 512 + f.val; rw [i3]; simp; omega
    · show win0_3.index ⟨n, h⟩ 1 * 2048 + 1 * (y 1).val = _; rw [i3, h1]; simp

/-- A block's running value after its first `j + 1` points. -/
theorem acc_eq (c : Dev nD) (b : Nat) (y : S1024x2048.Idx) (i : S8192x2048.Idx) (h0 : (i 0).val = b * 1024 + (y 0).val)
    (h1 : (i 1).val = (y 1).val) : ∀ (j : Nat) (hj : j < 11) (h : 11 * b + j < cfg0.N),
    Pipeline.accAt (Value.reset5 m c) (Value.step5 m c) (11 * b) j h y
      = ffnUpto (m ((c : Thread nD τ).loc main_arg0)) (m ((c : Thread nD τ).loc main_arg1)) (m ((c : Thread nD τ).loc main_arg2)) (m ((c : Thread nD τ).loc main_arg3) i) i j hj
  | 0, hj, h => by
    obtain ⟨i0, i1, i2, i3, i4⟩ := idx ⟨11 * b, h⟩
    rw [Pipeline.accAt_zero]
    refine (pay_apply _ _ _ _ _ _).trans ?_
    rw [part_eq m c _ _ y i 0 (by simp) (by rw [h0]; omega) h1]
    unfold ffnUpto
    rw [Fin.sum_univ_one ]
    congr 1
    refine congrArg (m ((c : Thread nD τ).loc main_arg3)) ?_
    rw [Cert.Hand.ix2_of i (i 0) (i 1) rfl rfl]
    refine Cert.Hand.ix2_of _ _ _ ?_ ?_
    · show win0_4.index ⟨11 * b, h⟩ 0 * 1024 + 1 * (y 0).val = _; rw [i4, h0]; simp
    · show win0_4.index ⟨11 * b, h⟩ 1 * 2048 + 1 * (y 1).val = _; rw [i4, h1]; simp
  | j + 1, hj, h => by
    rw [Pipeline.accAt_succ]
    refine (pay_apply _ _ _ _ _ _).trans ?_
    rw [acc_eq c b y i h0 h1 j (by omega) (by omega), part_eq m c _ _ y i ⟨j + 1, hj⟩ (by show _ = j + 1; omega) (by rw [h0]; omega) h1]
    unfold ffnUpto
    rw [add_assoc, Fin.sum_univ_castSucc (n := j + 1)]
    rfl

theorem G_eq (c : Dev nD) : Value.G5 m c = Gf m c := by
  funext i
  have hi0 : (i 0).val < 8192 := (i 0).isLt
  have hi1 : (i 1).val < 2048 := (i 1).isLt
  have hN : cfg0.N = 88 := N_0
  have hr : Value.run5Of i = (i 0).val / 1024 := by
    show 1 * ((i 0).val / 1024 - 0) + 1 * ((i 1).val / 2048 - 0) = _; omega
  unfold Value.G5
  rw [dif_pos (by omega)]
  refine (acc_eq m c _ _ i ?_ ?_ 10 (by omega) _).trans ?_
  · show _ = Value.run5Of i * 1024 + (i 0).val % 1024; omega
  · show _ = (i 1).val % 2048; omega
  · unfold Gf ffnUpto ffnAt
    rw [Fin.sum_univ_tiles 11 512 rfl]

end Cert.FfnIdeal.Hand

namespace Cert.Hand

theorem ffn_value : Cert.algebraic_FfnIdeal_FfnRefIdeal (hFfnIdeal := Cert.FfnIdeal.Gen.facts) (hFfnRefIdeal := Cert.FfnRefIdeal.Gen.facts) := by
  intro m ρ m' ρ' _ hagree
  refine ⟨fun c => Cert.FfnIdeal.Hand.Gf m c, ?_, ?_⟩
  · exact (θ_run Cert.FfnIdeal.defs _ _).mono (fun r h c => ⟨((h c).1).trans (Cert.FfnIdeal.Hand.G_eq m c), (h c).2⟩)
      (Cert.FfnIdeal.Value.run (F := Ideal) m ρ)
  · refine (θ_run Cert.FfnRefIdeal.defs _ _).mono (fun r h c => ⟨((h c).1).trans ?_, (h c).2⟩)
      (Cert.FfnRefIdeal.Value.run (F := Ideal) m' ρ')
    obtain ⟨a0, a1, a2, a3⟩ := hagree c
    rw [a0, a1, a2, a3]
    unfold Cert.FfnIdeal.Hand.Gf
    funext i
    idx_vars i
    pointwise! [Cert.FfnIdeal.Hand.ffnAt, Cert.FfnIdeal.Hand.ffnTerm, Cert.FfnIdeal.Hand.ffnHid, ffnAct, Ideal.logistic]

end Cert.Hand
-- ==== Proof.MixValue.lean ====
module

public import proofs.«01_k».proof.Defs
public import proofs.«01_k».proof.Proof.Gen.MixIdeal.Value
public import proofs.«01_k».proof.Proof.Gen.MixRefIdeal.Run
public import proofs.«01_k».proof.Proof.Common

@[expose] public section

set_option maxRecDepth 16384

noncomputable section

open Idealize.ShloMosaic Idealize.ShloMosaic.TcCoe Idealize.SL.Sem
open Idealize.ShloMosaic.Pipeline (Dat)

/-- One entry of the gated mix: each projection's row times column, times its gate, added. -/
def mixAt (a wa : Fin 2816 → EReal) (b wb : Fin 2048 → EReal) (g h : EReal) : EReal :=
  g * (∑ k, a k * wa k) + h * (∑ k, b k * wb k)

namespace Cert.MixIdeal.Hand

open Cert.MixIdeal Cert.MixIdeal.Gen

/-- What a block of the result holds, entry by entry, over the blocks read. -/
theorem out_apply (x0 : Vec Ideal S512x2816 .bf16) (x1 : Vec Ideal S512x2048 .bf16) (x2 : Vec Ideal S2816x2048 .bf16)
    (x3 : Vec Ideal S2048x2048 .bf16) (x4 x5 : Vec Ideal S512x2048 .bf16) (y : S512x2048.Idx) :
    out0_6 x0 x1 x2 x3 x4 x5 y = mixAt (fun k => x0 (ix2 (y 0) k)) (fun k => x2 (ix2 k (y 1)))
      (fun k => x1 (ix2 (y 0) k)) (fun k => x3 (ix2 k (y 1))) (x4 y) (x5 y) := by
  unfold out0_6
  refine Cert.Hand.canon_two (Val := Elt Ideal) (e := .bf16) (fun y : S512x2048.Idx => mixAt (fun k => x0 (ix2 (y 0) k)) (fun k => x2 (ix2 k (y 1)))
      (fun k => x1 (ix2 (y 0) k)) (fun k => x3 (ix2 k (y 1))) (x4 y) (x5 y)) _ _ _ _ y (cover0_6 _ _ y) (fun x => ?_) (fun x => ?_)
  · idx_vars x
    unfold_payloads
    pointwise! [mixAt, Cert.Hand.emb_eq]
  · idx_vars x
    unfold_payloads
    pointwise! [mixAt, Cert.Hand.emb_eq]

variable (m : (ℓ : Loc nD τ sig) → Buf (Elt Ideal) ℓ) (ρ : Dev nD → PrngReg)

/-- The whole result array, entry by entry, over the argument arrays. -/
def G (c : Dev nD) : Buf (Elt Ideal) ((c : Thread nD τ).loc main_v0) := fun i : S8192x2048.Idx =>
  mixAt (fun k => m ((c : Thread nD τ).loc main_arg0) (ix2 (i 0) k)) (fun k => m ((c : Thread nD τ).loc main_arg2) (ix2 k (i 1)))
    (fun k => m ((c : Thread nD τ).loc main_arg1) (ix2 (i 0) k)) (fun k => m ((c : Thread nD τ).loc main_arg3) (ix2 k (i 1)))
    (m ((c : Thread nD τ).loc main_arg4) (ix2 (i 0) ⟨(i 1).val, by have := (i 1).isLt; simp at this; omega⟩))
    (m ((c : Thread nD τ).loc main_arg4) (ix2 (i 0) ⟨2048 + (i 1).val, by have := (i 1).isLt; simp at this; omega⟩))

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 1] ∧ win0_6.index t = ![t.val, 0] :=
  (by decide +kernel : ∀ t : Fin grid0.N, _)

theorem flushed_eq (c : Dev nD) (t : Fin cfg0.N) :
    (dats m 0 c).flushed 6 t = (win0_6.blk t).view.read (Elt Ideal) (G m c) := by
  rw [Value.flushed6]
  funext y
  obtain ⟨i0, i1, i2, i3, i4, i5, i6⟩ := idx t
  refine (out_apply _ _ _ _ _ _ _).trans ?_
  show _ = G m c ((win0_6.blk t).view.emb y)
  have e0 : ((win0_6.blk t).view.emb y 0).val = t.val * 512 + (y 0).val := by
    show win0_6.index t 0 * 512 + 1 * (y 0).val = _; rw [i6]; simp
  have e1 : ((win0_6.blk t).view.emb y 1).val = (y 1).val := by
    show win0_6.index t 1 * 2048 + 1 * (y 1).val = _; rw [i6]; simp
  generalize (win0_6.blk t).view.emb y = i at e0 e1
  unfold G
  congr 1
  · funext k
    refine congrArg (m ((c : Thread nD τ).loc main_arg0)) (Cert.Hand.ix2_of _ _ _ ?_ ?_)
    · show win0_0.index t 0 * 512 + 1 * (y 0).val = _; rw [i0, e0]; simp
    · show win0_0.index t 1 * 2816 + 1 * k.val = _; rw [i0]; simp
  · funext k
    refine congrArg (m ((c : Thread nD τ).loc main_arg2)) (Cert.Hand.ix2_of _ _ _ ?_ ?_)
    · show win0_2.index t 0 * 2816 + 1 * k.val = _; rw [i2]; simp
    · show win0_2.index t 1 * 2048 + 1 * (y 1).val = _; rw [i2, e1]; simp
  · funext k
    refine congrArg (m ((c : Thread nD τ).loc main_arg1)) (Cert.Hand.ix2_of _ _ _ ?_ ?_)
    · show win0_1.index t 0 * 512 + 1 * (y 0).val = _; rw [i1, e0]; simp
    · show win0_1.index t 1 * 2048 + 1 * k.val = _; rw [i1]; simp
  · funext k
    refine congrArg (m ((c : Thread nD τ).loc main_arg3)) (Cert.Hand.ix2_of _ _ _ ?_ ?_)
    · show win0_3.index t 0 * 2048 + 1 * k.val = _; rw [i3]; simp
    · show win0_3.index t 1 * 2048 + 1 * (y 1).val = _; rw [i3, e1]; simp
  · refine congrArg (m ((c : Thread nD τ).loc main_arg4)) (Cert.Hand.ix2_of _ _ _ ?_ ?_)
    · show win0_4.index t 0 * 512 + 1 * (y 0).val = _; rw [i4, e0]; simp
    · show win0_4.index t 1 * 2048 + 1 * (y 1).val = (i 1).val; rw [i4, e1]; simp
  · refine congrArg (m ((c : Thread nD τ).loc main_arg4)) (Cert.Hand.ix2_of _ _ _ ?_ ?_)
    · show win0_5.index t 0 * 512 + 1 * (y 0).val = _; rw [i5, e0]; simp
    · show win0_5.index t 1 * 2048 + 1 * (y 1).val = 2048 + (i 1).val; rw [i5, e1]; simp

theorem cover (i : S8192x2048.Idx) : ∃ t : Fin cfg0.N, (cfg0.win 6).flush t = true ∧ i ∈ ((cfg0.win 6).blk t).view.set := by
  have h0 : (i 0).val < 8192 := (i 0).isLt
  have h1 : (i 1).val < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_6 _, ?_⟩
  obtain ⟨i0, i1, i2, i3, i4, i5, i6⟩ := idx t
  show i ∈ ((View.whole main_v0).slice (win0_6.rect t)).set
  rw [View.set_slice_whole, Rect.mem_set_unit]
  intro a
  match a with
  | ⟨0, _⟩ => show win0_6.index t 0 * 512 ≤ (i 0).val ∧ (i 0).val < win0_6.index t 0 * 512 + 512
              rw [i6]; simp; omega
  | ⟨1, _⟩ => show win0_6.index t 1 * 2048 ≤ (i 1).val ∧ (i 1).val < win0_6.index t 1 * 2048 + 2048
              rw [i6]; simp; omega

theorem final (c : Dev nD) : (dats m 0 c).arrAt 6 cfg0.N = G m c :=
  (dats m 0 c).arrAt_eq_of_cover 6 _ (fun t _ => flushed_eq m c t) cover

end Cert.MixIdeal.Hand

namespace Cert.Hand

theorem mix_value : Cert.algebraic_MixIdeal_MixRefIdeal (hMixIdeal := Cert.MixIdeal.Gen.facts) (hMixRefIdeal := Cert.MixRefIdeal.Gen.facts) := by
  intro m ρ m' ρ' _ hagree
  refine ⟨fun c => Cert.MixIdeal.Hand.G m c, ?_, ?_⟩
  · exact (θ_run Cert.MixIdeal.defs _ _).mono (fun r h c => ⟨((h c).1).trans (Cert.MixIdeal.Hand.final m c), (h c).2⟩)
      (Cert.MixIdeal.Value.run_blocks (F := Ideal) m ρ)
  · refine (θ_run Cert.MixRefIdeal.defs _ _).mono (fun r h c => ⟨((h c).1).trans ?_, (h c).2⟩)
      (Cert.MixRefIdeal.Value.run (F := Ideal) m' ρ')
    obtain ⟨a0, a1, a2, a3, a4⟩ := hagree c
    rw [a0, a1, a2, a3, a4]
    unfold Cert.MixIdeal.Hand.G
    funext i
    idx_vars i
    pointwise! [mixAt]

end Cert.Hand
-- ==== Proof.OprojValue.lean ====
module

public import proofs.«01_k».proof.Defs
public import proofs.«01_k».proof.Proof.Gen.OprojIdeal.Value
public import proofs.«01_k».proof.Proof.Gen.OprojRefIdeal.Run
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.OprojIdeal.Hand

open Cert.OprojIdeal Cert.OprojIdeal.Gen Cert.Hand

variable (m : (ℓ : Loc nD τ sig) → Buf (Elt Ideal) ℓ) (ρ : Dev nD → PrngReg)

/-- The gain's row as the call reads it, entry by entry. -/
theorem gain (c : Dev nD) (k : Fin 2048) : V m c main_v0 (ix2 0 k) = m ((c : Thread nD τ).loc main_arg3) (ix1 k) := by
  have h : V m c main_v0 = shapeCast S1x2048 (m ((c : Thread nD τ).loc main_arg3)) shapeCasts_S2048_S1x2048 := by
    show StableHlo.after hostOps0 (fun b => m (c, b)) (Proc.devRef .tc main_v0) = _
    after_results
    rfl
  rw [h]
  pointwise!

/-- What a block of result 4 holds, entry by entry, over the blocks read. -/
theorem out_apply4 (x0 : Vec Ideal S512x2048 .bf16) (x1 : Vec Ideal S2048x2048 .bf16) (x2 : Vec Ideal S512x2048 .f32) (x3 : Vec Ideal S1x2048 .f32) (y : S512x2048.Idx) :
    out0_4 x0 x1 x2 x3 y = oprojAt (fun k => x0 (ix2 (y 0) k)) (fun k => x1 (ix2 k (y 1))) (x2 y) := by
  unfold out0_4
  refine canon_one (Val := Elt Ideal) (e := .f32) (fun y : S512x2048.Idx => (oprojAt (fun k => x0 (ix2 (y 0) k)) (fun k => x1 (ix2 k (y 1))) (x2 y) : EReal)) _ _ y (cover0_4 _ y) (fun x => ?_)
  · idx_vars x
    unfold_payloads
    pointwise! [oprojNorm, oprojAt, rmsRow, emb_eq]

/-- The whole of result 4, entry by entry, over the argument arrays. -/
def G4 (c : Dev nD) : Buf (Elt Ideal) ((c : Thread nD τ).loc main_v1_0) := fun i : S8192x2048.Idx =>
  oprojAt (fun k => m ((c : Thread nD τ).loc main_arg0) (ix2 (i 0) k)) (fun k => m ((c : Thread nD τ).loc main_arg1) (ix2 k (i 1))) (m ((c : Thread nD τ).loc main_arg2) i)

/-- What a block of result 5 holds, entry by entry, over the blocks read. -/
theorem out_apply5 (x0 : Vec Ideal S512x2048 .bf16) (x1 : Vec Ideal S2048x2048 .bf16) (x2 : Vec Ideal S512x2048 .f32) (x3 : Vec Ideal S1x2048 .f32) (y : S512x2048.Idx) :
    out0_5 x0 x1 x2 x3 y = oprojNorm (fun k => x0 (ix2 (y 0) k)) (fun k j => x1 (ix2 k j)) (fun k => x2 (ix2 (y 0) k)) (x3 (ix2 0 (y 1))) (y 1) := by
  unfold out0_5
  refine canon_one (Val := Elt Ideal) (e := .bf16) (fun y : S512x2048.Idx => (oprojNorm (fun k => x0 (ix2 (y 0) k)) (fun k j => x1 (ix2 k j)) (fun k => x2 (ix2 (y 0) k)) (x3 (ix2 0 (y 1))) (y 1) : EReal)) _ _ y (cover0_5 _ y) (fun x => ?_)
  · idx_vars x
    unfold_payloads
    pointwise! [oprojNorm, oprojAt, rmsRow, emb_eq]

/-- The whole of result 5, entry by entry, over the argument arrays. -/
def G5 (c : Dev nD) : Buf (Elt Ideal) ((c : Thread nD τ).loc main_v1_1) := fun i : S8192x2048.Idx =>
  oprojNorm (fun k => m ((c : Thread nD τ).loc main_arg0) (ix2 (i 0) k)) (fun k j => m ((c : Thread nD τ).loc main_arg1) (ix2 k j)) (fun k => m ((c : Thread nD τ).loc main_arg2) (ix2 (i 0) k)) (m ((c : Thread nD τ).loc main_arg3) (ix1 (i 1))) (i 1)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem flushed_eq4 (c : Dev nD) (t : Fin cfg0.N) :
    (dats m 0 c).flushed 4 t = (win0_4.blk t).view.read (Elt Ideal) (G4 m c) := by
  rw [Value.flushed4]
  funext y
  obtain ⟨i0, i1, i2, i3, i4, i5⟩ := idx t
  refine (out_apply4 _ _ _ _ _).trans ?_
  show _ = G4 m c ((win0_4.blk t).view.emb y)
  have e0 : ((win0_4.blk t).view.emb y 0).val = t.val * 512 + (y 0).val := by
    show win0_4.index t 0 * 512 + 1 * (y 0).val = _; rw [i4]; simp
  have e1 : ((win0_4.blk t).view.emb y 1).val = (y 1).val := by
    show win0_4.index t 1 * 2048 + 1 * (y 1).val = _; rw [i4]; simp
  generalize (win0_4.blk t).view.emb y = i at e0 e1
  unfold G4
  congr 1
  · funext k
    refine congrArg (m ((c : Thread nD τ).loc main_arg0)) (ix2_of _ _ _ ?_ ?_)
    · show win0_0.index t 0 * 512 + 1 * (y 0).val = _; rw [i0, e0]; simp
    · show win0_0.index t 1 * 2048 + 1 * k.val = _; rw [i0]; simp
  · funext k
    refine congrArg (m ((c : Thread nD τ).loc main_arg1)) (ix2_of _ _ _ ?_ ?_)
    · show win0_1.index t 0 * 2048 + 1 * k.val = _; rw [i1]; simp
    · show win0_1.index t 1 * 2048 + 1 * (y 1).val = (i 1).val; rw [i1, e1]; simp
  · refine congrArg (m ((c : Thread nD τ).loc main_arg2)) ((ix2_of _ (i 0) (i 1) ?_ ?_).trans (ix2_of i _ _ rfl rfl).symm)
    · show win0_2.index t 0 * 512 + 1 * (y 0).val = _; rw [i2, e0]; simp
    · show win0_2.index t 1 * 2048 + 1 * (y 1).val = (i 1).val; rw [i2, e1]; simp

theorem cover4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_4 _, ?_⟩
  obtain ⟨i0, i1, i2, i3, i4, i5⟩ := idx t
  show i ∈ ((View.whole main_v1_0).slice (win0_4.rect t)).set
  rw [View.set_slice_whole, Rect.mem_set_unit]
  intro a
  match a with
  | ⟨0, _⟩ => show win0_4.index t 0 * 512 ≤ (i 0).val ∧ (i 0).val < win0_4.index t 0 * 512 + 512
              rw [i4]; simp; omega
  | ⟨1, _⟩ => show win0_4.index t 1 * 2048 ≤ (i 1).val ∧ (i 1).val < win0_4.index t 1 * 2048 + 2048
              rw [i4]; simp; omega

theorem final4 (c : Dev nD) : (dats m 0 c).arrAt 4 cfg0.N = G4 m c :=
  (dats m 0 c).arrAt_eq_of_cover 4 _ (fun t _ => flushed_eq4 m c t) cover4

theorem flushed_eq5 (c : Dev nD) (t : Fin cfg0.N) :
    (dats m 0 c).flushed 5 t = (win0_5.blk t).view.read (Elt Ideal) (G5 m c) := by
  rw [Value.flushed5]
  funext y
  obtain ⟨i0, i1, i2, i3, i4, i5⟩ := idx t
  refine (out_apply5 _ _ _ _ _).trans ?_
  show _ = G5 m c ((win0_5.blk t).view.emb y)
  have e0 : ((win0_5.blk t).view.emb y 0).val = t.val * 512 + (y 0).val := by
    show win0_5.index t 0 * 512 + 1 * (y 0).val = _; rw [i5]; simp
  have e1 : ((win0_5.blk t).view.emb y 1).val = (y 1).val := by
    show win0_5.index t 1 * 2048 + 1 * (y 1).val = _; rw [i5]; simp
  generalize (win0_5.blk t).view.emb y = i at e0 e1
  unfold G5
  congr 1
  · funext k
    refine congrArg (m ((c : Thread nD τ).loc main_arg0)) (ix2_of _ _ _ ?_ ?_)
    · show win0_0.index t 0 * 512 + 1 * (y 0).val = _; rw [i0, e0]; simp
    · show win0_0.index t 1 * 2048 + 1 * k.val = _; rw [i0]; simp
  · funext k j
    refine congrArg (m ((c : Thread nD τ).loc main_arg1)) (ix2_of _ _ _ ?_ ?_)
    · show win0_1.index t 0 * 2048 + 1 * k.val = _; rw [i1]; simp
    · show win0_1.index t 1 * 2048 + 1 * j.val = _; rw [i1]; simp
  · funext k
    refine congrArg (m ((c : Thread nD τ).loc main_arg2)) (ix2_of _ _ _ ?_ ?_)
    · show win0_2.index t 0 * 512 + 1 * (y 0).val = _; rw [i2, e0]; simp
    · show win0_2.index t 1 * 2048 + 1 * k.val = _; rw [i2]; simp
  · refine Eq.trans ?_ (gain m c _)
    refine congrArg (V m c main_v0) (ix2_of _ _ _ ?_ ?_)
    · show win0_3.index t 0 * 1 + 1 * 0 = _; rw [i3]; simp
    · show win0_3.index t 1 * 2048 + 1 * (y 1).val = (i 1).val; rw [i3, e1]; simp
  · exact Fin.ext e1.symm

theorem cover5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_5 _, ?_⟩
  obtain ⟨i0, i1, i2, i3, i4, i5⟩ := idx t
  show i ∈ ((View.whole main_v1_1).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [i5]; simp; omega
  | ⟨1, _⟩ => show win0_5.index t 1 * 2048 ≤ (i 1).val ∧ (i 1).val < win0_5.index t 1 * 2048 + 2048
              rw [i5]; simp; omega

theorem final5 (c : Dev nD) : (dats m 0 c).arrAt 5 cfg0.N = G5 m c :=
  (dats m 0 c).arrAt_eq_of_cover 5 _ (fun t _ => flushed_eq5 m c t) cover5

end Cert.OprojIdeal.Hand

namespace Cert.Hand

/-- The output projection call computes the reference, both results. -/
theorem oproj_value : Cert.algebraic_OprojIdeal_OprojRefIdeal (hOprojIdeal := Cert.OprojIdeal.Gen.facts) (hOprojRefIdeal := Cert.OprojRefIdeal.Gen.facts) := by
  intro m ρ m' ρ' _ hagree
  refine ⟨fun c => Cert.OprojIdeal.Hand.G4 m c, fun c => Cert.OprojIdeal.Hand.G5 m c, ?_, ?_⟩
  · exact (θ_run Cert.OprojIdeal.defs _ _).mono (fun r h c => ⟨((h c).1).trans (Cert.OprojIdeal.Hand.final4 m c), (((h c).2).1).trans (Cert.OprojIdeal.Hand.final5 m c), ((h c).2).2⟩)
      (Cert.OprojIdeal.Value.run_blocks (F := Ideal) m ρ)
  · refine (θ_run Cert.OprojRefIdeal.defs _ _).mono (fun r h c => ⟨((h c).1).trans ?_, (((h c).2).1).trans ?_, ((h c).2).2⟩)
      (Cert.OprojRefIdeal.Value.run (F := Ideal) m' ρ')
    · obtain ⟨a0, a1, a2, a3⟩ := hagree c
      rw [a0, a1, a2]
      unfold Cert.OprojIdeal.Hand.G4
      funext i
      idx_vars i
      pointwise! [oprojNorm, oprojAt, rmsRow, Ideal.logistic]
    · obtain ⟨a0, a1, a2, a3⟩ := hagree c
      rw [a0, a1, a2, a3]
      unfold Cert.OprojIdeal.Hand.G5
      funext i
      idx_vars i
      pointwise! [oprojNorm, oprojAt, rmsRow, Ideal.logistic]

end Cert.Hand
-- ==== Proof.PleValue.lean ====
module

public import proofs.«01_k».proof.Defs
public import proofs.«01_k».proof.Proof.Gen.PleIdeal.Value
public import proofs.«01_k».proof.Proof.Gen.PleRefIdeal.Run
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.PleIdeal.Hand

open Cert.PleIdeal Cert.PleIdeal.Gen Cert.Hand

variable (m : (ℓ : Loc nD τ sig) → Buf (Elt Ideal) ℓ) (ρ : Dev nD → PrngReg)

/-- The gain's row as the call reads it, entry by entry. -/
theorem gain (c : Dev nD) (k : Fin 2048) : V m c main_v0 (ix2 0 k) = m ((c : Thread nD τ).loc main_arg1) (ix1 k) := by
  have h : V m c main_v0 = shapeCast S1x2048 (m ((c : Thread nD τ).loc main_arg1)) shapeCasts_S2048_S1x2048 := by
    show StableHlo.after hostOps0 (fun b => m (c, b)) (Proc.devRef .tc main_v0) = _
    after_results
    rfl
  rw [h]
  pointwise!

/-- What a block of result 5 holds, entry by entry, over the blocks read. -/
theorem out_apply5 (x0 : Vec Ideal S512x2048 .f32) (x1 : Vec Ideal S1x2048 .f32) (x2 : Vec Ideal S2048x2048 .bf16) (x3 : Vec Ideal S512x256 .f32) (x4 : Vec Ideal S256x2048 .f32) (y : S512x2048.Idx) :
    out0_5 x0 x1 x2 x3 x4 y = pleAt (fun k => x0 (ix2 (y 0) k)) (fun k => x1 (ix2 0 k)) (fun k => x2 (ix2 k (y 1))) (fun k => x3 (ix2 (y 0) k)) (fun k => x4 (ix2 k (y 1))) (x0 y) := by
  unfold out0_5
  refine canon_two (Val := Elt Ideal) (e := .f32) (fun y : S512x2048.Idx => (pleAt (fun k => x0 (ix2 (y 0) k)) (fun k => x1 (ix2 0 k)) (fun k => x2 (ix2 k (y 1))) (fun k => x3 (ix2 (y 0) k)) (fun k => x4 (ix2 k (y 1))) (x0 y) : EReal)) _ _ _ _ y (cover0_5 _ _ y) (fun x => ?_) (fun x => ?_)
  · idx_vars x
    unfold_payloads
    pointwise! [pleAt, rmsRow, emb_eq]
  · idx_vars x
    unfold_payloads
    pointwise! [pleAt, rmsRow, emb_eq]

/-- The whole of result 5, entry by entry, over the argument arrays. -/
def G5 (c : Dev nD) : Buf (Elt Ideal) ((c : Thread nD τ).loc main_v1) := fun i : S8192x2048.Idx =>
  pleAt (fun k => m ((c : Thread nD τ).loc main_arg0) (ix2 (i 0) k)) (fun k => m ((c : Thread nD τ).loc main_arg1) (ix1 k)) (fun k => m ((c : Thread nD τ).loc main_arg2) (ix2 k (i 1))) (fun k => m ((c : Thread nD τ).loc main_arg3) (ix2 (i 0) k)) (fun k => m ((c : Thread nD τ).loc main_arg4) (ix2 k (i 1))) (m ((c : Thread nD τ).loc main_arg0) i)

theorem idx : ∀ t : Fin cfg0.N, win0_0.index t = ![t.val, 0] ∧ win0_1.index t = ![0, 0] ∧ win0_2.index t = ![0, 0] ∧ win0_3.index t = ![t.val, 0] ∧ win0_4.index t = ![0, 0] ∧ win0_5.index t = ![t.val, 0] :=
  (by decide +kernel : ∀ t : Fin grid0.N, _)

theorem flushed_eq5 (c : Dev nD) (t : Fin cfg0.N) :
    (dats m 0 c).flushed 5 t = (win0_5.blk t).view.read (Elt Ideal) (G5 m c) := by
  rw [Value.flushed5]
  funext y
  obtain ⟨i0, i1, i2, i3, i4, i5⟩ := idx t
  refine (out_apply5 _ _ _ _ _ _).trans ?_
  show _ = G5 m c ((win0_5.blk t).view.emb y)
  have e0 : ((win0_5.blk t).view.emb y 0).val = t.val * 512 + (y 0).val := by
    show win0_5.index t 0 * 512 + 1 * (y 0).val = _; rw [i5]; simp
  have e1 : ((win0_5.blk t).view.emb y 1).val = (y 1).val := by
    show win0_5.index t 1 * 2048 + 1 * (y 1).val = _; rw [i5]; simp
  generalize (win0_5.blk t).view.emb y = i at e0 e1
  unfold G5
  congr 1
  · funext k
    refine congrArg (m ((c : Thread nD τ).loc main_arg0)) (ix2_of _ _ _ ?_ ?_)
    · show win0_0.index t 0 * 512 + 1 * (y 0).val = _; rw [i0, e0]; simp
    · show win0_0.index t 1 * 2048 + 1 * k.val = _; rw [i0]; simp
  · funext k
    refine Eq.trans ?_ (gain m c _)
    refine congrArg (V m c main_v0) (ix2_of _ _ _ ?_ ?_)
    · show win0_1.index t 0 * 1 + 1 * 0 = _; rw [i1]; simp
    · show win0_1.index t 1 * 2048 + 1 * k.val = _; rw [i1]; simp
  · funext k
    refine congrArg (m ((c : Thread nD τ).loc main_arg2)) (ix2_of _ _ _ ?_ ?_)
    · show win0_2.index t 0 * 2048 + 1 * k.val = _; rw [i2]; simp
    · show win0_2.index t 1 * 2048 + 1 * (y 1).val = (i 1).val; rw [i2, e1]; simp
  · funext k
    refine congrArg (m ((c : Thread nD τ).loc main_arg3)) (ix2_of _ _ _ ?_ ?_)
    · show win0_3.index t 0 * 512 + 1 * (y 0).val = _; rw [i3, e0]; simp
    · show win0_3.index t 1 * 256 + 1 * k.val = _; rw [i3]; simp
  · funext k
    refine congrArg (m ((c : Thread nD τ).loc main_arg4)) (ix2_of _ _ _ ?_ ?_)
    · show win0_4.index t 0 * 256 + 1 * k.val = _; rw [i4]; simp
    · show win0_4.index t 1 * 2048 + 1 * (y 1).val = (i 1).val; rw [i4, e1]; simp
  · refine congrArg (m ((c : Thread nD τ).loc main_arg0)) ((ix2_of _ (i 0) (i 1) ?_ ?_).trans (ix2_of i _ _ rfl rfl).symm)
    · show win0_0.index t 0 * 512 + 1 * (y 0).val = _; rw [i0, e0]; simp
    · show win0_0.index t 1 * 2048 + 1 * (y 1).val = (i 1).val; rw [i0, e1]; simp

theorem cover5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : cfg0.N = 16 := N_0
  obtain ⟨t, ht⟩ : ∃ t : Fin cfg0.N, t.val = (i 0).val / 512 := ⟨⟨(i 0).val / 512, by omega⟩, rfl⟩
  refine ⟨t, flush0_5 _, ?_⟩
  obtain ⟨i0, i1, i2, i3, i4, i5⟩ := idx t
  show i ∈ ((View.whole main_v1).slice (win0_5.rect t)).set
  rw [View.set_slice_whole, Rect.mem_set_unit]
  intro a
  match a with
  | ⟨0, _⟩ => show win0_5.index t 0 * 512 ≤ (i 0).val ∧ (i 0).val < win0_5.index t 0 * 512 + 512
              rw [i5]; simp; omega
  | ⟨1, _⟩ => show win0_5.index t 1 * 2048 ≤ (i 1).val ∧ (i 1).val < win0_5.index t 1 * 2048 + 2048
              rw [i5]; simp; omega

theorem final5 (c : Dev nD) : (dats m 0 c).arrAt 5 cfg0.N = G5 m c :=
  (dats m 0 c).arrAt_eq_of_cover 5 _ (fun t _ => flushed_eq5 m c t) cover5

end Cert.PleIdeal.Hand

namespace Cert.Hand

/-- The per-layer embedding call computes the reference. -/
theorem ple_value : Cert.algebraic_PleIdeal_PleRefIdeal (hPleIdeal := Cert.PleIdeal.Gen.facts) (hPleRefIdeal := Cert.PleRefIdeal.Gen.facts) := by
  intro m ρ m' ρ' _ hagree
  refine ⟨fun c => Cert.PleIdeal.Hand.G5 m c, ?_, ?_⟩
  · exact (θ_run Cert.PleIdeal.defs _ _).mono (fun r h c => ⟨((h c).1).trans (Cert.PleIdeal.Hand.final5 m c), (h c).2⟩)
      (Cert.PleIdeal.Value.run_blocks (F := Ideal) m ρ)
  · refine (θ_run Cert.PleRefIdeal.defs _ _).mono (fun r h c => ⟨((h c).1).trans ?_, (h c).2⟩)
      (Cert.PleRefIdeal.Value.run (F := Ideal) m' ρ')
    obtain ⟨a0, a1, a2, a3, a4⟩ := hagree c
    rw [a0, a1, a2, a3, a4]
    unfold Cert.PleIdeal.Hand.G5
    funext i
    idx_vars i
    pointwise! [pleAt, rmsRow, Ideal.logistic]

end Cert.Hand
-- ==== Proof.RmsValue.lean ====
module

public import proofs.«01_k».proof.Defs
public import proofs.«01_k».proof.Proof.Gen.RmsIdeal.Value
public import proofs.«01_k».proof.Proof.Gen.RmsRefIdeal.Run
public import proofs.«01_k».proof.Proof.Common

@[expose] public section

set_option maxRecDepth 16384

noncomputable section

open Idealize.ShloMosaic Idealize.ShloMosaic.TcCoe Idealize.SL.Sem
open Idealize.ShloMosaic.Pipeline (Dat)

namespace Cert.RmsIdeal.Hand

open Cert.RmsIdeal Cert.RmsIdeal.Gen Cert.Hand

variable (m : (ℓ : Loc nD τ sig) → Buf (Elt Ideal) ℓ) (ρ : Dev nD → PrngReg)

/-- The gain's row as the call reads it, entry by entry. -/
theorem gain (c : Dev nD) (k : Fin 2048) : V m c main_v0 (ix2 0 k) = m ((c : Thread nD τ).loc main_arg1) (ix1 k) := by
  have h : V m c main_v0 = shapeCast S1x2048 (m ((c : Thread nD τ).loc main_arg1)) shapeCasts_S2048_S1x2048 := by
    show StableHlo.after hostOps0 (fun b => m (c, b)) (Proc.devRef .tc main_v0) = _
    after_results
    rfl
  rw [h]
  pointwise!

/-- What a block of result 2 holds, entry by entry, over the blocks read. -/
theorem out_apply2 (x0 : Vec Ideal S1024x2048 .f32) (x1 : Vec Ideal S1x2048 .f32) (y : S1024x2048.Idx) :
    out0_2 x0 x1 y = rmsRow (fun k => x0 (ix2 (y 0) k)) (x0 y) (x1 (ix2 0 (y 1))) := by
  unfold out0_2
  refine canon_one (Val := Elt Ideal) (e := .bf16) (fun y : S1024x2048.Idx => (rmsRow (fun k => x0 (ix2 (y 0) k)) (x0 y) (x1 (ix2 0 (y 1))) : EReal)) _ _ y (cover0_2 _ y) (fun x => ?_)
  · idx_vars x
    unfold_payloads
    pointwise! [rmsRow, emb_eq]

/-- The whole of result 2, entry by entry, over the argument arrays. -/
def G2 (c : Dev nD) : Buf (Elt Ideal) ((c : Thread nD τ).loc main_v1) := fun i : S8192x2048.Idx =>
  rmsRow (fun k => m ((c : Thread nD τ).loc main_arg0) (ix2 (i 0) k)) (m ((c : Thread nD τ).loc main_arg0) i) (m ((c : Thread nD τ).loc main_arg1) (ix1 (i 1)))

theorem idx : ∀ t : Fin cfg0.N, win0_0.index t = ![t.val, 0] ∧ win0_1.index t = ![0, 0] ∧ win0_2.index t = ![t.val, 0] :=
  (by decide +kernel : ∀ t : Fin grid0.N, _)

theorem flushed_eq2 (c : Dev nD) (t : Fin cfg0.N) :
    (dats m 0 c).flushed 2 t = (win0_2.blk t).view.read (Elt Ideal) (G2 m c) := by
  rw [Value.flushed2]
  funext y
  obtain ⟨i0, i1, i2⟩ := idx t
  refine (out_apply2 _ _ _).trans ?_
  show _ = G2 m c ((win0_2.blk t).view.emb y)
  have e0 : ((win0_2.blk t).view.emb y 0).val = t.val * 1024 + (y 0).val := by
    show win0_2.index t 0 * 1024 + 1 * (y 0).val = _; rw [i2]; simp
  have e1 : ((win0_2.blk t).view.emb y 1).val = (y 1).val := by
    show win0_2.index t 1 * 2048 + 1 * (y 1).val = _; rw [i2]; simp
  generalize (win0_2.blk t).view.emb y = i at e0 e1
  unfold G2
  congr 1
  · funext k
    refine congrArg (m ((c : Thread nD τ).loc main_arg0)) (ix2_of _ _ _ ?_ ?_)
    · show win0_0.index t 0 * 1024 + 1 * (y 0).val = _; rw [i0, e0]; simp
    · show win0_0.index t 1 * 2048 + 1 * k.val = _; rw [i0]; simp
  · refine congrArg (m ((c : Thread nD τ).loc main_arg0)) ((ix2_of _ (i 0) (i 1) ?_ ?_).trans (ix2_of i _ _ rfl rfl).symm)
    · show win0_0.index t 0 * 1024 + 1 * (y 0).val = _; rw [i0, e0]; simp
    · show win0_0.index t 1 * 2048 + 1 * (y 1).val = (i 1).val; rw [i0, e1]; simp
  · refine Eq.trans ?_ (gain m c _)
    refine congrArg (V m c main_v0) (ix2_of _ _ _ ?_ ?_)
    · show win0_1.index t 0 * 1 + 1 * 0 = _; rw [i1]; simp
    · show win0_1.index t 1 * 2048 + 1 * (y 1).val = (i 1).val; rw [i1, e1]; simp

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 8 := N_0
  obtain ⟨t, ht⟩ : ∃ t : Fin cfg0.N, t.val = (i 0).val / 1024 := ⟨⟨(i 0).val / 1024, by omega⟩, rfl⟩
  refine ⟨t, flush0_2 _, ?_⟩
  obtain ⟨i0, i1, i2⟩ := idx t
  show i ∈ ((View.whole main_v1).slice (win0_2.rect t)).set
  rw [View.set_slice_whole, Rect.mem_set_unit]
  intro a
  match a with
  | ⟨0, _⟩ => show win0_2.index t 0 * 1024 ≤ (i 0).val ∧ (i 0).val < win0_2.index t 0 * 1024 + 1024
              rw [i2]; simp; omega
  | ⟨1, _⟩ => show win0_2.index t 1 * 2048 ≤ (i 1).val ∧ (i 1).val < win0_2.index t 1 * 2048 + 2048
              rw [i2]; simp; omega

theorem final2 (c : Dev nD) : (dats m 0 c).arrAt 2 cfg0.N = G2 m c :=
  (dats m 0 c).arrAt_eq_of_cover 2 _ (fun t _ => flushed_eq2 m c t) cover2

end Cert.RmsIdeal.Hand

namespace Cert.Hand

/-- The normalisation call computes the reference. -/
theorem rms_value : Cert.algebraic_RmsIdeal_RmsRefIdeal (hRmsIdeal := Cert.RmsIdeal.Gen.facts) (hRmsRefIdeal := Cert.RmsRefIdeal.Gen.facts) := by
  intro m ρ m' ρ' _ hagree
  refine ⟨fun c => Cert.RmsIdeal.Hand.G2 m c, ?_, ?_⟩
  · exact (θ_run Cert.RmsIdeal.defs _ _).mono (fun r h c => ⟨((h c).1).trans (Cert.RmsIdeal.Hand.final2 m c), (h c).2⟩)
      (Cert.RmsIdeal.Value.run_blocks (F := Ideal) m ρ)
  · refine (θ_run Cert.RmsRefIdeal.defs _ _).mono (fun r h c => ⟨((h c).1).trans ?_, (h c).2⟩)
      (Cert.RmsRefIdeal.Value.run (F := Ideal) m' ρ')
    obtain ⟨a0, a1⟩ := hagree c
    rw [a0, a1]
    unfold Cert.RmsIdeal.Hand.G2
    funext i
    idx_vars i
    pointwise! [rmsRow, Ideal.logistic]

end Cert.Hand
-- ==== Proof.RnnInValue.lean ====
module

public import proofs.«01_k».proof.Defs
public import proofs.«01_k».proof.Proof.Gen.RnnInIdeal.Value
public import proofs.«01_k».proof.Proof.Gen.RnnInRefIdeal.Run
public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.RnnInIdeal.Hand

open Cert.RnnInIdeal Cert.RnnInIdeal.Gen Cert.Hand

variable (m : (ℓ : Loc nD τ sig) → Buf (Elt Ideal) ℓ) (ρ : Dev nD → PrngReg)

/-- What a point of the first half stores, entry by entry. -/
theorem plain_apply (x0 : Vec Ideal S512x2048 .bf16) (s : Vec Ideal S2048x2816 .bf16) (y : S512x2816.Idx) :
    View.canon (Val := Elt Ideal) (e := .f32) (s := S512x2816) [⟨Rect.unit ![256, 0] ![256, 2816] inb_S512x2816_S256x2816_256_0,
        k0_pay3 (View.ld x0 (Rect.unit ![256, 0] ![256, 2048] inb_S512x2048_S256x2048_256_0)) s⟩, ⟨Rect.unit ![0, 0] ![256, 2816] inb_S512x2816_S256x2816_0_0,
        k0_pay2 (View.ld x0 (Rect.unit ![0, 0] ![256, 2048] inb_S512x2048_S256x2048_0_0)) s⟩] y
      = dotAt (fun k => x0 (ix2 (y 0) k)) (fun k => s (ix2 k (y 1))) := by
  refine canon_two (Val := Elt Ideal) (e := .f32) (fun y : S512x2816.Idx => (dotAt (fun k => x0 (ix2 (y 0) k)) (fun k => s (ix2 k (y 1))) : EReal)) _ _ _ _ y
    (View.cover_of_tiledL _ ![256, 2816] (by sl_kernel_rfl) y) (fun x => ?_) (fun x => ?_)
  all_goals
    idx_vars x
    unfold_payloads
    pointwise! [dotAt, geluAt, emb_eq]

/-- What a point of the second half stores, entry by entry. -/
theorem gelu_apply (x0 : Vec Ideal S512x2048 .bf16) (s : Vec Ideal S2048x2816 .bf16) (y : S512x2816.Idx) :
    View.canon (Val := Elt Ideal) (e := .f32) (s := S512x2816) [⟨Rect.unit ![256, 0] ![256, 2816] inb_S512x2816_S256x2816_256_0,
        k0_pay5 (View.ld x0 (Rect.unit ![256, 0] ![256, 2048] inb_S512x2048_S256x2048_256_0)) s⟩, ⟨Rect.unit ![0, 0] ![256, 2816] inb_S512x2816_S256x2816_0_0,
        k0_pay4 (View.ld x0 (Rect.unit ![0, 0] ![256, 2048] inb_S512x2048_S256x2048_0_0)) s⟩] y
      = geluAt (fun k => x0 (ix2 (y 0) k)) (fun k => s (ix2 k (y 1))) := by
  refine canon_two (Val := Elt Ideal) (e := .f32) (fun y : S512x2816.Idx => (geluAt (fun k => x0 (ix2 (y 0) k)) (fun k => s (ix2 k (y 1))) : EReal)) _ _ _ _ y
    (View.cover_of_tiledL _ ![256, 2816] (by sl_kernel_rfl) y) (fun x => ?_) (fun x => ?_)
  all_goals
    idx_vars x
    unfold_payloads
    pointwise! [dotAt, geluAt, emb_eq]

theorem idx : ∀ t : Fin cfg0.N, win0_0.index t = ![t.val % 16, 0] ∧ win0_1.index t = ![0, 2816 * (t.val / 16)] ∧ win0_2.index t = ![t.val % 16, t.val / 16] :=
  (by decide +kernel : ∀ t : Fin grid0.N, _)

/-- The scratch after a point holds the weights' columns of the point's half. -/
theorem scratch (c : Dev nD) : ∀ (n : ℕ) (hn : n < cfg0.N) (k : Fin 2048) (q : Fin 2816) (h : 2816 * (n / 16) + q.val < 15872),
    (outsAt0 m c n hn).2 (ix2 k q) = m ((c : Thread nD τ).loc main_arg1) (ix2 k ⟨2816 * (n / 16) + q.val, h⟩) := by
  intro n
  induction n with
  | zero =>
    intro hn k q h
    rw [outsAt0_A m c ⟨0, hn⟩ rfl (by show 0 < 16; omega) (by show ¬ 16 ≤ 0; omega)]
    frame_out
    unfold_payloads
    pointwise
    refine congrArg (m ((c : Thread nD τ).loc main_arg1)) (ix2_of _ _ _ ?_ ?_)
    · show win0_1.index ⟨0, hn⟩ 0 + 1 * k.val = _; rw [(idx ⟨0, hn⟩).2.1]; simp
    · show win0_1.index ⟨0, hn⟩ 1 + 1 * q.val = _; rw [(idx ⟨0, hn⟩).2.1]; simp
  | succ n ih =>
    intro hn k q h
    have keep (h0 : ¬ (n + 1) % 16 = 0) :
        (outsAt0 m c n (Nat.lt_of_succ_lt hn)).2 (ix2 k q) = m ((c : Thread nD τ).loc main_arg1) (ix2 k ⟨2816 * ((n + 1) / 16) + q.val, h⟩) := by
      have e : (n + 1) / 16 = n / 16 := by omega
      refine (ih (Nat.lt_of_succ_lt hn) k q (by omega)).trans ?_
      refine congrArg (m ((c : Thread nD τ).loc main_arg1)) (ix2_of _ _ _ rfl ?_)
      show 2816 * (n / 16) + q.val = 2816 * ((n + 1) / 16) + q.val
      rw [e]
    by_cases h0 : (n + 1) % 16 = 0 <;> by_cases h1 : n + 1 < 16
    · exfalso; omega
    · rw [outsAt0_C m c ⟨n + 1, hn⟩ h0 h1 (by show 16 ≤ n + 1; omega)]
      frame_out
      unfold_payloads
      pointwise
      refine congrArg (m ((c : Thread nD τ).loc main_arg1)) (ix2_of _ _ _ ?_ ?_)
      · show win0_1.index ⟨n + 1, hn⟩ 0 + 1 * k.val = _; rw [(idx ⟨n + 1, hn⟩).2.1]; simp
      · show win0_1.index ⟨n + 1, hn⟩ 1 + 1 * q.val = _; rw [(idx ⟨n + 1, hn⟩).2.1]; simp
    · rw [outsAt0_B m c ⟨n + 1, hn⟩ h0 h1 (by show ¬ 16 ≤ n + 1; omega)]
      exact keep h0
    · rw [outsAt0_D m c ⟨n + 1, hn⟩ h0 h1 (by show 16 ≤ n + 1; omega)]
      exact keep h0

/-- The whole of the projection, entry by entry, over the argument arrays: its second half through the gelu. -/
def G2 (c : Dev nD) : Buf (Elt Ideal) ((c : Thread nD τ).loc main_v0) := fun i : S8192x5632.Idx =>
  if (i 1).val < 2816 then
    dotAt (fun k => m ((c : Thread nD τ).loc main_arg0) (ix2 (i 0) k)) (fun k => m ((c : Thread nD τ).loc main_arg1) (ix2 k ⟨(i 1).val, by have h : (i 1).val < 5632 := (i 1).isLt; omega⟩))
  else
    geluAt (fun k => m ((c : Thread nD τ).loc main_arg0) (ix2 (i 0) k)) (fun k => m ((c : Thread nD τ).loc main_arg1) (ix2 k ⟨(i 1).val, by have h : (i 1).val < 5632 := (i 1).isLt; omega⟩))

theorem flushed_eq2 (c : Dev nD) (t : Fin cfg0.N) :
    (dats m 0 c).flushed 2 t = (win0_2.blk t).view.read (Elt Ideal) (G2 m c) := by
  show (dats m 0 c).after 2 t = _
  rw [after0_2]
  funext y
  obtain ⟨i0, i1, i2⟩ := idx t
  have hN : cfg0.N = 32 := N_0
  have ht := t.isLt
  show _ = G2 m c ((win0_2.blk t).view.emb y)
  have e0 : ((win0_2.blk t).view.emb y 0).val = (t.val % 16) * 512 + (y 0).val := by
    show win0_2.index t 0 * 512 + 1 * (y 0).val = _; rw [i2]; simp
  have e1 : ((win0_2.blk t).view.emb y 1).val = (t.val / 16) * 2816 + (y 1).val := by
    show win0_2.index t 1 * 2816 + 1 * (y 1).val = _; rw [i2]; simp
  generalize (win0_2.blk t).view.emb y = i at e0 e1
  have hy : (y 1).val < 2816 := (y 1).isLt
  have rows : (fun k : Fin 2048 => iblk m c 0 t (ix2 (y 0) k)) = fun k => m ((c : Thread nD τ).loc main_arg0) (ix2 (i 0) k) := by
    funext k
    refine congrArg (m ((c : Thread nD τ).loc main_arg0)) (ix2_of _ _ _ ?_ ?_)
    · show win0_0.index t 0 * 512 + 1 * (y 0).val = _; rw [i0, e0]; simp
    · show win0_0.index t 1 * 2048 + 1 * k.val = _; rw [i0]; simp
  have cols : ∀ s : Vec Ideal S2048x2816 .bf16, s = (outsAt0 m c t.val t.isLt).2 → ∀ h : (i 1).val < 15872,
      (fun k : Fin 2048 => s (ix2 k (y 1))) = fun k => m ((c : Thread nD τ).loc main_arg1) (ix2 k ⟨(i 1).val, h⟩) := fun s hs h => by
    subst hs
    funext k
    refine (scratch m c t.val t.isLt k (y 1) (by omega)).trans ?_
    refine congrArg (m ((c : Thread nD τ).loc main_arg1)) (ix2_of _ _ _ rfl ?_)
    show 2816 * (t.val / 16) + (y 1).val = (i 1).val
    omega
  have low : t.val < 16 → ∀ s : Vec Ideal S2048x2816 .bf16, s = (outsAt0 m c t.val t.isLt).2 →
      dotAt (fun k => iblk m c 0 t (ix2 (y 0) k)) (fun k => s (ix2 k (y 1))) = G2 m c i := fun hl s hs => by
    unfold G2
    rw [if_pos (by omega)]
    exact congrArg₂ dotAt rows (cols s hs _)
  have high : ¬ t.val < 16 → ∀ s : Vec Ideal S2048x2816 .bf16, s = (outsAt0 m c t.val t.isLt).2 →
      geluAt (fun k => iblk m c 0 t (ix2 (y 0) k)) (fun k => s (ix2 k (y 1))) = G2 m c i := fun hl s hs => by
    unfold G2
    rw [if_neg (by omega)]
    exact congrArg₂ geluAt rows (cols s hs _)
  by_cases h0 : t.val % 16 = 0 <;> by_cases h1 : t.val < 16
  · have hs : k0_pay1 (iblk m c 1 t) = (outsAt0 m c t.val t.isLt).2 := by
      rw [outsAt0_A m c t h0 h1 (by omega)]
      frame_out
    rw [outsAt0_A m c t h0 h1 (by omega)]
    frame_out
    exact (plain_apply _ _ y).trans (low h1 _ hs)
  · have hs : k0_pay1 (iblk m c 1 t) = (outsAt0 m c t.val t.isLt).2 := by
      rw [outsAt0_C m c t h0 h1 (by omega)]
      frame_out
    rw [outsAt0_C m c t h0 h1 (by omega)]
    frame_out
    exact (gelu_apply _ _ y).trans (high h1 _ hs)
  · have hs : (outsAt0 m c (t.val - 1) (Nat.lt_of_le_of_lt (Nat.sub_le _ _) t.isLt)).2 = (outsAt0 m c t.val t.isLt).2 := by
      rw [outsAt0_B m c t h0 h1 (by omega)]
      rfl
    rw [outsAt0_B m c t h0 h1 (by omega)]
    frame_out
    exact (plain_apply _ _ y).trans (low h1 _ (((Memref.isWhole_whole cc0_scratch0).read_unread _).trans hs))
  · have hs : (outsAt0 m c (t.val - 1) (Nat.lt_of_le_of_lt (Nat.sub_le _ _) t.isLt)).2 = (outsAt0 m c t.val t.isLt).2 := by
      rw [outsAt0_D m c t h0 h1 (by omega)]
      rfl
    rw [outsAt0_D m c t h0 h1 (by omega)]
    frame_out
    exact (gelu_apply _ _ y).trans (high h1 _ (((Memref.isWhole_whole cc0_scratch0).read_unread _).trans hs))

theorem cover2 (i : S8192x5632.Idx) : ∃ t : Fin cfg0.N, (cfg0.win 2).flush t = true ∧ i ∈ ((cfg0.win 2).blk t).view.set := by
  have h0 : (i 0).val < 8192 := (i 0).isLt
  have h1 : (i 1).val < 5632 := (i 1).isLt
  have hN : cfg0.N = 32 := N_0
  obtain ⟨t, ht⟩ : ∃ t : Fin cfg0.N, t.val = (i 0).val / 512 + 16 * ((i 1).val / 2816) := ⟨⟨(i 0).val / 512 + 16 * ((i 1).val / 2816), by omega⟩, rfl⟩
  refine ⟨t, flush0_2 _, ?_⟩
  obtain ⟨i0, i1, i2⟩ := idx t
  show i ∈ ((View.whole main_v0).slice (win0_2.rect t)).set
  rw [View.set_slice_whole, Rect.mem_set_unit]
  intro a
  match a with
  | ⟨0, _⟩ => show win0_2.index t 0 * 512 ≤ (i 0).val ∧ (i 0).val < win0_2.index t 0 * 512 + 512
              rw [i2]; simp; omega
  | ⟨1, _⟩ => show win0_2.index t 1 * 2816 ≤ (i 1).val ∧ (i 1).val < win0_2.index t 1 * 2816 + 2816
              rw [i2]; simp; omega

theorem final2 (c : Dev nD) : (dats m 0 c).arrAt 2 cfg0.N = G2 m c :=
  (dats m 0 c).arrAt_eq_of_cover 2 _ (fun t _ => flushed_eq2 m c t) cover2

end Cert.RnnInIdeal.Hand

namespace Cert.Hand

/-- The recurrence's input projection computes the reference. -/
theorem rnnin_value : Cert.algebraic_RnnInIdeal_RnnInRefIdeal (hRnnInIdeal := Cert.RnnInIdeal.Gen.facts) (hRnnInRefIdeal := Cert.RnnInRefIdeal.Gen.facts) := by
  intro m ρ m' ρ' _ hagree
  refine ⟨fun c => Cert.RnnInIdeal.Hand.G2 m c, ?_, ?_⟩
  · exact (θ_run Cert.RnnInIdeal.defs _ _).mono (fun r h c => ⟨((h c).1).trans (Cert.RnnInIdeal.Hand.final2 m c), (h c).2⟩)
      (Cert.RnnInIdeal.Value.run_blocks (F := Ideal) m ρ)
  · refine (θ_run Cert.RnnInRefIdeal.defs _ _).mono (fun r h c => ⟨((h c).1).trans ?_, (h c).2⟩)
      (Cert.RnnInRefIdeal.Value.run (F := Ideal) m' ρ')
    obtain ⟨a0, a1⟩ := hagree c
    rw [a0, a1]
    unfold Cert.RnnInIdeal.Hand.G2
    funext i
    idx_vars i
    pointwise [dotAt, geluAt]
    split
    · rfl
    · rename_i hi
      simp only [show 2816 + (i1.val - 2816) = i1.val by omega]

end Cert.Hand
-- ==== Proof.QkValue.lean ====
module

public import proofs.«01_k».proof.Defs
public import proofs.«01_k».proof.Proof.Gen.QkIdeal.Value
public import proofs.«01_k».proof.Proof.Gen.QkRefIdeal.Run
public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.QkIdeal.Hand

open Cert.QkIdeal Cert.QkIdeal.Gen Cert.Hand

variable (m : (ℓ : Loc nD τ sig) → Buf (Elt Ideal) ℓ) (ρ : Dev nD → PrngReg)

/-- One head's normalised entry of a point's row block. -/
def headOf (x0 : Vec Ideal S1024x2048 .bf16) (s : Vec Ideal S2048x1024 .bf16) (g : Vec Ideal S1x1024 .f32) (y : S1024x1024.Idx) : EReal :=
  headAt (fun d => dotAt (fun k => x0 (ix2 (y 0) k)) (fun k => s (ix2 k ⟨(y 1).val / 128 * 128 + d.val, by have h : (y 1).val < 1024 := (y 1).isLt; omega⟩)))
    (dotAt (fun k => x0 (ix2 (y 0) k)) (fun k => s (ix2 k (y 1)))) (g (ix2 0 (y 1)))

set_option maxHeartbeats 4000000 in
/-- The row blocks one grid point stores, entry by entry: four quarters of its rows. -/
theorem rows_apply (x0 : Vec Ideal S1024x2048 .bf16) (s : Vec Ideal S2048x1024 .bf16) (g : Vec Ideal S1x1024 .f32) (y : S1024x1024.Idx) :
    View.canon (Val := Elt Ideal) (e := .bf16) (s := S1024x1024) [⟨Rect.unit ![768, 0] ![256, 1024] inb_S1024x1024_S256x1024_768_0,
          k0_pay1 (k0_pay47 (View.ld x0 (Rect.unit ![768, 0] ![256, 2048] inb_S1024x2048_S256x2048_768_0)) s) (k0_pay48 g) (k0_pay49 (k0_pay47 (View.ld x0 (Rect.unit ![768, 0] ![256, 2048] inb_S1024x2048_S256x2048_768_0)) s) g) (k0_pay50 (k0_pay47 (View.ld x0 (Rect.unit ![768, 0] ![256, 2048] inb_S1024x2048_S256x2048_768_0)) s) g)
            (k0_pay51 (k0_pay47 (View.ld x0 (Rect.unit ![768, 0] ![256, 2048] inb_S1024x2048_S256x2048_768_0)) s) g)
            (k0_pay55 (k0_pay48 g) (k0_pay52 (k0_pay47 (View.ld x0 (Rect.unit ![768, 0] ![256, 2048] inb_S1024x2048_S256x2048_768_0)) s)) (k0_pay53 (k0_pay47 (View.ld x0 (Rect.unit ![768, 0] ![256, 2048] inb_S1024x2048_S256x2048_768_0)) s)) k0_pay54)
            (k0_pay56 (k0_pay47 (View.ld x0 (Rect.unit ![768, 0] ![256, 2048] inb_S1024x2048_S256x2048_768_0)) s) (k0_pay48 g)) (k0_pay57 (k0_pay47 (View.ld x0 (Rect.unit ![768, 0] ![256, 2048] inb_S1024x2048_S256x2048_768_0)) s) (k0_pay48 g))
            (k0_pay58 (k0_pay47 (View.ld x0 (Rect.unit ![768, 0] ![256, 2048] inb_S1024x2048_S256x2048_768_0)) s)) (k0_pay59 (k0_pay48 g))⟩,
        ⟨Rect.unit ![512, 0] ![256, 1024] inb_S1024x1024_S256x1024_512_0,
          k0_pay46 (k0_pay34 (View.ld x0 (Rect.unit ![512, 0] ![256, 2048] inb_S1024x2048_S256x2048_512_0)) s) (k0_pay35 g) (k0_pay36 (View.ld x0 (Rect.unit ![512, 0] ![256, 2048] inb_S1024x2048_S256x2048_512_0)) s g) (k0_pay39 (k0_pay37 (View.ld x0 (Rect.unit ![512, 0] ![256, 2048] inb_S1024x2048_S256x2048_512_0)) s) (k0_pay38 g))
            (k0_pay40 (k0_pay34 (View.ld x0 (Rect.unit ![512, 0] ![256, 2048] inb_S1024x2048_S256x2048_512_0)) s) (k0_pay35 g)) (k0_pay41 (k0_pay34 (View.ld x0 (Rect.unit ![512, 0] ![256, 2048] inb_S1024x2048_S256x2048_512_0)) s) (k0_pay35 g))
            (k0_pay42 (k0_pay34 (View.ld x0 (Rect.unit ![512, 0] ![256, 2048] inb_S1024x2048_S256x2048_512_0)) s) (k0_pay35 g)) (k0_pay43 (k0_pay34 (View.ld x0 (Rect.unit ![512, 0] ![256, 2048] inb_S1024x2048_S256x2048_512_0)) s)) (k0_pay44 (k0_pay34 (View.ld x0 (Rect.unit ![512, 0] ![256, 2048] inb_S1024x2048_S256x2048_512_0)) s))
            k0_pay45⟩,
        ⟨Rect.unit ![256, 0] ![256, 1024] inb_S1024x1024_S256x1024_256_0,
          k0_pay33 (k0_pay18 g)
            (k0_pay21 (k0_pay18 g) (k0_pay19 (View.ld x0 (Rect.unit ![256, 0] ![256, 2048] inb_S1024x2048_S256x2048_256_0)) s) (k0_pay20 (View.ld x0 (Rect.unit ![256, 0] ![256, 2048] inb_S1024x2048_S256x2048_256_0)) s) (FloatOps.ofBits (F := Ideal) .f32 1124073472#32))
            (k0_pay22 (k0_pay17 (View.ld x0 (Rect.unit ![256, 0] ![256, 2048] inb_S1024x2048_S256x2048_256_0)) s) (k0_pay18 g)) (k0_pay23 (k0_pay17 (View.ld x0 (Rect.unit ![256, 0] ![256, 2048] inb_S1024x2048_S256x2048_256_0)) s) (k0_pay18 g))
            (k0_pay26 (k0_pay24 (k0_pay17 (View.ld x0 (Rect.unit ![256, 0] ![256, 2048] inb_S1024x2048_S256x2048_256_0)) s)) (k0_pay25 (k0_pay18 g))) (k0_pay27 (k0_pay17 (View.ld x0 (Rect.unit ![256, 0] ![256, 2048] inb_S1024x2048_S256x2048_256_0)) s) (k0_pay18 g))
            (k0_pay28 (k0_pay17 (View.ld x0 (Rect.unit ![256, 0] ![256, 2048] inb_S1024x2048_S256x2048_256_0)) s) (k0_pay18 g)) (k0_pay29 (k0_pay17 (View.ld x0 (Rect.unit ![256, 0] ![256, 2048] inb_S1024x2048_S256x2048_256_0)) s) (k0_pay18 g))
            (k0_pay30 (k0_pay17 (View.ld x0 (Rect.unit ![256, 0] ![256, 2048] inb_S1024x2048_S256x2048_256_0)) s)) (k0_pay31 (k0_pay17 (View.ld x0 (Rect.unit ![256, 0] ![256, 2048] inb_S1024x2048_S256x2048_256_0)) s)) k0_pay32⟩,
        ⟨Rect.unit ![0, 0] ![256, 1024] inb_S1024x1024_S256x1024_0_0,
          k0_pay16 (k0_pay5 (View.ld x0 (Rect.unit ![0, 0] ![256, 2048] inb_S1024x2048_S256x2048_0_0)) s) (k0_pay6 g) (k0_pay7 (View.ld x0 (Rect.unit ![0, 0] ![256, 2048] inb_S1024x2048_S256x2048_0_0)) s g) (k0_pay8 (View.ld x0 (Rect.unit ![0, 0] ![256, 2048] inb_S1024x2048_S256x2048_0_0)) s g)
            (k0_pay11 (k0_pay6 g) (k0_pay9 (View.ld x0 (Rect.unit ![0, 0] ![256, 2048] inb_S1024x2048_S256x2048_0_0)) s) (k0_pay10 (View.ld x0 (Rect.unit ![0, 0] ![256, 2048] inb_S1024x2048_S256x2048_0_0)) s) (FloatOps.ofBits (F := Ideal) .f32 1124073472#32))
            (k0_pay12 (k0_pay5 (View.ld x0 (Rect.unit ![0, 0] ![256, 2048] inb_S1024x2048_S256x2048_0_0)) s) (k0_pay6 g)) (k0_pay13 (k0_pay5 (View.ld x0 (Rect.unit ![0, 0] ![256, 2048] inb_S1024x2048_S256x2048_0_0)) s) (k0_pay6 g)) (k0_pay14 (k0_pay5 (View.ld x0 (Rect.unit ![0, 0] ![256, 2048] inb_S1024x2048_S256x2048_0_0)) s))
            (k0_pay15 (k0_pay6 g))⟩] y
      = headOf x0 s g y := by
  refine canon_four (Val := Elt Ideal) (e := .bf16) (fun y : S1024x1024.Idx => (headOf x0 s g y : EReal)) _ _ _ _ _ _ _ _ y
    (View.cover_of_tiledL _ ![256, 1024] (by sl_kernel_rfl) y) (fun x => ?_) (fun x => ?_) (fun x => ?_) (fun x => ?_)
  all_goals
    idx_vars x
    unfold_payloads
    pointwise [headOf, headAt, dotAt, emb_eq]
    obtain hh | hh | hh | hh | hh | hh | hh | hh : x1.val / 128 = 0 ∨ x1.val / 128 = 1 ∨ x1.val / 128 = 2 ∨ x1.val / 128 = 3 ∨ x1.val / 128 = 4 ∨ x1.val / 128 = 5 ∨ x1.val / 128 = 6 ∨ x1.val / 128 = 7 := by omega
    · simp only [↓reduceDIte, show x1.val < 128 by omega, show x1.val / 128 * 128 = 0 by omega, Nat.zero_add]
    · simp only [↓reduceDIte, show ¬ (x1.val < 128) by omega, show x1.val - 128 < 128 by omega, show x1.val / 128 * 128 = 128 by omega, show 128 + (x1.val - 128) = x1.val by omega]
    · simp only [↓reduceDIte, show ¬ (x1.val < 128) by omega, show ¬ (x1.val - 128 < 128) by omega, show x1.val - 128 - 128 < 128 by omega, show x1.val / 128 * 128 = 256 by omega, show 256 + (x1.val - 128 - 128) = x1.val by omega]
    · simp only [↓reduceDIte, show ¬ (x1.val < 128) by omega, show ¬ (x1.val - 128 < 128) by omega, show ¬ (x1.val - 128 - 128 < 128) by omega, show x1.val - 128 - 128 - 128 < 128 by omega, show x1.val / 128 * 128 = 384 by omega, show 384 + (x1.val - 128 - 128 - 128) = x1.val by omega]
    · simp only [↓reduceDIte, show ¬ (x1.val < 128) by omega, show ¬ (x1.val - 128 < 128) by omega, show ¬ (x1.val - 128 - 128 < 128) by omega, show ¬ (x1.val - 128 - 128 - 128 < 128) by omega, show x1.val - 128 - 128 - 128 - 128 < 128 by omega, show x1.val / 128 * 128 = 512 by omega, show 512 + (x1.val - 128 - 128 - 128 - 128) = x1.val by omega]
    · simp only [↓reduceDIte, show ¬ (x1.val < 128) by omega, show ¬ (x1.val - 128 < 128) by omega, show ¬ (x1.val - 128 - 128 < 128) by omega, show ¬ (x1.val - 128 - 128 - 128 < 128) by omega, show ¬ (x1.val - 128 - 128 - 128 - 128 < 128) by omega, show x1.val - 128 - 128 - 128 - 128 - 128 < 128 by omega, show x1.val / 128 * 128 = 640 by omega, show 640 + (x1.val - 128 - 128 - 128 - 128 - 128) = x1.val by omega]
    · simp only [↓reduceDIte, show ¬ (x1.val < 128) by omega, show ¬ (x1.val - 128 < 128) by omega, show ¬ (x1.val - 128 - 128 < 128) by omega, show ¬ (x1.val - 128 - 128 - 128 < 128) by omega, show ¬ (x1.val - 128 - 128 - 128 - 128 < 128) by omega, show ¬ (x1.val - 128 - 128 - 128 - 128 - 128 < 128) by omega, show x1.val - 128 - 128 - 128 - 128 - 128 - 128 < 128 by omega, show x1.val / 128 * 128 = 768 by omega, show 768 + (x1.val - 128 - 128 - 128 - 128 - 128 - 128) = x1.val by omega]
    · simp only [↓reduceDIte, show ¬ (x1.val < 128) by omega, show ¬ (x1.val - 128 < 128) by omega, show ¬ (x1.val - 128 - 128 < 128) by omega, show ¬ (x1.val - 128 - 128 - 128 < 128) by omega, show ¬ (x1.val - 128 - 128 - 128 - 128 < 128) by omega, show ¬ (x1.val - 128 - 128 - 128 - 128 - 128 < 128) by omega, show ¬ (x1.val - 128 - 128 - 128 - 128 - 128 - 128 < 128) by omega, show x1.val / 128 * 128 = 896 by omega, show 896 + (x1.val - 128 - 128 - 128 - 128 - 128 - 128 - 128) = x1.val by omega]

theorem idx : ∀ t : Fin cfg0.N, win0_0.index t = ![t.val % 8, 0] ∧ win0_1.index t = ![0, 5632 + 1024 * (t.val / 8)] ∧ win0_2.index t = ![0, t.val / 8] ∧ win0_3.index t = ![t.val, 0] ∧ win0_4.index t = ![t.val, 0] ∧ win0_5.index t = ![t.val % 8, t.val / 8] ∧ win0_6.index t = ![t.val, 0] ∧ win0_7.index t = ![t.val, 0] :=
  (by decide +kernel : ∀ t : Fin grid0.N, _)

/-- The scratch after a point holds the weights' columns of the point's column group. -/
theorem scratch (c : Dev nD) : ∀ (n : ℕ) (hn : n < cfg0.N) (k : Fin 2048) (q : Fin 1024) (h : 5632 + 1024 * (n / 8) + q.val < 15872),
    (outsAt0 m c n hn).2.2.2 (ix2 k q) = m ((c : Thread nD τ).loc main_arg1) (ix2 k ⟨5632 + 1024 * (n / 8) + q.val, h⟩) := by
  intro n
  induction n with
  | zero =>
    intro hn k q h
    rw [outsAt0_A m c ⟨0, hn⟩ rfl]
    frame_out
    unfold_payloads
    pointwise
    refine congrArg (m ((c : Thread nD τ).loc main_arg1)) (ix2_of _ _ _ ?_ ?_)
    · show win0_1.index ⟨0, hn⟩ 0 + 1 * k.val = _; rw [(idx ⟨0, hn⟩).2.1]; simp
    · show win0_1.index ⟨0, hn⟩ 1 + 1 * q.val = _; rw [(idx ⟨0, hn⟩).2.1]; simp
  | succ n ih =>
    intro hn k q h
    by_cases h0 : (n + 1) % 8 = 0
    · rw [outsAt0_A m c ⟨n + 1, hn⟩ h0]
      frame_out
      unfold_payloads
      pointwise
      refine congrArg (m ((c : Thread nD τ).loc main_arg1)) (ix2_of _ _ _ ?_ ?_)
      · show win0_1.index ⟨n + 1, hn⟩ 0 + 1 * k.val = _; rw [(idx ⟨n + 1, hn⟩).2.1]; simp
      · show win0_1.index ⟨n + 1, hn⟩ 1 + 1 * q.val = _; rw [(idx ⟨n + 1, hn⟩).2.1]; simp
    · have e : (n + 1) / 8 = n / 8 := by omega
      rw [outsAt0_B m c ⟨n + 1, hn⟩ h0]
      refine (ih (Nat.lt_of_succ_lt hn) k q (by omega)).trans ?_
      refine congrArg (m ((c : Thread nD τ).loc main_arg1)) (ix2_of _ _ _ rfl ?_)
      show 5632 + 1024 * (n / 8) + q.val = 5632 + 1024 * ((n + 1) / 8) + q.val
      rw [e]

/-- The gains' row as the call reads it, entry by entry: the query's gain times the scale, then the key's. -/
theorem gain (c : Dev nD) (q : Fin 4096) : V m c main_v9 (ix2 0 q) =
    gainAt (fun d => m ((c : Thread nD τ).loc main_arg2) (ix1 d)) (fun d => m ((c : Thread nD τ).loc main_arg3) (ix1 d)) q.val := by
  show StableHlo.after hostOps0 (fun b => m (c, b)) (Proc.devRef .tc main_v9) (ix2 0 q) = _
  after_results
  pointwise [gainAt]
  split
  · rfl
  · rename_i hq
    simp only [show (q.val - 2048) % 128 = q.val % 128 by omega]

/-- The whole of the projection, entry by entry, over the argument arrays. -/
def G5 (c : Dev nD) : Buf (Elt Ideal) ((c : Thread nD τ).loc main_v10_0) := fun i : S8192x4096.Idx =>
  headAt (fun d => dotAt (fun k => m ((c : Thread nD τ).loc main_arg0) (ix2 (i 0) k)) (fun k => m ((c : Thread nD τ).loc main_arg1) (ix2 k ⟨5632 + ((i 1).val / 128 * 128 + d.val), by have h : (i 1).val < 4096 := (i 1).isLt; omega⟩)))
    (dotAt (fun k => m ((c : Thread nD τ).loc main_arg0) (ix2 (i 0) k)) (fun k => m ((c : Thread nD τ).loc main_arg1) (ix2 k ⟨5632 + (i 1).val, by have h : (i 1).val < 4096 := (i 1).isLt; omega⟩)))
    (V m c main_v9 (ix2 0 (i 1)))

theorem flushed_eq5 (c : Dev nD) (t : Fin cfg0.N) :
    (dats m 0 c).flushed 5 t = (win0_5.blk t).view.read (Elt Ideal) (G5 m c) := by
  show (dats m 0 c).after 5 t = _
  rw [after0_5]
  funext y
  obtain ⟨i0, i1, i2, i3, i4, i5, i6, i7⟩ := idx t
  have hN : cfg0.N = 32 := N_0
  have ht := t.isLt
  show _ = G5 m c ((win0_5.blk t).view.emb y)
  have e0 : ((win0_5.blk t).view.emb y 0).val = (t.val % 8) * 1024 + (y 0).val := by
    show win0_5.index t 0 * 1024 + 1 * (y 0).val = _; rw [i5]; simp
  have e1 : ((win0_5.blk t).view.emb y 1).val = (t.val / 8) * 1024 + (y 1).val := by
    show win0_5.index t 1 * 1024 + 1 * (y 1).val = _; rw [i5]; simp
  generalize (win0_5.blk t).view.emb y = i at e0 e1
  have hy : (y 1).val < 1024 := (y 1).isLt
  have rows : ∀ k : Fin 2048, iblk m c 0 t (ix2 (y 0) k) = m ((c : Thread nD τ).loc main_arg0) (ix2 (i 0) k) := fun k => by
    refine congrArg (m ((c : Thread nD τ).loc main_arg0)) (ix2_of _ _ _ ?_ ?_)
    · show win0_0.index t 0 * 1024 + 1 * (y 0).val = _; rw [i0, e0]; simp
    · show win0_0.index t 1 * 2048 + 1 * k.val = _; rw [i0]; simp
  have key : ∀ s : Vec Ideal S2048x1024 .bf16, s = (outsAt0 m c t.val t.isLt).2.2.2 →
      headOf (iblk m c 0 t) s (iblk m c 2 t) y = G5 m c i := fun s hs => by
    subst hs
    unfold G5 headOf
    have col : ∀ (q : Fin 1024) (n : Fin 15872), n.val = 5632 + 1024 * (t.val / 8) + q.val →
        dotAt (fun k => iblk m c 0 t (ix2 (y 0) k)) (fun k => (outsAt0 m c t.val t.isLt).2.2.2 (ix2 k q))
          = dotAt (fun k => m ((c : Thread nD τ).loc main_arg0) (ix2 (i 0) k)) (fun k => m ((c : Thread nD τ).loc main_arg1) (ix2 k n)) := fun q n hn => by
      refine congrArg₂ dotAt (funext fun k => rows k) ?_
      · funext k
        refine (scratch m c t.val t.isLt k q (by omega)).trans ?_
        exact congrArg (m ((c : Thread nD τ).loc main_arg1)) (ix2_of _ _ _ rfl hn.symm)
    refine headAt_congr (fun d => col _ _ ?_) (col _ _ ?_) ?_
    · show 5632 + ((i 1).val / 128 * 128 + d.val) = 5632 + 1024 * (t.val / 8) + ((y 1).val / 128 * 128 + d.val)
      omega
    · show 5632 + (i 1).val = 5632 + 1024 * (t.val / 8) + (y 1).val
      omega
    · refine congrArg (V m c main_v9) (ix2_of _ _ _ ?_ ?_)
      · show win0_2.index t 0 * 1 + 1 * 0 = _; rw [i2]; simp
      · show win0_2.index t 1 * 1024 + 1 * (y 1).val = (i 1).val; rw [i2, e1]; simp
  by_cases h0 : t.val % 8 = 0
  · have hs : k0_pay4 (iblk m c 1 t) = (outsAt0 m c t.val t.isLt).2.2.2 := by
      rw [outsAt0_A m c t h0]
      frame_out
    rw [outsAt0_A m c t h0]
    frame_out
    exact (rows_apply _ _ _ y).trans (key _ hs)
  · have hs : (outsAt0 m c (t.val - 1) (Nat.lt_of_le_of_lt (Nat.sub_le _ _) t.isLt)).2.2.2 = (outsAt0 m c t.val t.isLt).2.2.2 := by
      rw [outsAt0_B m c t h0]
      rfl
    rw [outsAt0_B m c t h0]
    frame_out
    exact (rows_apply _ _ _ y).trans (key _ (((Memref.isWhole_whole cc0_scratch0).read_unread _).trans hs))

theorem cover5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 32 := N_0
  obtain ⟨t, ht⟩ : ∃ t : Fin cfg0.N, t.val = (i 0).val / 1024 + 8 * ((i 1).val / 1024) := ⟨⟨(i 0).val / 1024 + 8 * ((i 1).val / 1024), by omega⟩, rfl⟩
  refine ⟨t, flush0_5 _, ?_⟩
  obtain ⟨i0, i1, i2, i3, i4, i5, i6, i7⟩ := idx t
  show i ∈ ((View.whole main_v10_0).slice (win0_5.rect t)).set
  rw [View.set_slice_whole, Rect.mem_set_unit]
  intro a
  match a with
  | ⟨0, _⟩ => show win0_5.index t 0 * 1024 ≤ (i 0).val ∧ (i 0).val < win0_5.index t 0 * 1024 + 1024
              rw [i5]; simp; omega
  | ⟨1, _⟩ => show win0_5.index t 1 * 1024 ≤ (i 1).val ∧ (i 1).val < win0_5.index t 1 * 1024 + 1024
              rw [i5]; simp; omega

theorem final5 (c : Dev nD) : (dats m 0 c).arrAt 5 cfg0.N = G5 m c :=
  (dats m 0 c).arrAt_eq_of_cover 5 _ (fun t _ => flushed_eq5 m c t) cover5

/-- Result 1: a copy of argument 4 in the narrower type. -/
def G6 (c : Dev nD) : Buf (Elt Ideal) ((c : Thread nD τ).loc main_v10_1) := fun i : S2048x11264.Idx => m ((c : Thread nD τ).loc main_arg4) i

theorem flushed_eq6 (c : Dev nD) (t : Fin cfg0.N) :
    (dats m 0 c).flushed 6 t = (win0_6.blk t).view.read (Elt Ideal) (G6 m c) := by
  show (dats m 0 c).after 6 t = _
  rw [after0_6]
  funext y
  obtain ⟨i0, i1, i2, i3, i4, i5, i6, i7⟩ := idx t
  have e : k0_pay2 (iblk m c 3 t) y = G6 m c ((win0_6.blk t).view.emb y) := by
    have e0 : ((win0_6.blk t).view.emb y 0).val = t.val * 64 + (y 0).val := by
      show win0_6.index t 0 * 64 + 1 * (y 0).val = _; rw [i6]; simp
    have e1 : ((win0_6.blk t).view.emb y 1).val = (y 1).val := by
      show win0_6.index t 1 * 11264 + 1 * (y 1).val = _; rw [i6]; simp
    generalize (win0_6.blk t).view.emb y = i at e0 e1
    unfold G6
    refine congrArg (m ((c : Thread nD τ).loc main_arg4)) ((ix2_of _ (i 0) (i 1) ?_ ?_).trans (ix2_of i _ _ rfl rfl).symm)
    · show win0_3.index t 0 * 64 + 1 * (y 0).val = _; rw [i3, e0]; simp
    · show win0_3.index t 1 * 11264 + 1 * (y 1).val = (i 1).val; rw [i3, e1]; simp
  by_cases h0 : t.val % 8 = 0
  · rw [outsAt0_A m c t h0]
    frame_out
    exact e
  · rw [outsAt0_B m c t h0]
    frame_out
    exact e

theorem cover6 (i : S2048x11264.Idx) : ∃ t : Fin cfg0.N, (cfg0.win 6).flush t = true ∧ i ∈ ((cfg0.win 6).blk t).view.set := by
  have h0 : (i 0).val < 2048 := (i 0).isLt
  have h1 : (i 1).val < 11264 := (i 1).isLt
  have hN : cfg0.N = 32 := N_0
  obtain ⟨t, ht⟩ : ∃ t : Fin cfg0.N, t.val = (i 0).val / 64 := ⟨⟨(i 0).val / 64, by omega⟩, rfl⟩
  refine ⟨t, flush0_6 _, ?_⟩
  obtain ⟨i0, i1, i2, i3, i4, i5, i6, i7⟩ := idx t
  show i ∈ ((View.whole main_v10_1).slice (win0_6.rect t)).set
  rw [View.set_slice_whole, Rect.mem_set_unit]
  intro a
  match a with
  | ⟨0, _⟩ => show win0_6.index t 0 * 64 ≤ (i 0).val ∧ (i 0).val < win0_6.index t 0 * 64 + 64
              rw [i6]; simp; omega
  | ⟨1, _⟩ => show win0_6.index t 1 * 11264 ≤ (i 1).val ∧ (i 1).val < win0_6.index t 1 * 11264 + 11264
              rw [i6]; simp; omega

theorem final6 (c : Dev nD) : (dats m 0 c).arrAt 6 cfg0.N = G6 m c :=
  (dats m 0 c).arrAt_eq_of_cover 6 _ (fun t _ => flushed_eq6 m c t) cover6

/-- Result 2: a copy of argument 5 in the narrower type. -/
def G7 (c : Dev nD) : Buf (Elt Ideal) ((c : Thread nD τ).loc main_v10_2) := fun i : S2048x2048.Idx => m ((c : Thread nD τ).loc main_arg5) i

theorem flushed_eq7 (c : Dev nD) (t : Fin cfg0.N) :
    (dats m 0 c).flushed 7 t = (win0_7.blk t).view.read (Elt Ideal) (G7 m c) := by
  show (dats m 0 c).after 7 t = _
  rw [after0_7]
  funext y
  obtain ⟨i0, i1, i2, i3, i4, i5, i6, i7⟩ := idx t
  have e : k0_pay3 (iblk m c 4 t) y = G7 m c ((win0_7.blk t).view.emb y) := by
    have e0 : ((win0_7.blk t).view.emb y 0).val = t.val * 64 + (y 0).val := by
      show win0_7.index t 0 * 64 + 1 * (y 0).val = _; rw [i7]; simp
    have e1 : ((win0_7.blk t).view.emb y 1).val = (y 1).val := by
      show win0_7.index t 1 * 2048 + 1 * (y 1).val = _; rw [i7]; simp
    generalize (win0_7.blk t).view.emb y = i at e0 e1
    unfold G7
    refine congrArg (m ((c : Thread nD τ).loc main_arg5)) ((ix2_of _ (i 0) (i 1) ?_ ?_).trans (ix2_of i _ _ rfl rfl).symm)
    · show win0_4.index t 0 * 64 + 1 * (y 0).val = _; rw [i4, e0]; simp
    · show win0_4.index t 1 * 2048 + 1 * (y 1).val = (i 1).val; rw [i4, e1]; simp
  by_cases h0 : t.val % 8 = 0
  · rw [outsAt0_A m c t h0]
    frame_out
    exact e
  · rw [outsAt0_B m c t h0]
    frame_out
    exact e

theorem cover7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  have hN : cfg0.N = 32 := N_0
  obtain ⟨t, ht⟩ : ∃ t : Fin cfg0.N, t.val = (i 0).val / 64 := ⟨⟨(i 0).val / 64, by omega⟩, rfl⟩
  refine ⟨t, flush0_7 _, ?_⟩
  obtain ⟨i0, i1, i2, i3, i4, i5, i6, i7⟩ := idx t
  show i ∈ ((View.whole main_v10_2).slice (win0_7.rect t)).set
  rw [View.set_slice_whole, Rect.mem_set_unit]
  intro a
  match a with
  | ⟨0, _⟩ => show win0_7.index t 0 * 64 ≤ (i 0).val ∧ (i 0).val < win0_7.index t 0 * 64 + 64
              rw [i7]; simp; omega
  | ⟨1, _⟩ => show win0_7.index t 1 * 2048 ≤ (i 1).val ∧ (i 1).val < win0_7.index t 1 * 2048 + 2048
              rw [i7]; simp; omega

theorem final7 (c : Dev nD) : (dats m 0 c).arrAt 7 cfg0.N = G7 m c :=
  (dats m 0 c).arrAt_eq_of_cover 7 _ (fun t _ => flushed_eq7 m c t) cover7

end Cert.QkIdeal.Hand

namespace Cert.Hand

set_option maxHeartbeats 4000000 in
/-- The projection call computes the reference. -/
theorem qk_value : Cert.algebraic_QkIdeal_QkRefIdeal (hQkIdeal := Cert.QkIdeal.Gen.facts) (hQkRefIdeal := Cert.QkRefIdeal.Gen.facts) := by
  intro m ρ m' ρ' _ hagree
  refine ⟨fun c => Cert.QkIdeal.Hand.G5 m c, fun c => Cert.QkIdeal.Hand.G6 m c, fun c => Cert.QkIdeal.Hand.G7 m c, ?_, ?_⟩
  · exact (θ_run Cert.QkIdeal.defs _ _).mono (fun r h c => ⟨((h c).1).trans (Cert.QkIdeal.Hand.final5 m c), ((h c).2.1).trans (Cert.QkIdeal.Hand.final6 m c), ((h c).2.2.1).trans (Cert.QkIdeal.Hand.final7 m c), (h c).2.2.2⟩)
      (Cert.QkIdeal.Value.run_blocks (F := Ideal) m ρ)
  · refine (θ_run Cert.QkRefIdeal.defs _ _).mono (fun r h c => ⟨((h c).1).trans ?_, ((h c).2.1).trans ?_, ((h c).2.2.1).trans ?_, (h c).2.2.2⟩)
      (Cert.QkRefIdeal.Value.run (F := Ideal) m' ρ')
    all_goals obtain ⟨a0, a1, a2, a3, a4, a5⟩ := hagree c
    · rw [a0, a1, a2, a3]
      unfold Cert.QkIdeal.Hand.G5
      funext i
      idx_vars i
      clear h hagree
      have e : i1.val / 128 * 128 + i1.val % 128 = i1.val := by omega
      pointwise [dotAt, headAt, e]
      rw [Cert.QkIdeal.Hand.gain, gainAt]
      split
      · rename_i hi
        ac_rfl
      · rename_i hi
        have e1 : ∀ (n : ℕ) (h : 7680 + ((i1.val - 2048) / 128 * 128 + n) < 15872),
            (⟨7680 + ((i1.val - 2048) / 128 * 128 + n), h⟩ : Fin 15872) = ⟨5632 + (i1.val / 128 * 128 + n), by omega⟩ := fun n h => Fin.ext (by show 7680 + ((i1.val - 2048) / 128 * 128 + n) = 5632 + (i1.val / 128 * 128 + n); omega)
        have e2 : ∀ h : 7680 + ((i1.val - 2048) / 128 * 128 + (i1.val - 2048) % 128) < 15872,
            (⟨7680 + ((i1.val - 2048) / 128 * 128 + (i1.val - 2048) % 128), h⟩ : Fin 15872) = ⟨5632 + i1.val, by omega⟩ := fun h => Fin.ext (by show 7680 + ((i1.val - 2048) / 128 * 128 + (i1.val - 2048) % 128) = 5632 + i1.val; omega)
        have e3 : ∀ h : (i1.val - 2048) % 128 < 128, (⟨(i1.val - 2048) % 128, h⟩ : Fin 128) = ⟨i1.val % 128, Nat.mod_lt _ (by decide)⟩ := fun h => Fin.ext (by show (i1.val - 2048) % 128 = i1.val % 128; omega)
        simp only [e2, e1, e3]
    · rw [a4]
      unfold Cert.QkIdeal.Hand.G6
      funext i
      idx_vars i
      pointwise!
    · rw [a5]
      unfold Cert.QkIdeal.Hand.G7
      funext i
      idx_vars i
      pointwise!

end Cert.Hand
-- ==== Proof.ValValue.lean ====
module

public import proofs.«01_k».proof.Defs
public import proofs.«01_k».proof.Proof.Gen.ValIdeal.Value
public import proofs.«01_k».proof.Proof.Gen.ValRefIdeal.Run
public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ValIdeal.Hand

open Cert.ValIdeal Cert.ValIdeal.Gen Cert.Hand

variable (m : (ℓ : Loc nD τ sig) → Buf (Elt Ideal) ℓ) (ρ : Dev nD → PrngReg)

/-- The row blocks one grid point stores, entry by entry: four quarters of its rows. -/
theorem rows_apply (x0 : Vec Ideal S1024x2048 .bf16) (s : Vec Ideal S2048x1024 .bf16) (y : S1024x1024.Idx) :
    View.canon (Val := Elt Ideal) (e := .bf16) (s := S1024x1024) [⟨Rect.unit ![768, 0] ![256, 1024] inb_S1024x1024_S256x1024_768_0,
        k0_pay6 (View.ld x0 (Rect.unit ![768, 0] ![256, 2048] inb_S1024x2048_S256x2048_768_0)) s⟩, ⟨Rect.unit ![512, 0] ![256, 1024] inb_S1024x1024_S256x1024_512_0,
        k0_pay5 (View.ld x0 (Rect.unit ![512, 0] ![256, 2048] inb_S1024x2048_S256x2048_512_0)) s⟩, ⟨Rect.unit ![256, 0] ![256, 1024] inb_S1024x1024_S256x1024_256_0,
        k0_pay4 (View.ld x0 (Rect.unit ![256, 0] ![256, 2048] inb_S1024x2048_S256x2048_256_0)) s⟩, ⟨Rect.unit ![0, 0] ![256, 1024] inb_S1024x1024_S256x1024_0_0,
        k0_pay3 (View.ld x0 (Rect.unit ![0, 0] ![256, 2048] inb_S1024x2048_S256x2048_0_0)) s⟩] y
      = dotAt (fun k => x0 (ix2 (y 0) k)) (fun k => s (ix2 k (y 1))) := by
  refine canon_four (Val := Elt Ideal) (e := .bf16) (fun y : S1024x1024.Idx => (dotAt (fun k => x0 (ix2 (y 0) k)) (fun k => s (ix2 k (y 1))) : EReal)) _ _ _ _ _ _ _ _ y
    (View.cover_of_tiledL _ ![256, 1024] (by sl_kernel_rfl) y) (fun x => ?_) (fun x => ?_) (fun x => ?_) (fun x => ?_)
  all_goals
    idx_vars x
    unfold_payloads
    pointwise! [dotAt, emb_eq]

theorem idx : ∀ t : Fin cfg0.N, win0_0.index t = ![t.val % 8, 0] ∧ win0_1.index t = ![0, 9728 + 1024 * (t.val / 8)] ∧ win0_2.index t = ![t.val, 0] ∧ win0_3.index t = ![t.val % 8, t.val / 8] ∧ win0_4.index t = ![t.val, 0] :=
  (by decide +kernel : ∀ t : Fin grid0.N, _)

/-- The scratch after a point holds the weights' columns of the point's column group. -/
theorem scratch (c : Dev nD) : ∀ (n : ℕ) (hn : n < cfg0.N) (k : Fin 2048) (q : Fin 1024) (h : 9728 + 1024 * (n / 8) + q.val < 15872),
    (outsAt0 m c n hn).2.2 (ix2 k q) = m ((c : Thread nD τ).loc main_arg1) (ix2 k ⟨9728 + 1024 * (n / 8) + q.val, h⟩) := by
  intro n
  induction n with
  | zero =>
    intro hn k q h
    rw [outsAt0_A m c ⟨0, hn⟩ rfl]
    frame_out
    unfold_payloads
    pointwise
    refine congrArg (m ((c : Thread nD τ).loc main_arg1)) (ix2_of _ _ _ ?_ ?_)
    · show win0_1.index ⟨0, hn⟩ 0 + 1 * k.val = _; rw [(idx ⟨0, hn⟩).2.1]; simp
    · show win0_1.index ⟨0, hn⟩ 1 + 1 * q.val = _; rw [(idx ⟨0, hn⟩).2.1]; simp
  | succ n ih =>
    intro hn k q h
    by_cases h0 : (n + 1) % 8 = 0
    · rw [outsAt0_A m c ⟨n + 1, hn⟩ h0]
      frame_out
      unfold_payloads
      pointwise
      refine congrArg (m ((c : Thread nD τ).loc main_arg1)) (ix2_of _ _ _ ?_ ?_)
      · show win0_1.index ⟨n + 1, hn⟩ 0 + 1 * k.val = _; rw [(idx ⟨n + 1, hn⟩).2.1]; simp
      · show win0_1.index ⟨n + 1, hn⟩ 1 + 1 * q.val = _; rw [(idx ⟨n + 1, hn⟩).2.1]; simp
    · have e : (n + 1) / 8 = n / 8 := by omega
      rw [outsAt0_B m c ⟨n + 1, hn⟩ h0]
      refine (ih (Nat.lt_of_succ_lt hn) k q (by omega)).trans ?_
      refine congrArg (m ((c : Thread nD τ).loc main_arg1)) (ix2_of _ _ _ rfl ?_)
      show 9728 + 1024 * (n / 8) + q.val = 9728 + 1024 * ((n + 1) / 8) + q.val
      rw [e]

/-- The whole of the projection, entry by entry, over the argument arrays. -/
def G3 (c : Dev nD) : Buf (Elt Ideal) ((c : Thread nD τ).loc main_v0_0) := fun i : S8192x2048.Idx =>
  dotAt (fun k => m ((c : Thread nD τ).loc main_arg0) (ix2 (i 0) k)) (fun k => m ((c : Thread nD τ).loc main_arg1) (ix2 k ⟨9728 + (i 1).val, by have h : (i 1).val < 2048 := (i 1).isLt; omega⟩))

theorem flushed_eq3 (c : Dev nD) (t : Fin cfg0.N) :
    (dats m 0 c).flushed 3 t = (win0_3.blk t).view.read (Elt Ideal) (G3 m c) := by
  show (dats m 0 c).after 3 t = _
  rw [after0_3]
  funext y
  obtain ⟨i0, i1, i2, i3, i4⟩ := idx t
  have hN : cfg0.N = 16 := N_0
  have ht := t.isLt
  show _ = G3 m c ((win0_3.blk t).view.emb y)
  have e0 : ((win0_3.blk t).view.emb y 0).val = (t.val % 8) * 1024 + (y 0).val := by
    show win0_3.index t 0 * 1024 + 1 * (y 0).val = _; rw [i3]; simp
  have e1 : ((win0_3.blk t).view.emb y 1).val = (t.val / 8) * 1024 + (y 1).val := by
    show win0_3.index t 1 * 1024 + 1 * (y 1).val = _; rw [i3]; simp
  generalize (win0_3.blk t).view.emb y = i at e0 e1
  have hy : (y 1).val < 1024 := (y 1).isLt
  have rows : ∀ k : Fin 2048, iblk m c 0 t (ix2 (y 0) k) = m ((c : Thread nD τ).loc main_arg0) (ix2 (i 0) k) := fun k => by
    refine congrArg (m ((c : Thread nD τ).loc main_arg0)) (ix2_of _ _ _ ?_ ?_)
    · show win0_0.index t 0 * 1024 + 1 * (y 0).val = _; rw [i0, e0]; simp
    · show win0_0.index t 1 * 2048 + 1 * k.val = _; rw [i0]; simp
  have key : ∀ s : Vec Ideal S2048x1024 .bf16, s = (outsAt0 m c t.val t.isLt).2.2 →
      dotAt (fun k => iblk m c 0 t (ix2 (y 0) k)) (fun k => s (ix2 k (y 1))) = G3 m c i := fun s hs => by
    subst hs
    unfold G3
    congr 1
    · funext k; exact rows k
    · funext k
      refine (scratch m c t.val t.isLt k (y 1) (by omega)).trans ?_
      refine congrArg (m ((c : Thread nD τ).loc main_arg1)) (ix2_of _ _ _ rfl ?_)
      show 9728 + 1024 * (t.val / 8) + (y 1).val = 9728 + (i 1).val
      omega
  by_cases h0 : t.val % 8 = 0
  · have hs : k0_pay2 (iblk m c 1 t) = (outsAt0 m c t.val t.isLt).2.2 := by
      rw [outsAt0_A m c t h0]
      frame_out
    rw [outsAt0_A m c t h0]
    frame_out
    exact (rows_apply _ _ y).trans (key _ hs)
  · have hs : (outsAt0 m c (t.val - 1) (Nat.lt_of_le_of_lt (Nat.sub_le _ _) t.isLt)).2.2 = (outsAt0 m c t.val t.isLt).2.2 := by
      rw [outsAt0_B m c t h0]
      rfl
    rw [outsAt0_B m c t h0]
    frame_out
    exact (rows_apply _ _ y).trans (key _ (((Memref.isWhole_whole cc0_scratch0).read_unread _).trans hs))

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 16 := N_0
  obtain ⟨t, ht⟩ : ∃ t : Fin cfg0.N, t.val = (i 0).val / 1024 + 8 * ((i 1).val / 1024) := ⟨⟨(i 0).val / 1024 + 8 * ((i 1).val / 1024), by omega⟩, rfl⟩
  refine ⟨t, flush0_3 _, ?_⟩
  obtain ⟨i0, i1, i2, i3, i4⟩ := idx t
  show i ∈ ((View.whole main_v0_0).slice (win0_3.rect t)).set
  rw [View.set_slice_whole, Rect.mem_set_unit]
  intro a
  match a with
  | ⟨0, _⟩ => show win0_3.index t 0 * 1024 ≤ (i 0).val ∧ (i 0).val < win0_3.index t 0 * 1024 + 1024
              rw [i3]; simp; omega
  | ⟨1, _⟩ => show win0_3.index t 1 * 1024 ≤ (i 1).val ∧ (i 1).val < win0_3.index t 1 * 1024 + 1024
              rw [i3]; simp; omega

theorem final3 (c : Dev nD) : (dats m 0 c).arrAt 3 cfg0.N = G3 m c :=
  (dats m 0 c).arrAt_eq_of_cover 3 _ (fun t _ => flushed_eq3 m c t) cover3

/-- Result 1: a copy of argument 2 in the narrower type. -/
def G4 (c : Dev nD) : Buf (Elt Ideal) ((c : Thread nD τ).loc main_v0_1) := fun i : S2816x2048.Idx => m ((c : Thread nD τ).loc main_arg2) i

theorem flushed_eq4 (c : Dev nD) (t : Fin cfg0.N) :
    (dats m 0 c).flushed 4 t = (win0_4.blk t).view.read (Elt Ideal) (G4 m c) := by
  show (dats m 0 c).after 4 t = _
  rw [after0_4]
  funext y
  obtain ⟨i0, i1, i2, i3, i4⟩ := idx t
  have e : k0_pay1 (iblk m c 2 t) y = G4 m c ((win0_4.blk t).view.emb y) := by
    have e0 : ((win0_4.blk t).view.emb y 0).val = t.val * 176 + (y 0).val := by
      show win0_4.index t 0 * 176 + 1 * (y 0).val = _; rw [i4]; simp
    have e1 : ((win0_4.blk t).view.emb y 1).val = (y 1).val := by
      show win0_4.index t 1 * 2048 + 1 * (y 1).val = _; rw [i4]; simp
    generalize (win0_4.blk t).view.emb y = i at e0 e1
    unfold G4
    refine congrArg (m ((c : Thread nD τ).loc main_arg2)) ((ix2_of _ (i 0) (i 1) ?_ ?_).trans (ix2_of i _ _ rfl rfl).symm)
    · show win0_2.index t 0 * 176 + 1 * (y 0).val = _; rw [i2, e0]; simp
    · show win0_2.index t 1 * 2048 + 1 * (y 1).val = (i 1).val; rw [i2, e1]; simp
  by_cases h0 : t.val % 8 = 0
  · rw [outsAt0_A m c t h0]
    frame_out
    exact e
  · rw [outsAt0_B m c t h0]
    frame_out
    exact e

theorem cover4 (i : S2816x2048.Idx) : ∃ t : Fin cfg0.N, (cfg0.win 4).flush t = true ∧ i ∈ ((cfg0.win 4).blk t).view.set := by
  have h0 : (i 0).val < 2816 := (i 0).isLt
  have h1 : (i 1).val < 2048 := (i 1).isLt
  have hN : cfg0.N = 16 := N_0
  obtain ⟨t, ht⟩ : ∃ t : Fin cfg0.N, t.val = (i 0).val / 176 := ⟨⟨(i 0).val / 176, by omega⟩, rfl⟩
  refine ⟨t, flush0_4 _, ?_⟩
  obtain ⟨i0, i1, i2, i3, i4⟩ := idx t
  show i ∈ ((View.whole main_v0_1).slice (win0_4.rect t)).set
  rw [View.set_slice_whole, Rect.mem_set_unit]
  intro a
  match a with
  | ⟨0, _⟩ => show win0_4.index t 0 * 176 ≤ (i 0).val ∧ (i 0).val < win0_4.index t 0 * 176 + 176
              rw [i4]; simp; omega
  | ⟨1, _⟩ => show win0_4.index t 1 * 2048 ≤ (i 1).val ∧ (i 1).val < win0_4.index t 1 * 2048 + 2048
              rw [i4]; simp; omega

theorem final4 (c : Dev nD) : (dats m 0 c).arrAt 4 cfg0.N = G4 m c :=
  (dats m 0 c).arrAt_eq_of_cover 4 _ (fun t _ => flushed_eq4 m c t) cover4

end Cert.ValIdeal.Hand

namespace Cert.Hand

/-- The projection call computes the reference. -/
theorem val_value : Cert.algebraic_ValIdeal_ValRefIdeal (hValIdeal := Cert.ValIdeal.Gen.facts) (hValRefIdeal := Cert.ValRefIdeal.Gen.facts) := by
  intro m ρ m' ρ' _ hagree
  refine ⟨fun c => Cert.ValIdeal.Hand.G3 m c, fun c => Cert.ValIdeal.Hand.G4 m c, ?_, ?_⟩
  · exact (θ_run Cert.ValIdeal.defs _ _).mono (fun r h c => ⟨((h c).1).trans (Cert.ValIdeal.Hand.final3 m c), ((h c).2.1).trans (Cert.ValIdeal.Hand.final4 m c), (h c).2.2⟩)
      (Cert.ValIdeal.Value.run_blocks (F := Ideal) m ρ)
  · refine (θ_run Cert.ValRefIdeal.defs _ _).mono (fun r h c => ⟨((h c).1).trans ?_, ((h c).2.1).trans ?_, (h c).2.2⟩)
      (Cert.ValRefIdeal.Value.run (F := Ideal) m' ρ')
    all_goals obtain ⟨a0, a1, a2⟩ := hagree c
    · rw [a0, a1]
      unfold Cert.ValIdeal.Hand.G3
      funext i
      idx_vars i
      pointwise! [dotAt, Ideal.logistic]
    · rw [a2]
      unfold Cert.ValIdeal.Hand.G4
      funext i
      idx_vars i
      pointwise!

end Cert.Hand
-- ==== Proof.GatesValue.lean ====
module

public import proofs.«01_k».proof.Defs
public import proofs.«01_k».proof.Proof.Gen.GatesIdeal.Value
public import proofs.«01_k».proof.Proof.Gen.GatesRefIdeal.Run
public import proofs.«01_k».proof.Proof.Common
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GatesIdeal.Hand

open Cert.GatesIdeal Cert.GatesIdeal.Gen Cert.Hand

variable (m : (ℓ : Loc nD τ sig) → Buf (Elt Ideal) ℓ) (ρ : Dev nD → PrngReg)

/-- The row blocks one grid point stores, entry by entry: four quarters of its rows. -/
theorem rows_apply (x0 : Vec Ideal S1024x2048 .bf16) (s : Vec Ideal S2048x1024 .bf16) (y : S1024x1024.Idx) :
    View.canon (Val := Elt Ideal) (e := .bf16) (s := S1024x1024) [⟨Rect.unit ![768, 0] ![256, 1024] inb_S1024x1024_S256x1024_768_0,
        k0_pay8 (View.ld x0 (Rect.unit ![768, 0] ![256, 2048] inb_S1024x2048_S256x2048_768_0)) s⟩, ⟨Rect.unit ![512, 0] ![256, 1024] inb_S1024x1024_S256x1024_512_0,
        k0_pay7 (View.ld x0 (Rect.unit ![512, 0] ![256, 2048] inb_S1024x2048_S256x2048_512_0)) s⟩, ⟨Rect.unit ![256, 0] ![256, 1024] inb_S1024x1024_S256x1024_256_0,
        k0_pay6 (View.ld x0 (Rect.unit ![256, 0] ![256, 2048] inb_S1024x2048_S256x2048_256_0)) s⟩, ⟨Rect.unit ![0, 0] ![256, 1024] inb_S1024x1024_S256x1024_0_0,
        k0_pay5 (View.ld x0 (Rect.unit ![0, 0] ![256, 2048] inb_S1024x2048_S256x2048_0_0)) s⟩] y
      = gateAt (fun k => x0 (ix2 (y 0) k)) (fun k => s (ix2 k (y 1))) := by
  refine canon_four (Val := Elt Ideal) (e := .bf16) (fun y : S1024x1024.Idx => (gateAt (fun k => x0 (ix2 (y 0) k)) (fun k => s (ix2 k (y 1))) : EReal)) _ _ _ _ _ _ _ _ y
    (View.cover_of_tiledL _ ![256, 1024] (by sl_kernel_rfl) y) (fun x => ?_) (fun x => ?_) (fun x => ?_) (fun x => ?_)
  all_goals
    idx_vars x
    unfold_payloads
    pointwise! [gateAt, emb_eq]

theorem idx : ∀ t : Fin cfg0.N, win0_0.index t = ![t.val % 8, 0] ∧ win0_1.index t = ![0, 11776 + 1024 * (t.val / 8)] ∧ win0_2.index t = ![t.val, 0] ∧ win0_3.index t = ![t.val, 0] ∧ win0_4.index t = ![t.val, 0] ∧ win0_5.index t = ![t.val % 8, t.val / 8] ∧ win0_6.index t = ![t.val, 0] ∧ win0_7.index t = ![t.val, 0] ∧ win0_8.index t = ![t.val, 0] :=
  (by decide +kernel : ∀ t : Fin grid0.N, _)

/-- The scratch after a point holds the weights' columns of the point's column group. -/
theorem scratch (c : Dev nD) : ∀ (n : ℕ) (hn : n < cfg0.N) (k : Fin 2048) (q : Fin 1024) (h : 11776 + 1024 * (n / 8) + q.val < 15872),
    (outsAt0 m c n hn).2.2.2.2 (ix2 k q) = m ((c : Thread nD τ).loc main_arg1) (ix2 k ⟨11776 + 1024 * (n / 8) + q.val, h⟩) := by
  intro n
  induction n with
  | zero =>
    intro hn k q h
    rw [outsAt0_A m c ⟨0, hn⟩ rfl]
    frame_out
    unfold_payloads
    pointwise
    refine congrArg (m ((c : Thread nD τ).loc main_arg1)) (ix2_of _ _ _ ?_ ?_)
    · show win0_1.index ⟨0, hn⟩ 0 + 1 * k.val = _; rw [(idx ⟨0, hn⟩).2.1]; simp
    · show win0_1.index ⟨0, hn⟩ 1 + 1 * q.val = _; rw [(idx ⟨0, hn⟩).2.1]; simp
  | succ n ih =>
    intro hn k q h
    by_cases h0 : (n + 1) % 8 = 0
    · rw [outsAt0_A m c ⟨n + 1, hn⟩ h0]
      frame_out
      unfold_payloads
      pointwise
      refine congrArg (m ((c : Thread nD τ).loc main_arg1)) (ix2_of _ _ _ ?_ ?_)
      · show win0_1.index ⟨n + 1, hn⟩ 0 + 1 * k.val = _; rw [(idx ⟨n + 1, hn⟩).2.1]; simp
      · show win0_1.index ⟨n + 1, hn⟩ 1 + 1 * q.val = _; rw [(idx ⟨n + 1, hn⟩).2.1]; simp
    · have e : (n + 1) / 8 = n / 8 := by omega
      rw [outsAt0_B m c ⟨n + 1, hn⟩ h0]
      refine (ih (Nat.lt_of_succ_lt hn) k q (by omega)).trans ?_
      refine congrArg (m ((c : Thread nD τ).loc main_arg1)) (ix2_of _ _ _ rfl ?_)
      show 11776 + 1024 * (n / 8) + q.val = 11776 + 1024 * ((n + 1) / 8) + q.val
      rw [e]

/-- The whole of the projection, entry by entry, over the argument arrays. -/
def G5 (c : Dev nD) : Buf (Elt Ideal) ((c : Thread nD τ).loc main_v0_0) := fun i : S8192x4096.Idx =>
  gateAt (fun k => m ((c : Thread nD τ).loc main_arg0) (ix2 (i 0) k)) (fun k => m ((c : Thread nD τ).loc main_arg1) (ix2 k ⟨11776 + (i 1).val, by have h : (i 1).val < 4096 := (i 1).isLt; omega⟩))

theorem flushed_eq5 (c : Dev nD) (t : Fin cfg0.N) :
    (dats m 0 c).flushed 5 t = (win0_5.blk t).view.read (Elt Ideal) (G5 m c) := by
  show (dats m 0 c).after 5 t = _
  rw [after0_5]
  funext y
  obtain ⟨i0, i1, i2, i3, i4, i5, i6, i7, i8⟩ := idx t
  have hN : cfg0.N = 32 := N_0
  have ht := t.isLt
  show _ = G5 m c ((win0_5.blk t).view.emb y)
  have e0 : ((win0_5.blk t).view.emb y 0).val = (t.val % 8) * 1024 + (y 0).val := by
    show win0_5.index t 0 * 1024 + 1 * (y 0).val = _; rw [i5]; simp
  have e1 : ((win0_5.blk t).view.emb y 1).val = (t.val / 8) * 1024 + (y 1).val := by
    show win0_5.index t 1 * 1024 + 1 * (y 1).val = _; rw [i5]; simp
  generalize (win0_5.blk t).view.emb y = i at e0 e1
  have hy : (y 1).val < 1024 := (y 1).isLt
  have rows : ∀ k : Fin 2048, iblk m c 0 t (ix2 (y 0) k) = m ((c : Thread nD τ).loc main_arg0) (ix2 (i 0) k) := fun k => by
    refine congrArg (m ((c : Thread nD τ).loc main_arg0)) (ix2_of _ _ _ ?_ ?_)
    · show win0_0.index t 0 * 1024 + 1 * (y 0).val = _; rw [i0, e0]; simp
    · show win0_0.index t 1 * 2048 + 1 * k.val = _; rw [i0]; simp
  have key : ∀ s : Vec Ideal S2048x1024 .bf16, s = (outsAt0 m c t.val t.isLt).2.2.2.2 →
      gateAt (fun k => iblk m c 0 t (ix2 (y 0) k)) (fun k => s (ix2 k (y 1))) = G5 m c i := fun s hs => by
    subst hs
    unfold G5
    congr 1
    · funext k; exact rows k
    · funext k
      refine (scratch m c t.val t.isLt k (y 1) (by omega)).trans ?_
      refine congrArg (m ((c : Thread nD τ).loc main_arg1)) (ix2_of _ _ _ rfl ?_)
      show 11776 + 1024 * (t.val / 8) + (y 1).val = 11776 + (i 1).val
      omega
  by_cases h0 : t.val % 8 = 0
  · have hs : k0_pay4 (iblk m c 1 t) = (outsAt0 m c t.val t.isLt).2.2.2.2 := by
      rw [outsAt0_A m c t h0]
      frame_out
    rw [outsAt0_A m c t h0]
    frame_out
    exact (rows_apply _ _ y).trans (key _ hs)
  · have hs : (outsAt0 m c (t.val - 1) (Nat.lt_of_le_of_lt (Nat.sub_le _ _) t.isLt)).2.2.2.2 = (outsAt0 m c t.val t.isLt).2.2.2.2 := by
      rw [outsAt0_B m c t h0]
      rfl
    rw [outsAt0_B m c t h0]
    frame_out
    exact (rows_apply _ _ y).trans (key _ (((Memref.isWhole_whole cc0_scratch0).read_unread _).trans hs))

theorem cover5 (i : S8192x4096.Idx) : ∃ t : Fin cfg0.N, (cfg0.win 5).flush t = true ∧ i ∈ ((cfg0.win 5).blk t).view.set := by
  have h0 : (i 0).val < 8192 := (i 0).isLt
  have h1 : (i 1).val < 4096 := (i 1).isLt
  have hN : cfg0.N = 32 := N_0
  obtain ⟨t, ht⟩ : ∃ t : Fin cfg0.N, t.val = (i 0).val / 1024 + 8 * ((i 1).val / 1024) := ⟨⟨(i 0).val / 1024 + 8 * ((i 1).val / 1024), by omega⟩, rfl⟩
  refine ⟨t, flush0_5 _, ?_⟩
  obtain ⟨i0, i1, i2, i3, i4, i5, i6, i7, i8⟩ := idx t
  show i ∈ ((View.whole main_v0_0).slice (win0_5.rect t)).set
  rw [View.set_slice_whole, Rect.mem_set_unit]
  intro a
  match a with
  | ⟨0, _⟩ => show win0_5.index t 0 * 1024 ≤ (i 0).val ∧ (i 0).val < win0_5.index t 0 * 1024 + 1024
              rw [i5]; simp; omega
  | ⟨1, _⟩ => show win0_5.index t 1 * 1024 ≤ (i 1).val ∧ (i 1).val < win0_5.index t 1 * 1024 + 1024
              rw [i5]; simp; omega

theorem final5 (c : Dev nD) : (dats m 0 c).arrAt 5 cfg0.N = G5 m c :=
  (dats m 0 c).arrAt_eq_of_cover 5 _ (fun t _ => flushed_eq5 m c t) cover5

/-- Result 1: a copy of argument 2 in the narrower type. -/
def G6 (c : Dev nD) : Buf (Elt Ideal) ((c : Thread nD τ).loc main_v0_1) := fun i : S5632x2048.Idx => m ((c : Thread nD τ).loc main_arg2) i

theorem flushed_eq6 (c : Dev nD) (t : Fin cfg0.N) :
    (dats m 0 c).flushed 6 t = (win0_6.blk t).view.read (Elt Ideal) (G6 m c) := by
  show (dats m 0 c).after 6 t = _
  rw [after0_6]
  funext y
  obtain ⟨i0, i1, i2, i3, i4, i5, i6, i7, i8⟩ := idx t
  have e : k0_pay1 (iblk m c 2 t) y = G6 m c ((win0_6.blk t).view.emb y) := by
    have e0 : ((win0_6.blk t).view.emb y 0).val = t.val * 176 + (y 0).val := by
      show win0_6.index t 0 * 176 + 1 * (y 0).val = _; rw [i6]; simp
    have e1 : ((win0_6.blk t).view.emb y 1).val = (y 1).val := by
      show win0_6.index t 1 * 2048 + 1 * (y 1).val = _; rw [i6]; simp
    generalize (win0_6.blk t).view.emb y = i at e0 e1
    unfold G6
    refine congrArg (m ((c : Thread nD τ).loc main_arg2)) ((ix2_of _ (i 0) (i 1) ?_ ?_).trans (ix2_of i _ _ rfl rfl).symm)
    · show win0_2.index t 0 * 176 + 1 * (y 0).val = _; rw [i2, e0]; simp
    · show win0_2.index t 1 * 2048 + 1 * (y 1).val = (i 1).val; rw [i2, e1]; simp
  by_cases h0 : t.val % 8 = 0
  · rw [outsAt0_A m c t h0]
    frame_out
    exact e
  · rw [outsAt0_B m c t h0]
    frame_out
    exact e

theorem cover6 (i : S5632x2048.Idx) : ∃ t : Fin cfg0.N, (cfg0.win 6).flush t = true ∧ i ∈ ((cfg0.win 6).blk t).view.set := by
  have h0 : (i 0).val < 5632 := (i 0).isLt
  have h1 : (i 1).val < 2048 := (i 1).isLt
  have hN : cfg0.N = 32 := N_0
  obtain ⟨t, ht⟩ : ∃ t : Fin cfg0.N, t.val = (i 0).val / 176 := ⟨⟨(i 0).val / 176, by omega⟩, rfl⟩
  refine ⟨t, flush0_6 _, ?_⟩
  obtain ⟨i0, i1, i2, i3, i4, i5, i6, i7, i8⟩ := idx t
  show i ∈ ((View.whole main_v0_1).slice (win0_6.rect t)).set
  rw [View.set_slice_whole, Rect.mem_set_unit]
  intro a
  match a with
  | ⟨0, _⟩ => show win0_6.index t 0 * 176 ≤ (i 0).val ∧ (i 0).val < win0_6.index t 0 * 176 + 176
              rw [i6]; simp; omega
  | ⟨1, _⟩ => show win0_6.index t 1 * 2048 ≤ (i 1).val ∧ (i 1).val < win0_6.index t 1 * 2048 + 2048
              rw [i6]; simp; omega

theorem final6 (c : Dev nD) : (dats m 0 c).arrAt 6 cfg0.N = G6 m c :=
  (dats m 0 c).arrAt_eq_of_cover 6 _ (fun t _ => flushed_eq6 m c t) cover6

/-- Result 2: a copy of argument 3 in the narrower type. -/
def G7 (c : Dev nD) : Buf (Elt Ideal) ((c : Thread nD τ).loc main_v0_2) := fun i : S2048x2048.Idx => m ((c : Thread nD τ).loc main_arg3) i

theorem flushed_eq7 (c : Dev nD) (t : Fin cfg0.N) :
    (dats m 0 c).flushed 7 t = (win0_7.blk t).view.read (Elt Ideal) (G7 m c) := by
  show (dats m 0 c).after 7 t = _
  rw [after0_7]
  funext y
  obtain ⟨i0, i1, i2, i3, i4, i5, i6, i7, i8⟩ := idx t
  have e : k0_pay2 (iblk m c 3 t) y = G7 m c ((win0_7.blk t).view.emb y) := by
    have e0 : ((win0_7.blk t).view.emb y 0).val = t.val * 64 + (y 0).val := by
      show win0_7.index t 0 * 64 + 1 * (y 0).val = _; rw [i7]; simp
    have e1 : ((win0_7.blk t).view.emb y 1).val = (y 1).val := by
      show win0_7.index t 1 * 2048 + 1 * (y 1).val = _; rw [i7]; simp
    generalize (win0_7.blk t).view.emb y = i at e0 e1
    unfold G7
    refine congrArg (m ((c : Thread nD τ).loc main_arg3)) ((ix2_of _ (i 0) (i 1) ?_ ?_).trans (ix2_of i _ _ rfl rfl).symm)
    · show win0_3.index t 0 * 64 + 1 * (y 0).val = _; rw [i3, e0]; simp
    · show win0_3.index t 1 * 2048 + 1 * (y 1).val = (i 1).val; rw [i3, e1]; simp
  by_cases h0 : t.val % 8 = 0
  · rw [outsAt0_A m c t h0]
    frame_out
    exact e
  · rw [outsAt0_B m c t h0]
    frame_out
    exact e

theorem cover7 (i : S2048x2048.Idx) : ∃ t : Fin cfg0.N, (cfg0.win 7).flush t = true ∧ i ∈ ((cfg0.win 7).blk t).view.set := by
  have h0 : (i 0).val < 2048 := (i 0).isLt
  have h1 : (i 1).val < 2048 := (i 1).isLt
  have hN : cfg0.N = 32 := N_0
  obtain ⟨t, ht⟩ : ∃ t : Fin cfg0.N, t.val = (i 0).val / 64 := ⟨⟨(i 0).val / 64, by omega⟩, rfl⟩
  refine ⟨t, flush0_7 _, ?_⟩
  obtain ⟨i0, i1, i2, i3, i4, i5, i6, i7, i8⟩ := idx t
  show i ∈ ((View.whole main_v0_2).slice (win0_7.rect t)).set
  rw [View.set_slice_whole, Rect.mem_set_unit]
  intro a
  match a with
  | ⟨0, _⟩ => show win0_7.index t 0 * 64 ≤ (i 0).val ∧ (i 0).val < win0_7.index t 0 * 64 + 64
              rw [i7]; simp; omega
  | ⟨1, _⟩ => show win0_7.index t 1 * 2048 ≤ (i 1).val ∧ (i 1).val < win0_7.index t 1 * 2048 + 2048
              rw [i7]; simp; omega

theorem final7 (c : Dev nD) : (dats m 0 c).arrAt 7 cfg0.N = G7 m c :=
  (dats m 0 c).arrAt_eq_of_cover 7 _ (fun t _ => flushed_eq7 m c t) cover7

/-- Result 3: a copy of argument 4 in the narrower type. -/
def G8 (c : Dev nD) : Buf (Elt Ideal) ((c : Thread nD τ).loc main_v0_3) := fun i : S2048x2048.Idx => m ((c : Thread nD τ).loc main_arg4) i

theorem flushed_eq8 (c : Dev nD) (t : Fin cfg0.N) :
    (dats m 0 c).flushed 8 t = (win0_8.blk t).view.read (Elt Ideal) (G8 m c) := by
  show (dats m 0 c).after 8 t = _
  rw [after0_8]
  funext y
  obtain ⟨i0, i1, i2, i3, i4, i5, i6, i7, i8⟩ := idx t
  have e : k0_pay3 (iblk m c 4 t) y = G8 m c ((win0_8.blk t).view.emb y) := by
    have e0 : ((win0_8.blk t).view.emb y 0).val = t.val * 64 + (y 0).val := by
      show win0_8.index t 0 * 64 + 1 * (y 0).val = _; rw [i8]; simp
    have e1 : ((win0_8.blk t).view.emb y 1).val = (y 1).val := by
      show win0_8.index t 1 * 2048 + 1 * (y 1).val = _; rw [i8]; simp
    generalize (win0_8.blk t).view.emb y = i at e0 e1
    unfold G8
    refine congrArg (m ((c : Thread nD τ).loc main_arg4)) ((ix2_of _ (i 0) (i 1) ?_ ?_).trans (ix2_of i _ _ rfl rfl).symm)
    · show win0_4.index t 0 * 64 + 1 * (y 0).val = _; rw [i4, e0]; simp
    · show win0_4.index t 1 * 2048 + 1 * (y 1).val = (i 1).val; rw [i4, e1]; simp
  by_cases h0 : t.val % 8 = 0
  · rw [outsAt0_A m c t h0]
    frame_out
    exact e
  · rw [outsAt0_B m c t h0]
    frame_out
    exact e

theorem cover8 (i : S2048x2048.Idx) : ∃ t : Fin cfg0.N, (cfg0.win 8).flush t = true ∧ i ∈ ((cfg0.win 8).blk t).view.set := by
  have h0 : (i 0).val < 2048 := (i 0).isLt
  have h1 : (i 1).val < 2048 := (i 1).isLt
  have hN : cfg0.N = 32 := N_0
  obtain ⟨t, ht⟩ : ∃ t : Fin cfg0.N, t.val = (i 0).val / 64 := ⟨⟨(i 0).val / 64, by omega⟩, rfl⟩
  refine ⟨t, flush0_8 _, ?_⟩
  obtain ⟨i0, i1, i2, i3, i4, i5, i6, i7, i8⟩ := idx t
  show i ∈ ((View.whole main_v0_3).slice (win0_8.rect t)).set
  rw [View.set_slice_whole, Rect.mem_set_unit]
  intro a
  match a with
  | ⟨0, _⟩ => show win0_8.index t 0 * 64 ≤ (i 0).val ∧ (i 0).val < win0_8.index t 0 * 64 + 64
              rw [i8]; simp; omega
  | ⟨1, _⟩ => show win0_8.index t 1 * 2048 ≤ (i 1).val ∧ (i 1).val < win0_8.index t 1 * 2048 + 2048
              rw [i8]; simp; omega

theorem final8 (c : Dev nD) : (dats m 0 c).arrAt 8 cfg0.N = G8 m c :=
  (dats m 0 c).arrAt_eq_of_cover 8 _ (fun t _ => flushed_eq8 m c t) cover8

end Cert.GatesIdeal.Hand

namespace Cert.Hand

/-- The projection call computes the reference. -/
theorem gates_value : Cert.algebraic_GatesIdeal_GatesRefIdeal (hGatesIdeal := Cert.GatesIdeal.Gen.facts) (hGatesRefIdeal := Cert.GatesRefIdeal.Gen.facts) := by
  intro m ρ m' ρ' _ hagree
  refine ⟨fun c => Cert.GatesIdeal.Hand.G5 m c, fun c => Cert.GatesIdeal.Hand.G6 m c, fun c => Cert.GatesIdeal.Hand.G7 m c, fun c => Cert.GatesIdeal.Hand.G8 m c, ?_, ?_⟩
  · exact (θ_run Cert.GatesIdeal.defs _ _).mono (fun r h c => ⟨((h c).1).trans (Cert.GatesIdeal.Hand.final5 m c), ((h c).2.1).trans (Cert.GatesIdeal.Hand.final6 m c), ((h c).2.2.1).trans (Cert.GatesIdeal.Hand.final7 m c), ((h c).2.2.2.1).trans (Cert.GatesIdeal.Hand.final8 m c), (h c).2.2.2.2⟩)
      (Cert.GatesIdeal.Value.run_blocks (F := Ideal) m ρ)
  · refine (θ_run Cert.GatesRefIdeal.defs _ _).mono (fun r h c => ⟨((h c).1).trans ?_, ((h c).2.1).trans ?_, ((h c).2.2.1).trans ?_, ((h c).2.2.2.1).trans ?_, (h c).2.2.2.2⟩)
      (Cert.GatesRefIdeal.Value.run (F := Ideal) m' ρ')
    all_goals obtain ⟨a0, a1, a2, a3, a4⟩ := hagree c
    · rw [a0, a1]
      unfold Cert.GatesIdeal.Hand.G5
      funext i
      idx_vars i
      pointwise! [gateAt, Ideal.logistic]
      split
      · rfl
      · rename_i hi
        simp only [show 13824 + (i1.val - 2048) = 11776 + i1.val by omega]
    · rw [a2]
      unfold Cert.GatesIdeal.Hand.G6
      funext i
      idx_vars i
      pointwise!
    · rw [a3]
      unfold Cert.GatesIdeal.Hand.G7
      funext i
      idx_vars i
      pointwise!
    · rw [a4]
      unfold Cert.GatesIdeal.Hand.G8
      funext i
      idx_vars i
      pointwise!

end Cert.Hand
-- ==== Proof.lean ====
/- The claims, each from its part: the calls' frames are the generated ones (the attention's is proved apart), a reference's frame is read off its run,
   and each call's value is proved in the module of its name. -/
module

public import proofs.«01_k».proof.Defs
public import proofs.«01_k».proof.Proof.AttnFrame
public import proofs.«01_k».proof.Proof.AttnIdealFrame
public import proofs.«01_k».proof.Proof.AttnValue
public import proofs.«01_k».proof.Proof.Gen.Rnn.Frame
public import proofs.«01_k».proof.Proof.Gen.Ffn.Frame
public import proofs.«01_k».proof.Proof.FfnValue
public import proofs.«01_k».proof.Proof.Gen.Mix.Frame
public import proofs.«01_k».proof.Proof.MixValue
public import proofs.«01_k».proof.Proof.Gen.Oproj.Frame
public import proofs.«01_k».proof.Proof.OprojValue
public import proofs.«01_k».proof.Proof.Gen.Ple.Frame
public import proofs.«01_k».proof.Proof.PleValue
public import proofs.«01_k».proof.Proof.Gen.Rms.Frame
public import proofs.«01_k».proof.Proof.RmsValue
public import proofs.«01_k».proof.Proof.Gen.RnnIn.Frame
public import proofs.«01_k».proof.Proof.RnnInValue
public import proofs.«01_k».proof.Proof.Gen.Qk.Frame
public import proofs.«01_k».proof.Proof.QkValue
public import proofs.«01_k».proof.Proof.Gen.Val.Frame
public import proofs.«01_k».proof.Proof.ValValue
public import proofs.«01_k».proof.Proof.Gen.Gates.Frame
public import proofs.«01_k».proof.Proof.GatesValue

@[expose] public section

set_option maxRecDepth 16384

namespace Cert.Proof

open Idealize.ShloMosaic Idealize.ShloMosaic.TcCoe Idealize.SL.Sem

/-- The reference of `Ffn` runs, leaves its arguments and ends quiescent. -/
theorem ffn_ref_frame : quiescent_FfnRefIdeal (hFfnRefIdeal := Cert.FfnRefIdeal.Gen.facts) :=
  fun m ρ _ => (θ_run Cert.FfnRefIdeal.defs _ _).mono (fun r h => ⟨fun c => (h c).2, sem_eq_zero_of_no_sems (by decide) r.2⟩)
    (Cert.FfnRefIdeal.Value.run (F := Ideal) m ρ)

/-- The reference of `Mix` runs, leaves its arguments and ends quiescent. -/
theorem mix_ref_frame : quiescent_MixRefIdeal (hMixRefIdeal := Cert.MixRefIdeal.Gen.facts) :=
  fun m ρ _ => (θ_run Cert.MixRefIdeal.defs _ _).mono (fun r h => ⟨fun c => (h c).2, sem_eq_zero_of_no_sems (by decide) r.2⟩)
    (Cert.MixRefIdeal.Value.run (F := Ideal) m ρ)

/-- The reference of `Oproj` runs, leaves its arguments and ends quiescent. -/
theorem oproj_ref_frame : quiescent_OprojRefIdeal (hOprojRefIdeal := Cert.OprojRefIdeal.Gen.facts) :=
  fun m ρ _ => (θ_run Cert.OprojRefIdeal.defs _ _).mono (fun r h => ⟨fun c => (h c).2.2, sem_eq_zero_of_no_sems (by decide) r.2⟩)
    (Cert.OprojRefIdeal.Value.run (F := Ideal) m ρ)

/-- The reference of `Ple` runs, leaves its arguments and ends quiescent. -/
theorem ple_ref_frame : quiescent_PleRefIdeal (hPleRefIdeal := Cert.PleRefIdeal.Gen.facts) :=
  fun m ρ _ => (θ_run Cert.PleRefIdeal.defs _ _).mono (fun r h => ⟨fun c => (h c).2, sem_eq_zero_of_no_sems (by decide) r.2⟩)
    (Cert.PleRefIdeal.Value.run (F := Ideal) m ρ)

/-- The reference of `Rms` runs, leaves its arguments and ends quiescent. -/
theorem rms_ref_frame : quiescent_RmsRefIdeal (hRmsRefIdeal := Cert.RmsRefIdeal.Gen.facts) :=
  fun m ρ _ => (θ_run Cert.RmsRefIdeal.defs _ _).mono (fun r h => ⟨fun c => (h c).2, sem_eq_zero_of_no_sems (by decide) r.2⟩)
    (Cert.RmsRefIdeal.Value.run (F := Ideal) m ρ)

/-- The reference of `RnnIn` runs, leaves its arguments and ends quiescent. -/
theorem rnnin_ref_frame : quiescent_RnnInRefIdeal (hRnnInRefIdeal := Cert.RnnInRefIdeal.Gen.facts) :=
  fun m ρ _ => (θ_run Cert.RnnInRefIdeal.defs _ _).mono (fun r h => ⟨fun c => (h c).2, sem_eq_zero_of_no_sems (by decide) r.2⟩)
    (Cert.RnnInRefIdeal.Value.run (F := Ideal) m ρ)

/-- The reference of `Qk` runs, leaves its arguments and ends quiescent. -/
theorem qk_ref_frame : quiescent_QkRefIdeal (hQkRefIdeal := Cert.QkRefIdeal.Gen.facts) :=
  fun m ρ _ => (θ_run Cert.QkRefIdeal.defs _ _).mono (fun r h => ⟨fun c => (h c).2.2.2, sem_eq_zero_of_no_sems (by decide) r.2⟩)
    (Cert.QkRefIdeal.Value.run (F := Ideal) m ρ)

/-- The reference of `Val` runs, leaves its arguments and ends quiescent. -/
theorem val_ref_frame : quiescent_ValRefIdeal (hValRefIdeal := Cert.ValRefIdeal.Gen.facts) :=
  fun m ρ _ => (θ_run Cert.ValRefIdeal.defs _ _).mono (fun r h => ⟨fun c => (h c).2.2, sem_eq_zero_of_no_sems (by decide) r.2⟩)
    (Cert.ValRefIdeal.Value.run (F := Ideal) m ρ)

/-- The reference of `Gates` runs, leaves its arguments and ends quiescent. -/
theorem gates_ref_frame : quiescent_GatesRefIdeal (hGatesRefIdeal := Cert.GatesRefIdeal.Gen.facts) :=
  fun m ρ _ => (θ_run Cert.GatesRefIdeal.defs _ _).mono (fun r h => ⟨fun c => (h c).2.2.2.2, sem_eq_zero_of_no_sems (by decide) r.2⟩)
    (Cert.GatesRefIdeal.Value.run (F := Ideal) m ρ)

/-- The attention's reference runs, leaves its arguments and ends quiescent. -/
theorem attn_ref_run (m : (ℓ : Loc Cert.AttnRefIdeal.nD Cert.AttnRefIdeal.τ Cert.AttnRefIdeal.sig) → Buf (Elt Ideal) ℓ) (ρ : Dev Cert.AttnRefIdeal.nD → PrngReg) :
    θ_run (Cert.AttnRefIdeal.defs (F := Ideal)) (onTc (τ := Cert.AttnRefIdeal.τ) (Cert.AttnRefIdeal.main (F := Ideal))) ⟨m, fun _ => 0, ρ⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0) :=
  (θ_run Cert.AttnRefIdeal.defs _ _).mono (fun r h => ⟨fun c => (h c).2, sem_eq_zero_of_no_sems (by decide) r.2⟩)
    (Cert.AttnRefIdeal.Value.run (F := Ideal) m ρ)

/-- The attention's two named constants are the infinities they stand for. -/
theorem attn_preserves : preserves_Attn_AttnIdeal :=
  ⟨IdealRules.named_const.statement _ _ _ _ _ rfl, IdealRules.named_const.statement _ _ _ _ _ rfl⟩

theorem claim : Cert.Claim :=
  ⟨Cert.Ffn.Gen.facts, Cert.FfnIdeal.Gen.facts, Cert.FfnRefIdeal.Gen.facts, Cert.Mix.Gen.facts, Cert.MixIdeal.Gen.facts, Cert.MixRefIdeal.Gen.facts, Cert.Oproj.Gen.facts, Cert.OprojIdeal.Gen.facts, Cert.OprojRefIdeal.Gen.facts, Cert.Ple.Gen.facts, Cert.PleIdeal.Gen.facts, Cert.PleRefIdeal.Gen.facts, Cert.Rms.Gen.facts, Cert.RmsIdeal.Gen.facts, Cert.RmsRefIdeal.Gen.facts, Cert.RnnIn.Gen.facts, Cert.RnnInIdeal.Gen.facts, Cert.RnnInRefIdeal.Gen.facts, Cert.Qk.Gen.facts, Cert.QkIdeal.Gen.facts, Cert.QkRefIdeal.Gen.facts, Cert.Val.Gen.facts, Cert.ValIdeal.Gen.facts, Cert.ValRefIdeal.Gen.facts, Cert.Gates.Gen.facts, Cert.GatesIdeal.Gen.facts, Cert.GatesRefIdeal.Gen.facts, Cert.Attn.Gen.facts, Cert.AttnIdeal.Gen.facts, Cert.AttnRefIdeal.Gen.facts, Cert.Rnn.Gen.facts, Cert.Pre_qk_finite.Hand.facts,
    fun m ρ _ => Cert.Ffn.Gen.frame m ρ, fun m ρ _ => Cert.FfnIdeal.Gen.frame m ρ, ffn_ref_frame,
    fun m ρ _ => Cert.Mix.Gen.frame m ρ, fun m ρ _ => Cert.MixIdeal.Gen.frame m ρ, mix_ref_frame,
    fun m ρ _ => Cert.Oproj.Gen.frame m ρ, fun m ρ _ => Cert.OprojIdeal.Gen.frame m ρ, oproj_ref_frame,
    fun m ρ _ => Cert.Ple.Gen.frame m ρ, fun m ρ _ => Cert.PleIdeal.Gen.frame m ρ, ple_ref_frame,
    fun m ρ _ => Cert.Rms.Gen.frame m ρ, fun m ρ _ => Cert.RmsIdeal.Gen.frame m ρ, rms_ref_frame,
    fun m ρ _ => Cert.RnnIn.Gen.frame m ρ, fun m ρ _ => Cert.RnnInIdeal.Gen.frame m ρ, rnnin_ref_frame,
    fun m ρ _ => Cert.Qk.Gen.frame m ρ, fun m ρ _ => Cert.QkIdeal.Gen.frame m ρ, qk_ref_frame,
    fun m ρ _ => Cert.Val.Gen.frame m ρ, fun m ρ _ => Cert.ValIdeal.Gen.frame m ρ, val_ref_frame,
    fun m ρ _ => Cert.Gates.Gen.frame m ρ, fun m ρ _ => Cert.GatesIdeal.Gen.frame m ρ, gates_ref_frame,
    fun m ρ _ => Cert.Attn.Hand.frame m ρ, fun m ρ _ => Cert.AttnIdeal.Hand.frame m ρ, fun m ρ _ => Cert.AttnIdeal.Hand.frame m ρ,
    fun m ρ _ => attn_ref_run m ρ, fun m ρ _ => attn_ref_run m ρ,
    fun m ρ _ => Cert.Rnn.Gen.frame m ρ,
    trivial, Cert.Hand.ffn_value,
    trivial, Cert.Hand.mix_value,
    trivial, Cert.Hand.oproj_value,
    trivial, Cert.Hand.ple_value,
    trivial, Cert.Hand.rms_value,
    trivial, Cert.Hand.rnnin_value,
    trivial, Cert.Hand.qk_value,
    trivial, Cert.Hand.val_value,
    trivial, Cert.Hand.gates_value,
    attn_preserves, Cert.Hand.attn_value⟩

end Cert.Proof
